-- ==== Defs.lean ====
def Pre_DilKernel4 (m : (ℓ : Loc Cert.DilKernel4.nD Cert.DilKernel4.τ Cert.DilKernel4.sig) → Buf (Elt Bits) ℓ) : Prop :=
  True

def Pre_DilKernel4Ideal (m : (ℓ : Loc Cert.DilKernel4Ideal.nD Cert.DilKernel4Ideal.τ Cert.DilKernel4Ideal.sig) → Buf (Elt Ideal) ℓ) : Prop :=
  True

def Pre_DilKernel4Ideal_finite [hPre_finite : Cert.Pre_finite.Facts] (m : (ℓ : Loc Cert.DilKernel4Ideal.nD Cert.DilKernel4Ideal.τ Cert.DilKernel4Ideal.sig) → Buf (Elt Ideal) ℓ) : Prop :=
  ∀ c : Dev Cert.DilKernel4Ideal.nD,
    (Cert.Pre_finite.fn (F := Ideal) (m ((c.tc : Thread Cert.DilKernel4Ideal.nD Cert.DilKernel4Ideal.τ).loc Cert.DilKernel4Ideal.main_arg0))) = (fun _ => 1#1)

def Pre_DilReference4Ideal (m : (ℓ : Loc Cert.DilReference4Ideal.nD Cert.DilReference4Ideal.τ Cert.DilReference4Ideal.sig) → Buf (Elt Ideal) ℓ) : Prop :=
  True

def Pre_DilReference4Ideal_finite [hPre_finite : Cert.Pre_finite.Facts] (m : (ℓ : Loc Cert.DilReference4Ideal.nD Cert.DilReference4Ideal.τ Cert.DilReference4Ideal.sig) → Buf (Elt Ideal) ℓ) : Prop :=
  ∀ c : Dev Cert.DilReference4Ideal.nD,
    (Cert.Pre_finite.fn (F := Ideal) (m ((c.tc : Thread Cert.DilReference4Ideal.nD Cert.DilReference4Ideal.τ).loc Cert.DilReference4Ideal.main_arg0))) = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_finite_lse [hPre_finite_lse : Cert.Pre_finite_lse.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_finite_lse.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7)) (m ((c.tc : Thread Cert.PostKernelIdeal.nD Cert.PostKernelIdeal.τ).loc Cert.PostKernelIdeal.main_arg8)) (m ((c.tc : Thread Cert.PostKernelIdeal.nD Cert.PostKernelIdeal.τ).loc Cert.PostKernelIdeal.main_arg9)) (m ((c.tc : Thread Cert.PostKernelIdeal.nD Cert.PostKernelIdeal.τ).loc Cert.PostKernelIdeal.main_arg10)) (m ((c.tc : Thread Cert.PostKernelIdeal.nD Cert.PostKernelIdeal.τ).loc Cert.PostKernelIdeal.main_arg11)) (m ((c.tc : Thread Cert.PostKernelIdeal.nD Cert.PostKernelIdeal.τ).loc Cert.PostKernelIdeal.main_arg12)) (m ((c.tc : Thread Cert.PostKernelIdeal.nD Cert.PostKernelIdeal.τ).loc Cert.PostKernelIdeal.main_arg13)) (m ((c.tc : Thread Cert.PostKernelIdeal.nD Cert.PostKernelIdeal.τ).loc Cert.PostKernelIdeal.main_arg14)) (m ((c.tc : Thread Cert.PostKernelIdeal.nD Cert.PostKernelIdeal.τ).loc Cert.PostKernelIdeal.main_arg15)) (m ((c.tc : Thread Cert.PostKernelIdeal.nD Cert.PostKernelIdeal.τ).loc Cert.PostKernelIdeal.main_arg16)) (m ((c.tc : Thread Cert.PostKernelIdeal.nD Cert.PostKernelIdeal.τ).loc Cert.PostKernelIdeal.main_arg17)) (m ((c.tc : Thread Cert.PostKernelIdeal.nD Cert.PostKernelIdeal.τ).loc Cert.PostKernelIdeal.main_arg18)) (m ((c.tc : Thread Cert.PostKernelIdeal.nD Cert.PostKernelIdeal.τ).loc Cert.PostKernelIdeal.main_arg19)) (m ((c.tc : Thread Cert.PostKernelIdeal.nD Cert.PostKernelIdeal.τ).loc Cert.PostKernelIdeal.main_arg20))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_lse [hPre_finite_lse : Cert.Pre_finite_lse.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_lse.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8)) (m ((c.tc : Thread Cert.PostReferenceIdeal.nD Cert.PostReferenceIdeal.τ).loc Cert.PostReferenceIdeal.main_arg9)) (m ((c.tc : Thread Cert.PostReferenceIdeal.nD Cert.PostReferenceIdeal.τ).loc Cert.PostReferenceIdeal.main_arg10)) (m ((c.tc : Thread Cert.PostReferenceIdeal.nD Cert.PostReferenceIdeal.τ).loc Cert.PostReferenceIdeal.main_arg11)) (m ((c.tc : Thread Cert.PostReferenceIdeal.nD Cert.PostReferenceIdeal.τ).loc Cert.PostReferenceIdeal.main_arg12)) (m ((c.tc : Thread Cert.PostReferenceIdeal.nD Cert.PostReferenceIdeal.τ).loc Cert.PostReferenceIdeal.main_arg13)) (m ((c.tc : Thread Cert.PostReferenceIdeal.nD Cert.PostReferenceIdeal.τ).loc Cert.PostReferenceIdeal.main_arg14)) (m ((c.tc : Thread Cert.PostReferenceIdeal.nD Cert.PostReferenceIdeal.τ).loc Cert.PostReferenceIdeal.main_arg15)) (m ((c.tc : Thread Cert.PostReferenceIdeal.nD Cert.PostReferenceIdeal.τ).loc Cert.PostReferenceIdeal.main_arg16)) (m ((c.tc : Thread Cert.PostReferenceIdeal.nD Cert.PostReferenceIdeal.τ).loc Cert.PostReferenceIdeal.main_arg17)) (m ((c.tc : Thread Cert.PostReferenceIdeal.nD Cert.PostReferenceIdeal.τ).loc Cert.PostReferenceIdeal.main_arg18)) (m ((c.tc : Thread Cert.PostReferenceIdeal.nD Cert.PostReferenceIdeal.τ).loc Cert.PostReferenceIdeal.main_arg19)) (m ((c.tc : Thread Cert.PostReferenceIdeal.nD Cert.PostReferenceIdeal.τ).loc Cert.PostReferenceIdeal.main_arg20))) = (fun _ => 1#1)

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_DilKernel1 (m : (ℓ : Loc Cert.DilKernel1.nD Cert.DilKernel1.τ Cert.DilKernel1.sig) → Buf (Elt Bits) ℓ) : Prop :=
  True

def Pre_DilKernel1Ideal (m : (ℓ : Loc Cert.DilKernel1Ideal.nD Cert.DilKernel1Ideal.τ Cert.DilKernel1Ideal.sig) → Buf (Elt Ideal) ℓ) : Prop :=
  True

def Pre_DilKernel1Ideal_finite [hPre_finite : Cert.Pre_finite.Facts] (m : (ℓ : Loc Cert.DilKernel1Ideal.nD Cert.DilKernel1Ideal.τ Cert.DilKernel1Ideal.sig) → Buf (Elt Ideal) ℓ) : Prop :=
  ∀ c : Dev Cert.DilKernel1Ideal.nD,
    (Cert.Pre_finite.fn (F := Ideal) (m ((c.tc : Thread Cert.DilKernel1Ideal.nD Cert.DilKernel1Ideal.τ).loc Cert.DilKernel1Ideal.main_arg0))) = (fun _ => 1#1)

def Pre_DilReference1Ideal (m : (ℓ : Loc Cert.DilReference1Ideal.nD Cert.DilReference1Ideal.τ Cert.DilReference1Ideal.sig) → Buf (Elt Ideal) ℓ) : Prop :=
  True

def Pre_DilReference1Ideal_finite [hPre_finite : Cert.Pre_finite.Facts] (m : (ℓ : Loc Cert.DilReference1Ideal.nD Cert.DilReference1Ideal.τ Cert.DilReference1Ideal.sig) → Buf (Elt Ideal) ℓ) : Prop :=
  ∀ c : Dev Cert.DilReference1Ideal.nD,
    (Cert.Pre_finite.fn (F := Ideal) (m ((c.tc : Thread Cert.DilReference1Ideal.nD Cert.DilReference1Ideal.τ).loc Cert.DilReference1Ideal.main_arg0))) = (fun _ => 1#1)

def Pre_DilKernel16 (m : (ℓ : Loc Cert.DilKernel16.nD Cert.DilKernel16.τ Cert.DilKernel16.sig) → Buf (Elt Bits) ℓ) : Prop :=
  True

def Pre_DilKernel16Ideal (m : (ℓ : Loc Cert.DilKernel16Ideal.nD Cert.DilKernel16Ideal.τ Cert.DilKernel16Ideal.sig) → Buf (Elt Ideal) ℓ) : Prop :=
  True

def Pre_DilKernel16Ideal_finite [hPre_finite : Cert.Pre_finite.Facts] (m : (ℓ : Loc Cert.DilKernel16Ideal.nD Cert.DilKernel16Ideal.τ Cert.DilKernel16Ideal.sig) → Buf (Elt Ideal) ℓ) : Prop :=
  ∀ c : Dev Cert.DilKernel16Ideal.nD,
    (Cert.Pre_finite.fn (F := Ideal) (m ((c.tc : Thread Cert.DilKernel16Ideal.nD Cert.DilKernel16Ideal.τ).loc Cert.DilKernel16Ideal.main_arg0))) = (fun _ => 1#1)

def Pre_DilReference16Ideal (m : (ℓ : Loc Cert.DilReference16Ideal.nD Cert.DilReference16Ideal.τ Cert.DilReference16Ideal.sig) → Buf (Elt Ideal) ℓ) : Prop :=
  True

def Pre_DilReference16Ideal_finite [hPre_finite : Cert.Pre_finite.Facts] (m : (ℓ : Loc Cert.DilReference16Ideal.nD Cert.DilReference16Ideal.τ Cert.DilReference16Ideal.sig) → Buf (Elt Ideal) ℓ) : Prop :=
  ∀ c : Dev Cert.DilReference16Ideal.nD,
    (Cert.Pre_finite.fn (F := Ideal) (m ((c.tc : Thread Cert.DilReference16Ideal.nD Cert.DilReference16Ideal.τ).loc Cert.DilReference16Ideal.main_arg0))) = (fun _ => 1#1)

def Pre_NaKernel (m : (ℓ : Loc Cert.NaKernel.nD Cert.NaKernel.τ Cert.NaKernel.sig) → Buf (Elt Bits) ℓ) : Prop :=
  True

def Pre_NaKernelIdeal (m : (ℓ : Loc Cert.NaKernelIdeal.nD Cert.NaKernelIdeal.τ Cert.NaKernelIdeal.sig) → Buf (Elt Ideal) ℓ) : Prop :=
  True

def Pre_NaKernelIdeal_finite_na [hPre_finite_na : Cert.Pre_finite_na.Facts] (m : (ℓ : Loc Cert.NaKernelIdeal.nD Cert.NaKernelIdeal.τ Cert.NaKernelIdeal.sig) → Buf (Elt Ideal) ℓ) : Prop :=
  ∀ c : Dev Cert.NaKernelIdeal.nD,
    (Cert.Pre_finite_na.fn (F := Ideal) (m ((c.tc : Thread Cert.NaKernelIdeal.nD Cert.NaKernelIdeal.τ).loc Cert.NaKernelIdeal.main_arg0)) (m ((c.tc : Thread Cert.NaKernelIdeal.nD Cert.NaKernelIdeal.τ).loc Cert.NaKernelIdeal.main_arg1))) = (fun _ => 1#1)

def Pre_NaReferenceIdeal (m : (ℓ : Loc Cert.NaReferenceIdeal.nD Cert.NaReferenceIdeal.τ Cert.NaReferenceIdeal.sig) → Buf (Elt Ideal) ℓ) : Prop :=
  True

def Pre_NaReferenceIdeal_finite_na [hPre_finite_na : Cert.Pre_finite_na.Facts] (m : (ℓ : Loc Cert.NaReferenceIdeal.nD Cert.NaReferenceIdeal.τ Cert.NaReferenceIdeal.sig) → Buf (Elt Ideal) ℓ) : Prop :=
  ∀ c : Dev Cert.NaReferenceIdeal.nD,
    (Cert.Pre_finite_na.fn (F := Ideal) (m ((c.tc : Thread Cert.NaReferenceIdeal.nD Cert.NaReferenceIdeal.τ).loc Cert.NaReferenceIdeal.main_arg0)) (m ((c.tc : Thread Cert.NaReferenceIdeal.nD Cert.NaReferenceIdeal.τ).loc Cert.NaReferenceIdeal.main_arg1))) = (fun _ => 1#1)

def quiescent_DilKernel4 [hDilKernel4 : Cert.DilKernel4.Facts] : Prop :=
  ∀ (m : (ℓ : Loc Cert.DilKernel4.nD Cert.DilKernel4.τ Cert.DilKernel4.sig) → Buf (Elt Bits) ℓ) (g : Dev Cert.DilKernel4.nD → PrngReg), Pre_DilKernel4 m →
    θ_run (Cert.DilKernel4.defs (F := Bits)) (onTc (τ := Cert.DilKernel4.τ) (Cert.DilKernel4.main (F := Bits))) ⟨m, fun _ => 0, g⟩ (fun r => (∀ c : Dev Cert.DilKernel4.nD,
      r.2.mem ((c.tc : Thread Cert.DilKernel4.nD Cert.DilKernel4.τ).loc Cert.DilKernel4.main_arg0) = m ((c.tc : Thread Cert.DilKernel4.nD Cert.DilKernel4.τ).loc Cert.DilKernel4.main_arg0))
      ∧ r.2.sem = fun _ => 0)

def quiescent_DilKernel4Ideal [hDilKernel4Ideal : Cert.DilKernel4Ideal.Facts] : Prop :=
  ∀ (m : (ℓ : Loc Cert.DilKernel4Ideal.nD Cert.DilKernel4Ideal.τ Cert.DilKernel4Ideal.sig) → Buf (Elt Ideal) ℓ) (g : Dev Cert.DilKernel4Ideal.nD → PrngReg), Pre_DilKernel4Ideal m →
    θ_run (Cert.DilKernel4Ideal.defs (F := Ideal)) (onTc (τ := Cert.DilKernel4Ideal.τ) (Cert.DilKernel4Ideal.main (F := Ideal))) ⟨m, fun _ => 0, g⟩ (fun r => (∀ c : Dev Cert.DilKernel4Ideal.nD,
      r.2.mem ((c.tc : Thread Cert.DilKernel4Ideal.nD Cert.DilKernel4Ideal.τ).loc Cert.DilKernel4Ideal.main_arg0) = m ((c.tc : Thread Cert.DilKernel4Ideal.nD Cert.DilKernel4Ideal.τ).loc Cert.DilKernel4Ideal.main_arg0))
      ∧ r.2.sem = fun _ => 0)

def quiescent_DilKernel4Ideal_pre_finite [hDilKernel4Ideal : Cert.DilKernel4Ideal.Facts] [hPre_finite : Cert.Pre_finite.Facts] : Prop :=
  ∀ (m : (ℓ : Loc Cert.DilKernel4Ideal.nD Cert.DilKernel4Ideal.τ Cert.DilKernel4Ideal.sig) → Buf (Elt Ideal) ℓ) (g : Dev Cert.DilKernel4Ideal.nD → PrngReg), Pre_DilKernel4Ideal_finite m →
    θ_run (Cert.DilKernel4Ideal.defs (F := Ideal)) (onTc (τ := Cert.DilKernel4Ideal.τ) (Cert.DilKernel4Ideal.main (F := Ideal))) ⟨m, fun _ => 0, g⟩ (fun r => (∀ c : Dev Cert.DilKernel4Ideal.nD,
      r.2.mem ((c.tc : Thread Cert.DilKernel4Ideal.nD Cert.DilKernel4Ideal.τ).loc Cert.DilKernel4Ideal.main_arg0) = m ((c.tc : Thread Cert.DilKernel4Ideal.nD Cert.DilKernel4Ideal.τ).loc Cert.DilKernel4Ideal.main_arg0))
      ∧ r.2.sem = fun _ => 0)

def quiescent_DilReference4Ideal [hDilReference4Ideal : Cert.DilReference4Ideal.Facts] : Prop :=
  ∀ (m : (ℓ : Loc Cert.DilReference4Ideal.nD Cert.DilReference4Ideal.τ Cert.DilReference4Ideal.sig) → Buf (Elt Ideal) ℓ) (g : Dev Cert.DilReference4Ideal.nD → PrngReg), Pre_DilReference4Ideal m →
    θ_run (Cert.DilReference4Ideal.defs (F := Ideal)) (onTc (τ := Cert.DilReference4Ideal.τ) (Cert.DilReference4Ideal.main (F := Ideal))) ⟨m, fun _ => 0, g⟩ (fun r => (∀ c : Dev Cert.DilReference4Ideal.nD,
      r.2.mem ((c.tc : Thread Cert.DilReference4Ideal.nD Cert.DilReference4Ideal.τ).loc Cert.DilReference4Ideal.main_arg0) = m ((c.tc : Thread Cert.DilReference4Ideal.nD Cert.DilReference4Ideal.τ).loc Cert.DilReference4Ideal.main_arg0))
      ∧ r.2.sem = fun _ => 0)

def quiescent_DilReference4Ideal_pre_finite [hDilReference4Ideal : Cert.DilReference4Ideal.Facts] [hPre_finite : Cert.Pre_finite.Facts] : Prop :=
  ∀ (m : (ℓ : Loc Cert.DilReference4Ideal.nD Cert.DilReference4Ideal.τ Cert.DilReference4Ideal.sig) → Buf (Elt Ideal) ℓ) (g : Dev Cert.DilReference4Ideal.nD → PrngReg), Pre_DilReference4Ideal_finite m →
    θ_run (Cert.DilReference4Ideal.defs (F := Ideal)) (onTc (τ := Cert.DilReference4Ideal.τ) (Cert.DilReference4Ideal.main (F := Ideal))) ⟨m, fun _ => 0, g⟩ (fun r => (∀ c : Dev Cert.DilReference4Ideal.nD,
      r.2.mem ((c.tc : Thread Cert.DilReference4Ideal.nD Cert.DilReference4Ideal.τ).loc Cert.DilReference4Ideal.main_arg0) = m ((c.tc : Thread Cert.DilReference4Ideal.nD Cert.DilReference4Ideal.τ).loc Cert.DilReference4Ideal.main_arg0))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8)
      ∧ r.2.mem ((c.tc : Thread Cert.PostKernel.nD Cert.PostKernel.τ).loc Cert.PostKernel.main_arg9) = m ((c.tc : Thread Cert.PostKernel.nD Cert.PostKernel.τ).loc Cert.PostKernel.main_arg9)
      ∧ r.2.mem ((c.tc : Thread Cert.PostKernel.nD Cert.PostKernel.τ).loc Cert.PostKernel.main_arg10) = m ((c.tc : Thread Cert.PostKernel.nD Cert.PostKernel.τ).loc Cert.PostKernel.main_arg10)
      ∧ r.2.mem ((c.tc : Thread Cert.PostKernel.nD Cert.PostKernel.τ).loc Cert.PostKernel.main_arg11) = m ((c.tc : Thread Cert.PostKernel.nD Cert.PostKernel.τ).loc Cert.PostKernel.main_arg11)
      ∧ r.2.mem ((c.tc : Thread Cert.PostKernel.nD Cert.PostKernel.τ).loc Cert.PostKernel.main_arg12) = m ((c.tc : Thread Cert.PostKernel.nD Cert.PostKernel.τ).loc Cert.PostKernel.main_arg12)
      ∧ r.2.mem ((c.tc : Thread Cert.PostKernel.nD Cert.PostKernel.τ).loc Cert.PostKernel.main_arg13) = m ((c.tc : Thread Cert.PostKernel.nD Cert.PostKernel.τ).loc Cert.PostKernel.main_arg13)
      ∧ r.2.mem ((c.tc : Thread Cert.PostKernel.nD Cert.PostKernel.τ).loc Cert.PostKernel.main_arg14) = m ((c.tc : Thread Cert.PostKernel.nD Cert.PostKernel.τ).loc Cert.PostKernel.main_arg14)
      ∧ r.2.mem ((c.tc : Thread Cert.PostKernel.nD Cert.PostKernel.τ).loc Cert.PostKernel.main_arg15) = m ((c.tc : Thread Cert.PostKernel.nD Cert.PostKernel.τ).loc Cert.PostKernel.main_arg15)
      ∧ r.2.mem ((c.tc : Thread Cert.PostKernel.nD Cert.PostKernel.τ).loc Cert.PostKernel.main_arg16) = m ((c.tc : Thread Cert.PostKernel.nD Cert.PostKernel.τ).loc Cert.PostKernel.main_arg16)
      ∧ r.2.mem ((c.tc : Thread Cert.PostKernel.nD Cert.PostKernel.τ).loc Cert.PostKernel.main_arg17) = m ((c.tc : Thread Cert.PostKernel.nD Cert.PostKernel.τ).loc Cert.PostKernel.main_arg17)
      ∧ r.2.mem ((c.tc : Thread Cert.PostKernel.nD Cert.PostKernel.τ).loc Cert.PostKernel.main_arg18) = m ((c.tc : Thread Cert.PostKernel.nD Cert.PostKernel.τ).loc Cert.PostKernel.main_arg18)
      ∧ r.2.mem ((c.tc : Thread Cert.PostKernel.nD Cert.PostKernel.τ).loc Cert.PostKernel.main_arg19) = m ((c.tc : Thread Cert.PostKernel.nD Cert.PostKernel.τ).loc Cert.PostKernel.main_arg19)
      ∧ r.2.mem ((c.tc : Thread Cert.PostKernel.nD Cert.PostKernel.τ).loc Cert.PostKernel.main_arg20) = m ((c.tc : Thread Cert.PostKernel.nD Cert.PostKernel.τ).loc Cert.PostKernel.main_arg20))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
      ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9)
      ∧ r.2.mem ((c.tc : Thread Cert.PostKernelIdeal.nD Cert.PostKernelIdeal.τ).loc Cert.PostKernelIdeal.main_arg10) = m ((c.tc : Thread Cert.PostKernelIdeal.nD Cert.PostKernelIdeal.τ).loc Cert.PostKernelIdeal.main_arg10)
      ∧ r.2.mem ((c.tc : Thread Cert.PostKernelIdeal.nD Cert.PostKernelIdeal.τ).loc Cert.PostKernelIdeal.main_arg11) = m ((c.tc : Thread Cert.PostKernelIdeal.nD Cert.PostKernelIdeal.τ).loc Cert.PostKernelIdeal.main_arg11)
      ∧ r.2.mem ((c.tc : Thread Cert.PostKernelIdeal.nD Cert.PostKernelIdeal.τ).loc Cert.PostKernelIdeal.main_arg12) = m ((c.tc : Thread Cert.PostKernelIdeal.nD Cert.PostKernelIdeal.τ).loc Cert.PostKernelIdeal.main_arg12)
      ∧ r.2.mem ((c.tc : Thread Cert.PostKernelIdeal.nD Cert.PostKernelIdeal.τ).loc Cert.PostKernelIdeal.main_arg13) = m ((c.tc : Thread Cert.PostKernelIdeal.nD Cert.PostKernelIdeal.τ).loc Cert.PostKernelIdeal.main_arg13)
      ∧ r.2.mem ((c.tc : Thread Cert.PostKernelIdeal.nD Cert.PostKernelIdeal.τ).loc Cert.PostKernelIdeal.main_arg14) = m ((c.tc : Thread Cert.PostKernelIdeal.nD Cert.PostKernelIdeal.τ).loc Cert.PostKernelIdeal.main_arg14)
      ∧ r.2.mem ((c.tc : Thread Cert.PostKernelIdeal.nD Cert.PostKernelIdeal.τ).loc Cert.PostKernelIdeal.main_arg15) = m ((c.tc : Thread Cert.PostKernelIdeal.nD Cert.PostKernelIdeal.τ).loc Cert.PostKernelIdeal.main_arg15)
      ∧ r.2.mem ((c.tc : Thread Cert.PostKernelIdeal.nD Cert.PostKernelIdeal.τ).loc Cert.PostKernelIdeal.main_arg16) = m ((c.tc : Thread Cert.PostKernelIdeal.nD Cert.PostKernelIdeal.τ).loc Cert.PostKernelIdeal.main_arg16)
      ∧ r.2.mem ((c.tc : Thread Cert.PostKernelIdeal.nD Cert.PostKernelIdeal.τ).loc Cert.PostKernelIdeal.main_arg17) = m ((c.tc : Thread Cert.PostKernelIdeal.nD Cert.PostKernelIdeal.τ).loc Cert.PostKernelIdeal.main_arg17)
      ∧ r.2.mem ((c.tc : Thread Cert.PostKernelIdeal.nD Cert.PostKernelIdeal.τ).loc Cert.PostKernelIdeal.main_arg18) = m ((c.tc : Thread Cert.PostKernelIdeal.nD Cert.PostKernelIdeal.τ).loc Cert.PostKernelIdeal.main_arg18)
      ∧ r.2.mem ((c.tc : Thread Cert.PostKernelIdeal.nD Cert.PostKernelIdeal.τ).loc Cert.PostKernelIdeal.main_arg19) = m ((c.tc : Thread Cert.PostKernelIdeal.nD Cert.PostKernelIdeal.τ).loc Cert.PostKernelIdeal.main_arg19)
      ∧ r.2.mem ((c.tc : Thread Cert.PostKernelIdeal.nD Cert.PostKernelIdeal.τ).loc Cert.PostKernelIdeal.main_arg20) = m ((c.tc : Thread Cert.PostKernelIdeal.nD Cert.PostKernelIdeal.τ).loc Cert.PostKernelIdeal.main_arg20))
      ∧ r.2.sem = fun _ => 0)

def quiescent_PostKernelIdeal_pre_finite_lse [hPostKernelIdeal : Cert.PostKernelIdeal.Facts] [hPre_finite_lse : Cert.Pre_finite_lse.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_finite_lse m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
      ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9)
      ∧ r.2.mem ((c.tc : Thread Cert.PostKernelIdeal.nD Cert.PostKernelIdeal.τ).loc Cert.PostKernelIdeal.main_arg10) = m ((c.tc : Thread Cert.PostKernelIdeal.nD Cert.PostKernelIdeal.τ).loc Cert.PostKernelIdeal.main_arg10)
      ∧ r.2.mem ((c.tc : Thread Cert.PostKernelIdeal.nD Cert.PostKernelIdeal.τ).loc Cert.PostKernelIdeal.main_arg11) = m ((c.tc : Thread Cert.PostKernelIdeal.nD Cert.PostKernelIdeal.τ).loc Cert.PostKernelIdeal.main_arg11)
      ∧ r.2.mem ((c.tc : Thread Cert.PostKernelIdeal.nD Cert.PostKernelIdeal.τ).loc Cert.PostKernelIdeal.main_arg12) = m ((c.tc : Thread Cert.PostKernelIdeal.nD Cert.PostKernelIdeal.τ).loc Cert.PostKernelIdeal.main_arg12)
      ∧ r.2.mem ((c.tc : Thread Cert.PostKernelIdeal.nD Cert.PostKernelIdeal.τ).loc Cert.PostKernelIdeal.main_arg13) = m ((c.tc : Thread Cert.PostKernelIdeal.nD Cert.PostKernelIdeal.τ).loc Cert.PostKernelIdeal.main_arg13)
      ∧ r.2.mem ((c.tc : Thread Cert.PostKernelIdeal.nD Cert.PostKernelIdeal.τ).loc Cert.PostKernelIdeal.main_arg14) = m ((c.tc : Thread Cert.PostKernelIdeal.nD Cert.PostKernelIdeal.τ).loc Cert.PostKernelIdeal.main_arg14)
      ∧ r.2.mem ((c.tc : Thread Cert.PostKernelIdeal.nD Cert.PostKernelIdeal.τ).loc Cert.PostKernelIdeal.main_arg15) = m ((c.tc : Thread Cert.PostKernelIdeal.nD Cert.PostKernelIdeal.τ).loc Cert.PostKernelIdeal.main_arg15)
      ∧ r.2.mem ((c.tc : Thread Cert.PostKernelIdeal.nD Cert.PostKernelIdeal.τ).loc Cert.PostKernelIdeal.main_arg16) = m ((c.tc : Thread Cert.PostKernelIdeal.nD Cert.PostKernelIdeal.τ).loc Cert.PostKernelIdeal.main_arg16)
      ∧ r.2.mem ((c.tc : Thread Cert.PostKernelIdeal.nD Cert.PostKernelIdeal.τ).loc Cert.PostKernelIdeal.main_arg17) = m ((c.tc : Thread Cert.PostKernelIdeal.nD Cert.PostKernelIdeal.τ).loc Cert.PostKernelIdeal.main_arg17)
      ∧ r.2.mem ((c.tc : Thread Cert.PostKernelIdeal.nD Cert.PostKernelIdeal.τ).loc Cert.PostKernelIdeal.main_arg18) = m ((c.tc : Thread Cert.PostKernelIdeal.nD Cert.PostKernelIdeal.τ).loc Cert.PostKernelIdeal.main_arg18)
      ∧ r.2.mem ((c.tc : Thread Cert.PostKernelIdeal.nD Cert.PostKernelIdeal.τ).loc Cert.PostKernelIdeal.main_arg19) = m ((c.tc : Thread Cert.PostKernelIdeal.nD Cert.PostKernelIdeal.τ).loc Cert.PostKernelIdeal.main_arg19)
      ∧ r.2.mem ((c.tc : Thread Cert.PostKernelIdeal.nD Cert.PostKernelIdeal.τ).loc Cert.PostKernelIdeal.main_arg20) = m ((c.tc : Thread Cert.PostKernelIdeal.nD Cert.PostKernelIdeal.τ).loc Cert.PostKernelIdeal.main_arg20))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14)
      ∧ r.2.mem ((c.tc : Thread Cert.PostReferenceIdeal.nD Cert.PostReferenceIdeal.τ).loc Cert.PostReferenceIdeal.main_arg15) = m ((c.tc : Thread Cert.PostReferenceIdeal.nD Cert.PostReferenceIdeal.τ).loc Cert.PostReferenceIdeal.main_arg15)
      ∧ r.2.mem ((c.tc : Thread Cert.PostReferenceIdeal.nD Cert.PostReferenceIdeal.τ).loc Cert.PostReferenceIdeal.main_arg16) = m ((c.tc : Thread Cert.PostReferenceIdeal.nD Cert.PostReferenceIdeal.τ).loc Cert.PostReferenceIdeal.main_arg16)
      ∧ r.2.mem ((c.tc : Thread Cert.PostReferenceIdeal.nD Cert.PostReferenceIdeal.τ).loc Cert.PostReferenceIdeal.main_arg17) = m ((c.tc : Thread Cert.PostReferenceIdeal.nD Cert.PostReferenceIdeal.τ).loc Cert.PostReferenceIdeal.main_arg17)
      ∧ r.2.mem ((c.tc : Thread Cert.PostReferenceIdeal.nD Cert.PostReferenceIdeal.τ).loc Cert.PostReferenceIdeal.main_arg18) = m ((c.tc : Thread Cert.PostReferenceIdeal.nD Cert.PostReferenceIdeal.τ).loc Cert.PostReferenceIdeal.main_arg18)
      ∧ r.2.mem ((c.tc : Thread Cert.PostReferenceIdeal.nD Cert.PostReferenceIdeal.τ).loc Cert.PostReferenceIdeal.main_arg19) = m ((c.tc : Thread Cert.PostReferenceIdeal.nD Cert.PostReferenceIdeal.τ).loc Cert.PostReferenceIdeal.main_arg19)
      ∧ r.2.mem ((c.tc : Thread Cert.PostReferenceIdeal.nD Cert.PostReferenceIdeal.τ).loc Cert.PostReferenceIdeal.main_arg20) = m ((c.tc : Thread Cert.PostReferenceIdeal.nD Cert.PostReferenceIdeal.τ).loc Cert.PostReferenceIdeal.main_arg20))
      ∧ r.2.sem = fun _ => 0)

def quiescent_PostReferenceIdeal_pre_finite_lse [hPostReferenceIdeal : Cert.PostReferenceIdeal.Facts] [hPre_finite_lse : Cert.Pre_finite_lse.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_lse m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11)
      ∧ r.2.mem ((c.tc : Thread Cert.PostReferenceIdeal.nD Cert.PostReferenceIdeal.τ).loc Cert.PostReferenceIdeal.main_arg12) = m ((c.tc : Thread Cert.PostReferenceIdeal.nD Cert.PostReferenceIdeal.τ).loc Cert.PostReferenceIdeal.main_arg12)
      ∧ r.2.mem ((c.tc : Thread Cert.PostReferenceIdeal.nD Cert.PostReferenceIdeal.τ).loc Cert.PostReferenceIdeal.main_arg13) = m ((c.tc : Thread Cert.PostReferenceIdeal.nD Cert.PostReferenceIdeal.τ).loc Cert.PostReferenceIdeal.main_arg13)
      ∧ r.2.mem ((c.tc : Thread Cert.PostReferenceIdeal.nD Cert.PostReferenceIdeal.τ).loc Cert.PostReferenceIdeal.main_arg14) = m ((c.tc : Thread Cert.PostReferenceIdeal.nD Cert.PostReferenceIdeal.τ).loc Cert.PostReferenceIdeal.main_arg14)
      ∧ r.2.mem ((c.tc : Thread Cert.PostReferenceIdeal.nD Cert.PostReferenceIdeal.τ).loc Cert.PostReferenceIdeal.main_arg15) = m ((c.tc : Thread Cert.PostReferenceIdeal.nD Cert.PostReferenceIdeal.τ).loc Cert.PostReferenceIdeal.main_arg15)
      ∧ r.2.mem ((c.tc : Thread Cert.PostReferenceIdeal.nD Cert.PostReferenceIdeal.τ).loc Cert.PostReferenceIdeal.main_arg16) = m ((c.tc : Thread Cert.PostReferenceIdeal.nD Cert.PostReferenceIdeal.τ).loc Cert.PostReferenceIdeal.main_arg16)
      ∧ r.2.mem ((c.tc : Thread Cert.PostReferenceIdeal.nD Cert.PostReferenceIdeal.τ).loc Cert.PostReferenceIdeal.main_arg17) = m ((c.tc : Thread Cert.PostReferenceIdeal.nD Cert.PostReferenceIdeal.τ).loc Cert.PostReferenceIdeal.main_arg17)
      ∧ r.2.mem ((c.tc : Thread Cert.PostReferenceIdeal.nD Cert.PostReferenceIdeal.τ).loc Cert.PostReferenceIdeal.main_arg18) = m ((c.tc : Thread Cert.PostReferenceIdeal.nD Cert.PostReferenceIdeal.τ).loc Cert.PostReferenceIdeal.main_arg18)
      ∧ r.2.mem ((c.tc : Thread Cert.PostReferenceIdeal.nD Cert.PostReferenceIdeal.τ).loc Cert.PostReferenceIdeal.main_arg19) = m ((c.tc : Thread Cert.PostReferenceIdeal.nD Cert.PostReferenceIdeal.τ).loc Cert.PostReferenceIdeal.main_arg19)
      ∧ r.2.mem ((c.tc : Thread Cert.PostReferenceIdeal.nD Cert.PostReferenceIdeal.τ).loc Cert.PostReferenceIdeal.main_arg20) = m ((c.tc : Thread Cert.PostReferenceIdeal.nD Cert.PostReferenceIdeal.τ).loc Cert.PostReferenceIdeal.main_arg20))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2)
      ∧ r.2.mem ((c.tc : Thread Cert.QkvKernel.nD Cert.QkvKernel.τ).loc Cert.QkvKernel.main_arg3) = m ((c.tc : Thread Cert.QkvKernel.nD Cert.QkvKernel.τ).loc Cert.QkvKernel.main_arg3)
      ∧ r.2.mem ((c.tc : Thread Cert.QkvKernel.nD Cert.QkvKernel.τ).loc Cert.QkvKernel.main_arg4) = m ((c.tc : Thread Cert.QkvKernel.nD Cert.QkvKernel.τ).loc Cert.QkvKernel.main_arg4))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
      ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
      ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_DilKernel1 [hDilKernel1 : Cert.DilKernel1.Facts] : Prop :=
  ∀ (m : (ℓ : Loc Cert.DilKernel1.nD Cert.DilKernel1.τ Cert.DilKernel1.sig) → Buf (Elt Bits) ℓ) (g : Dev Cert.DilKernel1.nD → PrngReg), Pre_DilKernel1 m →
    θ_run (Cert.DilKernel1.defs (F := Bits)) (onTc (τ := Cert.DilKernel1.τ) (Cert.DilKernel1.main (F := Bits))) ⟨m, fun _ => 0, g⟩ (fun r => (∀ c : Dev Cert.DilKernel1.nD,
      r.2.mem ((c.tc : Thread Cert.DilKernel1.nD Cert.DilKernel1.τ).loc Cert.DilKernel1.main_arg0) = m ((c.tc : Thread Cert.DilKernel1.nD Cert.DilKernel1.τ).loc Cert.DilKernel1.main_arg0))
      ∧ r.2.sem = fun _ => 0)

def quiescent_DilKernel1Ideal [hDilKernel1Ideal : Cert.DilKernel1Ideal.Facts] : Prop :=
  ∀ (m : (ℓ : Loc Cert.DilKernel1Ideal.nD Cert.DilKernel1Ideal.τ Cert.DilKernel1Ideal.sig) → Buf (Elt Ideal) ℓ) (g : Dev Cert.DilKernel1Ideal.nD → PrngReg), Pre_DilKernel1Ideal m →
    θ_run (Cert.DilKernel1Ideal.defs (F := Ideal)) (onTc (τ := Cert.DilKernel1Ideal.τ) (Cert.DilKernel1Ideal.main (F := Ideal))) ⟨m, fun _ => 0, g⟩ (fun r => (∀ c : Dev Cert.DilKernel1Ideal.nD,
      r.2.mem ((c.tc : Thread Cert.DilKernel1Ideal.nD Cert.DilKernel1Ideal.τ).loc Cert.DilKernel1Ideal.main_arg0) = m ((c.tc : Thread Cert.DilKernel1Ideal.nD Cert.DilKernel1Ideal.τ).loc Cert.DilKernel1Ideal.main_arg0))
      ∧ r.2.sem = fun _ => 0)

def quiescent_DilKernel1Ideal_pre_finite [hDilKernel1Ideal : Cert.DilKernel1Ideal.Facts] [hPre_finite : Cert.Pre_finite.Facts] : Prop :=
  ∀ (m : (ℓ : Loc Cert.DilKernel1Ideal.nD Cert.DilKernel1Ideal.τ Cert.DilKernel1Ideal.sig) → Buf (Elt Ideal) ℓ) (g : Dev Cert.DilKernel1Ideal.nD → PrngReg), Pre_DilKernel1Ideal_finite m →
    θ_run (Cert.DilKernel1Ideal.defs (F := Ideal)) (onTc (τ := Cert.DilKernel1Ideal.τ) (Cert.DilKernel1Ideal.main (F := Ideal))) ⟨m, fun _ => 0, g⟩ (fun r => (∀ c : Dev Cert.DilKernel1Ideal.nD,
      r.2.mem ((c.tc : Thread Cert.DilKernel1Ideal.nD Cert.DilKernel1Ideal.τ).loc Cert.DilKernel1Ideal.main_arg0) = m ((c.tc : Thread Cert.DilKernel1Ideal.nD Cert.DilKernel1Ideal.τ).loc Cert.DilKernel1Ideal.main_arg0))
      ∧ r.2.sem = fun _ => 0)

def quiescent_DilReference1Ideal [hDilReference1Ideal : Cert.DilReference1Ideal.Facts] : Prop :=
  ∀ (m : (ℓ : Loc Cert.DilReference1Ideal.nD Cert.DilReference1Ideal.τ Cert.DilReference1Ideal.sig) → Buf (Elt Ideal) ℓ) (g : Dev Cert.DilReference1Ideal.nD → PrngReg), Pre_DilReference1Ideal m →
    θ_run (Cert.DilReference1Ideal.defs (F := Ideal)) (onTc (τ := Cert.DilReference1Ideal.τ) (Cert.DilReference1Ideal.main (F := Ideal))) ⟨m, fun _ => 0, g⟩ (fun r => (∀ c : Dev Cert.DilReference1Ideal.nD,
      r.2.mem ((c.tc : Thread Cert.DilReference1Ideal.nD Cert.DilReference1Ideal.τ).loc Cert.DilReference1Ideal.main_arg0) = m ((c.tc : Thread Cert.DilReference1Ideal.nD Cert.DilReference1Ideal.τ).loc Cert.DilReference1Ideal.main_arg0))
      ∧ r.2.sem = fun _ => 0)

def quiescent_DilReference1Ideal_pre_finite [hDilReference1Ideal : Cert.DilReference1Ideal.Facts] [hPre_finite : Cert.Pre_finite.Facts] : Prop :=
  ∀ (m : (ℓ : Loc Cert.DilReference1Ideal.nD Cert.DilReference1Ideal.τ Cert.DilReference1Ideal.sig) → Buf (Elt Ideal) ℓ) (g : Dev Cert.DilReference1Ideal.nD → PrngReg), Pre_DilReference1Ideal_finite m →
    θ_run (Cert.DilReference1Ideal.defs (F := Ideal)) (onTc (τ := Cert.DilReference1Ideal.τ) (Cert.DilReference1Ideal.main (F := Ideal))) ⟨m, fun _ => 0, g⟩ (fun r => (∀ c : Dev Cert.DilReference1Ideal.nD,
      r.2.mem ((c.tc : Thread Cert.DilReference1Ideal.nD Cert.DilReference1Ideal.τ).loc Cert.DilReference1Ideal.main_arg0) = m ((c.tc : Thread Cert.DilReference1Ideal.nD Cert.DilReference1Ideal.τ).loc Cert.DilReference1Ideal.main_arg0))
      ∧ r.2.sem = fun _ => 0)

def quiescent_DilKernel16 [hDilKernel16 : Cert.DilKernel16.Facts] : Prop :=
  ∀ (m : (ℓ : Loc Cert.DilKernel16.nD Cert.DilKernel16.τ Cert.DilKernel16.sig) → Buf (Elt Bits) ℓ) (g : Dev Cert.DilKernel16.nD → PrngReg), Pre_DilKernel16 m →
    θ_run (Cert.DilKernel16.defs (F := Bits)) (onTc (τ := Cert.DilKernel16.τ) (Cert.DilKernel16.main (F := Bits))) ⟨m, fun _ => 0, g⟩ (fun r => (∀ c : Dev Cert.DilKernel16.nD,
      r.2.mem ((c.tc : Thread Cert.DilKernel16.nD Cert.DilKernel16.τ).loc Cert.DilKernel16.main_arg0) = m ((c.tc : Thread Cert.DilKernel16.nD Cert.DilKernel16.τ).loc Cert.DilKernel16.main_arg0))
      ∧ r.2.sem = fun _ => 0)

def quiescent_DilKernel16Ideal [hDilKernel16Ideal : Cert.DilKernel16Ideal.Facts] : Prop :=
  ∀ (m : (ℓ : Loc Cert.DilKernel16Ideal.nD Cert.DilKernel16Ideal.τ Cert.DilKernel16Ideal.sig) → Buf (Elt Ideal) ℓ) (g : Dev Cert.DilKernel16Ideal.nD → PrngReg), Pre_DilKernel16Ideal m →
    θ_run (Cert.DilKernel16Ideal.defs (F := Ideal)) (onTc (τ := Cert.DilKernel16Ideal.τ) (Cert.DilKernel16Ideal.main (F := Ideal))) ⟨m, fun _ => 0, g⟩ (fun r => (∀ c : Dev Cert.DilKernel16Ideal.nD,
      r.2.mem ((c.tc : Thread Cert.DilKernel16Ideal.nD Cert.DilKernel16Ideal.τ).loc Cert.DilKernel16Ideal.main_arg0) = m ((c.tc : Thread Cert.DilKernel16Ideal.nD Cert.DilKernel16Ideal.τ).loc Cert.DilKernel16Ideal.main_arg0))
      ∧ r.2.sem = fun _ => 0)

def quiescent_DilKernel16Ideal_pre_finite [hDilKernel16Ideal : Cert.DilKernel16Ideal.Facts] [hPre_finite : Cert.Pre_finite.Facts] : Prop :=
  ∀ (m : (ℓ : Loc Cert.DilKernel16Ideal.nD Cert.DilKernel16Ideal.τ Cert.DilKernel16Ideal.sig) → Buf (Elt Ideal) ℓ) (g : Dev Cert.DilKernel16Ideal.nD → PrngReg), Pre_DilKernel16Ideal_finite m →
    θ_run (Cert.DilKernel16Ideal.defs (F := Ideal)) (onTc (τ := Cert.DilKernel16Ideal.τ) (Cert.DilKernel16Ideal.main (F := Ideal))) ⟨m, fun _ => 0, g⟩ (fun r => (∀ c : Dev Cert.DilKernel16Ideal.nD,
      r.2.mem ((c.tc : Thread Cert.DilKernel16Ideal.nD Cert.DilKernel16Ideal.τ).loc Cert.DilKernel16Ideal.main_arg0) = m ((c.tc : Thread Cert.DilKernel16Ideal.nD Cert.DilKernel16Ideal.τ).loc Cert.DilKernel16Ideal.main_arg0))
      ∧ r.2.sem = fun _ => 0)

def quiescent_DilReference16Ideal [hDilReference16Ideal : Cert.DilReference16Ideal.Facts] : Prop :=
  ∀ (m : (ℓ : Loc Cert.DilReference16Ideal.nD Cert.DilReference16Ideal.τ Cert.DilReference16Ideal.sig) → Buf (Elt Ideal) ℓ) (g : Dev Cert.DilReference16Ideal.nD → PrngReg), Pre_DilReference16Ideal m →
    θ_run (Cert.DilReference16Ideal.defs (F := Ideal)) (onTc (τ := Cert.DilReference16Ideal.τ) (Cert.DilReference16Ideal.main (F := Ideal))) ⟨m, fun _ => 0, g⟩ (fun r => (∀ c : Dev Cert.DilReference16Ideal.nD,
      r.2.mem ((c.tc : Thread Cert.DilReference16Ideal.nD Cert.DilReference16Ideal.τ).loc Cert.DilReference16Ideal.main_arg0) = m ((c.tc : Thread Cert.DilReference16Ideal.nD Cert.DilReference16Ideal.τ).loc Cert.DilReference16Ideal.main_arg0))
      ∧ r.2.sem = fun _ => 0)

def quiescent_DilReference16Ideal_pre_finite [hDilReference16Ideal : Cert.DilReference16Ideal.Facts] [hPre_finite : Cert.Pre_finite.Facts] : Prop :=
  ∀ (m : (ℓ : Loc Cert.DilReference16Ideal.nD Cert.DilReference16Ideal.τ Cert.DilReference16Ideal.sig) → Buf (Elt Ideal) ℓ) (g : Dev Cert.DilReference16Ideal.nD → PrngReg), Pre_DilReference16Ideal_finite m →
    θ_run (Cert.DilReference16Ideal.defs (F := Ideal)) (onTc (τ := Cert.DilReference16Ideal.τ) (Cert.DilReference16Ideal.main (F := Ideal))) ⟨m, fun _ => 0, g⟩ (fun r => (∀ c : Dev Cert.DilReference16Ideal.nD,
      r.2.mem ((c.tc : Thread Cert.DilReference16Ideal.nD Cert.DilReference16Ideal.τ).loc Cert.DilReference16Ideal.main_arg0) = m ((c.tc : Thread Cert.DilReference16Ideal.nD Cert.DilReference16Ideal.τ).loc Cert.DilReference16Ideal.main_arg0))
      ∧ r.2.sem = fun _ => 0)

def quiescent_NaKernel [hNaKernel : Cert.NaKernel.Facts] : Prop :=
  ∀ (m : (ℓ : Loc Cert.NaKernel.nD Cert.NaKernel.τ Cert.NaKernel.sig) → Buf (Elt Bits) ℓ) (g : Dev Cert.NaKernel.nD → PrngReg), Pre_NaKernel m →
    θ_run (Cert.NaKernel.defs (F := Bits)) (onTc (τ := Cert.NaKernel.τ) (Cert.NaKernel.main (F := Bits))) ⟨m, fun _ => 0, g⟩ (fun r => (∀ c : Dev Cert.NaKernel.nD,
      r.2.mem ((c.tc : Thread Cert.NaKernel.nD Cert.NaKernel.τ).loc Cert.NaKernel.main_arg0) = m ((c.tc : Thread Cert.NaKernel.nD Cert.NaKernel.τ).loc Cert.NaKernel.main_arg0)
      ∧ r.2.mem ((c.tc : Thread Cert.NaKernel.nD Cert.NaKernel.τ).loc Cert.NaKernel.main_arg1) = m ((c.tc : Thread Cert.NaKernel.nD Cert.NaKernel.τ).loc Cert.NaKernel.main_arg1))
      ∧ r.2.sem = fun _ => 0)

def quiescent_NaKernelIdeal [hNaKernelIdeal : Cert.NaKernelIdeal.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1))
      ∧ r.2.sem = fun _ => 0)

def quiescent_NaKernelIdeal_pre_finite_na [hNaKernelIdeal : Cert.NaKernelIdeal.Facts] [hPre_finite_na : Cert.Pre_finite_na.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal_finite_na m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1))
      ∧ r.2.sem = fun _ => 0)

def quiescent_NaReferenceIdeal [hNaReferenceIdeal : Cert.NaReferenceIdeal.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1))
      ∧ r.2.sem = fun _ => 0)

def quiescent_NaReferenceIdeal_pre_finite_na [hNaReferenceIdeal : Cert.NaReferenceIdeal.Facts] [hPre_finite_na : Cert.Pre_finite_na.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal_finite_na m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1))
      ∧ r.2.sem = fun _ => 0)

def preserves_DilKernel4_DilKernel4Ideal : Prop :=
  True

def algebraic_DilKernel4Ideal_DilReference4Ideal_pre_finite [hDilKernel4Ideal : Cert.DilKernel4Ideal.Facts] [hDilReference4Ideal : Cert.DilReference4Ideal.Facts] [hPre_finite : Cert.Pre_finite.Facts] : Prop :=
  ∀ (m : (ℓ : Loc Cert.DilKernel4Ideal.nD Cert.DilKernel4Ideal.τ Cert.DilKernel4Ideal.sig) → Buf (Elt Ideal) ℓ) (g : Dev Cert.DilKernel4Ideal.nD → PrngReg)
    (m' : (ℓ : Loc Cert.DilReference4Ideal.nD Cert.DilReference4Ideal.τ Cert.DilReference4Ideal.sig) → Buf (Elt Ideal) ℓ) (g' : Dev Cert.DilReference4Ideal.nD → PrngReg), Pre_DilKernel4Ideal_finite m →
    (∀ c : Dev Cert.DilKernel4Ideal.nD,
      m' ((c.tc : Thread Cert.DilReference4Ideal.nD Cert.DilReference4Ideal.τ).loc Cert.DilReference4Ideal.main_arg0) = m ((c.tc : Thread Cert.DilKernel4Ideal.nD Cert.DilKernel4Ideal.τ).loc Cert.DilKernel4Ideal.main_arg0)) →
    ∃ (v0 : (c : Dev Cert.DilKernel4Ideal.nD) → Buf (Elt Ideal) ((c.tc : Thread Cert.DilKernel4Ideal.nD Cert.DilKernel4Ideal.τ).loc Cert.DilKernel4Ideal.main_v36_0)) (v1 : (c : Dev Cert.DilKernel4Ideal.nD) → Buf (Elt Ideal) ((c.tc : Thread Cert.DilKernel4Ideal.nD Cert.DilKernel4Ideal.τ).loc Cert.DilKernel4Ideal.main_v36_1)),
      θ_run (Cert.DilKernel4Ideal.defs (F := Ideal)) (onTc (τ := Cert.DilKernel4Ideal.τ) (Cert.DilKernel4Ideal.main (F := Ideal))) ⟨m, fun _ => 0, g⟩ (fun r => ∀ c : Dev Cert.DilKernel4Ideal.nD,
          r.2.mem ((c.tc : Thread Cert.DilKernel4Ideal.nD Cert.DilKernel4Ideal.τ).loc Cert.DilKernel4Ideal.main_v36_0) = v0 c
          ∧ r.2.mem ((c.tc : Thread Cert.DilKernel4Ideal.nD Cert.DilKernel4Ideal.τ).loc Cert.DilKernel4Ideal.main_v36_1) = v1 c
          ∧ r.2.mem ((c.tc : Thread Cert.DilKernel4Ideal.nD Cert.DilKernel4Ideal.τ).loc Cert.DilKernel4Ideal.main_arg0) = m ((c.tc : Thread Cert.DilKernel4Ideal.nD Cert.DilKernel4Ideal.τ).loc Cert.DilKernel4Ideal.main_arg0))
      ∧ θ_run (Cert.DilReference4Ideal.defs (F := Ideal)) (onTc (τ := Cert.DilReference4Ideal.τ) (Cert.DilReference4Ideal.main (F := Ideal))) ⟨m', fun _ => 0, g'⟩ (fun r => ∀ c : Dev Cert.DilReference4Ideal.nD,
          r.2.mem ((c.tc : Thread Cert.DilReference4Ideal.nD Cert.DilReference4Ideal.τ).loc Cert.DilReference4Ideal.main_v32) = v0 c
          ∧ r.2.mem ((c.tc : Thread Cert.DilReference4Ideal.nD Cert.DilReference4Ideal.τ).loc Cert.DilReference4Ideal.main_v36) = v1 c
          ∧ r.2.mem ((c.tc : Thread Cert.DilReference4Ideal.nD Cert.DilReference4Ideal.τ).loc Cert.DilReference4Ideal.main_arg0) = m' ((c.tc : Thread Cert.DilReference4Ideal.nD Cert.DilReference4Ideal.τ).loc Cert.DilReference4Ideal.main_arg0))

def preserves_PostKernel_PostKernelIdeal : Prop :=
  True

def algebraic_PostKernelIdeal_PostReferenceIdeal_pre_finite_lse [hPostKernelIdeal : Cert.PostKernelIdeal.Facts] [hPostReferenceIdeal : Cert.PostReferenceIdeal.Facts] [hPre_finite_lse : Cert.Pre_finite_lse.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_finite_lse m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)
      ∧ m' ((c.tc : Thread Cert.PostReferenceIdeal.nD Cert.PostReferenceIdeal.τ).loc Cert.PostReferenceIdeal.main_arg9) = m ((c.tc : Thread Cert.PostKernelIdeal.nD Cert.PostKernelIdeal.τ).loc Cert.PostKernelIdeal.main_arg9)
      ∧ m' ((c.tc : Thread Cert.PostReferenceIdeal.nD Cert.PostReferenceIdeal.τ).loc Cert.PostReferenceIdeal.main_arg10) = m ((c.tc : Thread Cert.PostKernelIdeal.nD Cert.PostKernelIdeal.τ).loc Cert.PostKernelIdeal.main_arg10)
      ∧ m' ((c.tc : Thread Cert.PostReferenceIdeal.nD Cert.PostReferenceIdeal.τ).loc Cert.PostReferenceIdeal.main_arg11) = m ((c.tc : Thread Cert.PostKernelIdeal.nD Cert.PostKernelIdeal.τ).loc Cert.PostKernelIdeal.main_arg11)
      ∧ m' ((c.tc : Thread Cert.PostReferenceIdeal.nD Cert.PostReferenceIdeal.τ).loc Cert.PostReferenceIdeal.main_arg12) = m ((c.tc : Thread Cert.PostKernelIdeal.nD Cert.PostKernelIdeal.τ).loc Cert.PostKernelIdeal.main_arg12)
      ∧ m' ((c.tc : Thread Cert.PostReferenceIdeal.nD Cert.PostReferenceIdeal.τ).loc Cert.PostReferenceIdeal.main_arg13) = m ((c.tc : Thread Cert.PostKernelIdeal.nD Cert.PostKernelIdeal.τ).loc Cert.PostKernelIdeal.main_arg13)
      ∧ m' ((c.tc : Thread Cert.PostReferenceIdeal.nD Cert.PostReferenceIdeal.τ).loc Cert.PostReferenceIdeal.main_arg14) = m ((c.tc : Thread Cert.PostKernelIdeal.nD Cert.PostKernelIdeal.τ).loc Cert.PostKernelIdeal.main_arg14)
      ∧ m' ((c.tc : Thread Cert.PostReferenceIdeal.nD Cert.PostReferenceIdeal.τ).loc Cert.PostReferenceIdeal.main_arg15) = m ((c.tc : Thread Cert.PostKernelIdeal.nD Cert.PostKernelIdeal.τ).loc Cert.PostKernelIdeal.main_arg15)
      ∧ m' ((c.tc : Thread Cert.PostReferenceIdeal.nD Cert.PostReferenceIdeal.τ).loc Cert.PostReferenceIdeal.main_arg16) = m ((c.tc : Thread Cert.PostKernelIdeal.nD Cert.PostKernelIdeal.τ).loc Cert.PostKernelIdeal.main_arg16)
      ∧ m' ((c.tc : Thread Cert.PostReferenceIdeal.nD Cert.PostReferenceIdeal.τ).loc Cert.PostReferenceIdeal.main_arg17) = m ((c.tc : Thread Cert.PostKernelIdeal.nD Cert.PostKernelIdeal.τ).loc Cert.PostKernelIdeal.main_arg17)
      ∧ m' ((c.tc : Thread Cert.PostReferenceIdeal.nD Cert.PostReferenceIdeal.τ).loc Cert.PostReferenceIdeal.main_arg18) = m ((c.tc : Thread Cert.PostKernelIdeal.nD Cert.PostKernelIdeal.τ).loc Cert.PostKernelIdeal.main_arg18)
      ∧ m' ((c.tc : Thread Cert.PostReferenceIdeal.nD Cert.PostReferenceIdeal.τ).loc Cert.PostReferenceIdeal.main_arg19) = m ((c.tc : Thread Cert.PostKernelIdeal.nD Cert.PostKernelIdeal.τ).loc Cert.PostKernelIdeal.main_arg19)
      ∧ m' ((c.tc : Thread Cert.PostReferenceIdeal.nD Cert.PostReferenceIdeal.τ).loc Cert.PostReferenceIdeal.main_arg20) = m ((c.tc : Thread Cert.PostKernelIdeal.nD Cert.PostKernelIdeal.τ).loc Cert.PostKernelIdeal.main_arg20)) →
    ∃ (v0 : (c : Dev Cert.PostKernelIdeal.nD) → Buf (Elt Ideal) ((c.tc : Thread Cert.PostKernelIdeal.nD Cert.PostKernelIdeal.τ).loc Cert.PostKernelIdeal.main_v27)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v27) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8)
          ∧ r.2.mem ((c.tc : Thread Cert.PostKernelIdeal.nD Cert.PostKernelIdeal.τ).loc Cert.PostKernelIdeal.main_arg9) = m ((c.tc : Thread Cert.PostKernelIdeal.nD Cert.PostKernelIdeal.τ).loc Cert.PostKernelIdeal.main_arg9)
          ∧ r.2.mem ((c.tc : Thread Cert.PostKernelIdeal.nD Cert.PostKernelIdeal.τ).loc Cert.PostKernelIdeal.main_arg10) = m ((c.tc : Thread Cert.PostKernelIdeal.nD Cert.PostKernelIdeal.τ).loc Cert.PostKernelIdeal.main_arg10)
          ∧ r.2.mem ((c.tc : Thread Cert.PostKernelIdeal.nD Cert.PostKernelIdeal.τ).loc Cert.PostKernelIdeal.main_arg11) = m ((c.tc : Thread Cert.PostKernelIdeal.nD Cert.PostKernelIdeal.τ).loc Cert.PostKernelIdeal.main_arg11)
          ∧ r.2.mem ((c.tc : Thread Cert.PostKernelIdeal.nD Cert.PostKernelIdeal.τ).loc Cert.PostKernelIdeal.main_arg12) = m ((c.tc : Thread Cert.PostKernelIdeal.nD Cert.PostKernelIdeal.τ).loc Cert.PostKernelIdeal.main_arg12)
          ∧ r.2.mem ((c.tc : Thread Cert.PostKernelIdeal.nD Cert.PostKernelIdeal.τ).loc Cert.PostKernelIdeal.main_arg13) = m ((c.tc : Thread Cert.PostKernelIdeal.nD Cert.PostKernelIdeal.τ).loc Cert.PostKernelIdeal.main_arg13)
          ∧ r.2.mem ((c.tc : Thread Cert.PostKernelIdeal.nD Cert.PostKernelIdeal.τ).loc Cert.PostKernelIdeal.main_arg14) = m ((c.tc : Thread Cert.PostKernelIdeal.nD Cert.PostKernelIdeal.τ).loc Cert.PostKernelIdeal.main_arg14)
          ∧ r.2.mem ((c.tc : Thread Cert.PostKernelIdeal.nD Cert.PostKernelIdeal.τ).loc Cert.PostKernelIdeal.main_arg15) = m ((c.tc : Thread Cert.PostKernelIdeal.nD Cert.PostKernelIdeal.τ).loc Cert.PostKernelIdeal.main_arg15)
          ∧ r.2.mem ((c.tc : Thread Cert.PostKernelIdeal.nD Cert.PostKernelIdeal.τ).loc Cert.PostKernelIdeal.main_arg16) = m ((c.tc : Thread Cert.PostKernelIdeal.nD Cert.PostKernelIdeal.τ).loc Cert.PostKernelIdeal.main_arg16)
          ∧ r.2.mem ((c.tc : Thread Cert.PostKernelIdeal.nD Cert.PostKernelIdeal.τ).loc Cert.PostKernelIdeal.main_arg17) = m ((c.tc : Thread Cert.PostKernelIdeal.nD Cert.PostKernelIdeal.τ).loc Cert.PostKernelIdeal.main_arg17)
          ∧ r.2.mem ((c.tc : Thread Cert.PostKernelIdeal.nD Cert.PostKernelIdeal.τ).loc Cert.PostKernelIdeal.main_arg18) = m ((c.tc : Thread Cert.PostKernelIdeal.nD Cert.PostKernelIdeal.τ).loc Cert.PostKernelIdeal.main_arg18)
          ∧ r.2.mem ((c.tc : Thread Cert.PostKernelIdeal.nD Cert.PostKernelIdeal.τ).loc Cert.PostKernelIdeal.main_arg19) = m ((c.tc : Thread Cert.PostKernelIdeal.nD Cert.PostKernelIdeal.τ).loc Cert.PostKernelIdeal.main_arg19)
          ∧ r.2.mem ((c.tc : Thread Cert.PostKernelIdeal.nD Cert.PostKernelIdeal.τ).loc Cert.PostKernelIdeal.main_arg20) = m ((c.tc : Thread Cert.PostKernelIdeal.nD Cert.PostKernelIdeal.τ).loc Cert.PostKernelIdeal.main_arg20))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v128) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11)
          ∧ r.2.mem ((c.tc : Thread Cert.PostReferenceIdeal.nD Cert.PostReferenceIdeal.τ).loc Cert.PostReferenceIdeal.main_arg12) = m' ((c.tc : Thread Cert.PostReferenceIdeal.nD Cert.PostReferenceIdeal.τ).loc Cert.PostReferenceIdeal.main_arg12)
          ∧ r.2.mem ((c.tc : Thread Cert.PostReferenceIdeal.nD Cert.PostReferenceIdeal.τ).loc Cert.PostReferenceIdeal.main_arg13) = m' ((c.tc : Thread Cert.PostReferenceIdeal.nD Cert.PostReferenceIdeal.τ).loc Cert.PostReferenceIdeal.main_arg13)
          ∧ r.2.mem ((c.tc : Thread Cert.PostReferenceIdeal.nD Cert.PostReferenceIdeal.τ).loc Cert.PostReferenceIdeal.main_arg14) = m' ((c.tc : Thread Cert.PostReferenceIdeal.nD Cert.PostReferenceIdeal.τ).loc Cert.PostReferenceIdeal.main_arg14)
          ∧ r.2.mem ((c.tc : Thread Cert.PostReferenceIdeal.nD Cert.PostReferenceIdeal.τ).loc Cert.PostReferenceIdeal.main_arg15) = m' ((c.tc : Thread Cert.PostReferenceIdeal.nD Cert.PostReferenceIdeal.τ).loc Cert.PostReferenceIdeal.main_arg15)
          ∧ r.2.mem ((c.tc : Thread Cert.PostReferenceIdeal.nD Cert.PostReferenceIdeal.τ).loc Cert.PostReferenceIdeal.main_arg16) = m' ((c.tc : Thread Cert.PostReferenceIdeal.nD Cert.PostReferenceIdeal.τ).loc Cert.PostReferenceIdeal.main_arg16)
          ∧ r.2.mem ((c.tc : Thread Cert.PostReferenceIdeal.nD Cert.PostReferenceIdeal.τ).loc Cert.PostReferenceIdeal.main_arg17) = m' ((c.tc : Thread Cert.PostReferenceIdeal.nD Cert.PostReferenceIdeal.τ).loc Cert.PostReferenceIdeal.main_arg17)
          ∧ r.2.mem ((c.tc : Thread Cert.PostReferenceIdeal.nD Cert.PostReferenceIdeal.τ).loc Cert.PostReferenceIdeal.main_arg18) = m' ((c.tc : Thread Cert.PostReferenceIdeal.nD Cert.PostReferenceIdeal.τ).loc Cert.PostReferenceIdeal.main_arg18)
          ∧ r.2.mem ((c.tc : Thread Cert.PostReferenceIdeal.nD Cert.PostReferenceIdeal.τ).loc Cert.PostReferenceIdeal.main_arg19) = m' ((c.tc : Thread Cert.PostReferenceIdeal.nD Cert.PostReferenceIdeal.τ).loc Cert.PostReferenceIdeal.main_arg19)
          ∧ r.2.mem ((c.tc : Thread Cert.PostReferenceIdeal.nD Cert.PostReferenceIdeal.τ).loc Cert.PostReferenceIdeal.main_arg20) = m' ((c.tc : Thread Cert.PostReferenceIdeal.nD Cert.PostReferenceIdeal.τ).loc Cert.PostReferenceIdeal.main_arg20))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)
      ∧ m' ((c.tc : Thread Cert.QkvReferenceIdeal.nD Cert.QkvReferenceIdeal.τ).loc Cert.QkvReferenceIdeal.main_arg3) = m ((c.tc : Thread Cert.QkvKernelIdeal.nD Cert.QkvKernelIdeal.τ).loc Cert.QkvKernelIdeal.main_arg3)
      ∧ m' ((c.tc : Thread Cert.QkvReferenceIdeal.nD Cert.QkvReferenceIdeal.τ).loc Cert.QkvReferenceIdeal.main_arg4) = m ((c.tc : Thread Cert.QkvKernelIdeal.nD Cert.QkvKernelIdeal.τ).loc Cert.QkvKernelIdeal.main_arg4)) →
    ∃ (v0 : (c : Dev Cert.QkvKernelIdeal.nD) → Buf (Elt Ideal) ((c.tc : Thread Cert.QkvKernelIdeal.nD Cert.QkvKernelIdeal.τ).loc Cert.QkvKernelIdeal.main_v14)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v14) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2)
          ∧ r.2.mem ((c.tc : Thread Cert.QkvKernelIdeal.nD Cert.QkvKernelIdeal.τ).loc Cert.QkvKernelIdeal.main_arg3) = m ((c.tc : Thread Cert.QkvKernelIdeal.nD Cert.QkvKernelIdeal.τ).loc Cert.QkvKernelIdeal.main_arg3)
          ∧ r.2.mem ((c.tc : Thread Cert.QkvKernelIdeal.nD Cert.QkvKernelIdeal.τ).loc Cert.QkvKernelIdeal.main_arg4) = m ((c.tc : Thread Cert.QkvKernelIdeal.nD Cert.QkvKernelIdeal.τ).loc Cert.QkvKernelIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v63) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def preserves_DilKernel1_DilKernel1Ideal : Prop :=
  True

def algebraic_DilKernel1Ideal_DilReference1Ideal_pre_finite [hDilKernel1Ideal : Cert.DilKernel1Ideal.Facts] [hDilReference1Ideal : Cert.DilReference1Ideal.Facts] [hPre_finite : Cert.Pre_finite.Facts] : Prop :=
  ∀ (m : (ℓ : Loc Cert.DilKernel1Ideal.nD Cert.DilKernel1Ideal.τ Cert.DilKernel1Ideal.sig) → Buf (Elt Ideal) ℓ) (g : Dev Cert.DilKernel1Ideal.nD → PrngReg)
    (m' : (ℓ : Loc Cert.DilReference1Ideal.nD Cert.DilReference1Ideal.τ Cert.DilReference1Ideal.sig) → Buf (Elt Ideal) ℓ) (g' : Dev Cert.DilReference1Ideal.nD → PrngReg), Pre_DilKernel1Ideal_finite m →
    (∀ c : Dev Cert.DilKernel1Ideal.nD,
      m' ((c.tc : Thread Cert.DilReference1Ideal.nD Cert.DilReference1Ideal.τ).loc Cert.DilReference1Ideal.main_arg0) = m ((c.tc : Thread Cert.DilKernel1Ideal.nD Cert.DilKernel1Ideal.τ).loc Cert.DilKernel1Ideal.main_arg0)) →
    ∃ (v0 : (c : Dev Cert.DilKernel1Ideal.nD) → Buf (Elt Ideal) ((c.tc : Thread Cert.DilKernel1Ideal.nD Cert.DilKernel1Ideal.τ).loc Cert.DilKernel1Ideal.main_v35_0)) (v1 : (c : Dev Cert.DilKernel1Ideal.nD) → Buf (Elt Ideal) ((c.tc : Thread Cert.DilKernel1Ideal.nD Cert.DilKernel1Ideal.τ).loc Cert.DilKernel1Ideal.main_v35_1)),
      θ_run (Cert.DilKernel1Ideal.defs (F := Ideal)) (onTc (τ := Cert.DilKernel1Ideal.τ) (Cert.DilKernel1Ideal.main (F := Ideal))) ⟨m, fun _ => 0, g⟩ (fun r => ∀ c : Dev Cert.DilKernel1Ideal.nD,
          r.2.mem ((c.tc : Thread Cert.DilKernel1Ideal.nD Cert.DilKernel1Ideal.τ).loc Cert.DilKernel1Ideal.main_v35_0) = v0 c
          ∧ r.2.mem ((c.tc : Thread Cert.DilKernel1Ideal.nD Cert.DilKernel1Ideal.τ).loc Cert.DilKernel1Ideal.main_v35_1) = v1 c
          ∧ r.2.mem ((c.tc : Thread Cert.DilKernel1Ideal.nD Cert.DilKernel1Ideal.τ).loc Cert.DilKernel1Ideal.main_arg0) = m ((c.tc : Thread Cert.DilKernel1Ideal.nD Cert.DilKernel1Ideal.τ).loc Cert.DilKernel1Ideal.main_arg0))
      ∧ θ_run (Cert.DilReference1Ideal.defs (F := Ideal)) (onTc (τ := Cert.DilReference1Ideal.τ) (Cert.DilReference1Ideal.main (F := Ideal))) ⟨m', fun _ => 0, g'⟩ (fun r => ∀ c : Dev Cert.DilReference1Ideal.nD,
          r.2.mem ((c.tc : Thread Cert.DilReference1Ideal.nD Cert.DilReference1Ideal.τ).loc Cert.DilReference1Ideal.main_v32) = v0 c
          ∧ r.2.mem ((c.tc : Thread Cert.DilReference1Ideal.nD Cert.DilReference1Ideal.τ).loc Cert.DilReference1Ideal.main_v36) = v1 c
          ∧ r.2.mem ((c.tc : Thread Cert.DilReference1Ideal.nD Cert.DilReference1Ideal.τ).loc Cert.DilReference1Ideal.main_arg0) = m' ((c.tc : Thread Cert.DilReference1Ideal.nD Cert.DilReference1Ideal.τ).loc Cert.DilReference1Ideal.main_arg0))

def preserves_DilKernel16_DilKernel16Ideal : Prop :=
  True

def algebraic_DilKernel16Ideal_DilReference16Ideal_pre_finite [hDilKernel16Ideal : Cert.DilKernel16Ideal.Facts] [hDilReference16Ideal : Cert.DilReference16Ideal.Facts] [hPre_finite : Cert.Pre_finite.Facts] : Prop :=
  ∀ (m : (ℓ : Loc Cert.DilKernel16Ideal.nD Cert.DilKernel16Ideal.τ Cert.DilKernel16Ideal.sig) → Buf (Elt Ideal) ℓ) (g : Dev Cert.DilKernel16Ideal.nD → PrngReg)
    (m' : (ℓ : Loc Cert.DilReference16Ideal.nD Cert.DilReference16Ideal.τ Cert.DilReference16Ideal.sig) → Buf (Elt Ideal) ℓ) (g' : Dev Cert.DilReference16Ideal.nD → PrngReg), Pre_DilKernel16Ideal_finite m →
    (∀ c : Dev Cert.DilKernel16Ideal.nD,
      m' ((c.tc : Thread Cert.DilReference16Ideal.nD Cert.DilReference16Ideal.τ).loc Cert.DilReference16Ideal.main_arg0) = m ((c.tc : Thread Cert.DilKernel16Ideal.nD Cert.DilKernel16Ideal.τ).loc Cert.DilKernel16Ideal.main_arg0)) →
    ∃ (v0 : (c : Dev Cert.DilKernel16Ideal.nD) → Buf (Elt Ideal) ((c.tc : Thread Cert.DilKernel16Ideal.nD Cert.DilKernel16Ideal.τ).loc Cert.DilKernel16Ideal.main_v36_0)) (v1 : (c : Dev Cert.DilKernel16Ideal.nD) → Buf (Elt Ideal) ((c.tc : Thread Cert.DilKernel16Ideal.nD Cert.DilKernel16Ideal.τ).loc Cert.DilKernel16Ideal.main_v36_1)),
      θ_run (Cert.DilKernel16Ideal.defs (F := Ideal)) (onTc (τ := Cert.DilKernel16Ideal.τ) (Cert.DilKernel16Ideal.main (F := Ideal))) ⟨m, fun _ => 0, g⟩ (fun r => ∀ c : Dev Cert.DilKernel16Ideal.nD,
          r.2.mem ((c.tc : Thread Cert.DilKernel16Ideal.nD Cert.DilKernel16Ideal.τ).loc Cert.DilKernel16Ideal.main_v36_0) = v0 c
          ∧ r.2.mem ((c.tc : Thread Cert.DilKernel16Ideal.nD Cert.DilKernel16Ideal.τ).loc Cert.DilKernel16Ideal.main_v36_1) = v1 c
          ∧ r.2.mem ((c.tc : Thread Cert.DilKernel16Ideal.nD Cert.DilKernel16Ideal.τ).loc Cert.DilKernel16Ideal.main_arg0) = m ((c.tc : Thread Cert.DilKernel16Ideal.nD Cert.DilKernel16Ideal.τ).loc Cert.DilKernel16Ideal.main_arg0))
      ∧ θ_run (Cert.DilReference16Ideal.defs (F := Ideal)) (onTc (τ := Cert.DilReference16Ideal.τ) (Cert.DilReference16Ideal.main (F := Ideal))) ⟨m', fun _ => 0, g'⟩ (fun r => ∀ c : Dev Cert.DilReference16Ideal.nD,
          r.2.mem ((c.tc : Thread Cert.DilReference16Ideal.nD Cert.DilReference16Ideal.τ).loc Cert.DilReference16Ideal.main_v32) = v0 c
          ∧ r.2.mem ((c.tc : Thread Cert.DilReference16Ideal.nD Cert.DilReference16Ideal.τ).loc Cert.DilReference16Ideal.main_v36) = v1 c
          ∧ r.2.mem ((c.tc : Thread Cert.DilReference16Ideal.nD Cert.DilReference16Ideal.τ).loc Cert.DilReference16Ideal.main_arg0) = m' ((c.tc : Thread Cert.DilReference16Ideal.nD Cert.DilReference16Ideal.τ).loc Cert.DilReference16Ideal.main_arg0))

def preserves_NaKernel_NaKernelIdeal : Prop :=
  True

def algebraic_NaKernelIdeal_NaReferenceIdeal_pre_finite_na [hNaKernelIdeal : Cert.NaKernelIdeal.Facts] [hNaReferenceIdeal : Cert.NaReferenceIdeal.Facts] [hPre_finite_na : Cert.Pre_finite_na.Facts] : Prop :=
  ∀ (m : (ℓ : Loc Cert.NaKernelIdeal.nD Cert.NaKernelIdeal.τ Cert.NaKernelIdeal.sig) → Buf (Elt Ideal) ℓ) (g : Dev Cert.NaKernelIdeal.nD → PrngReg)
    (m' : (ℓ : Loc Cert.NaReferenceIdeal.nD Cert.NaReferenceIdeal.τ Cert.NaReferenceIdeal.sig) → Buf (Elt Ideal) ℓ) (g' : Dev Cert.NaReferenceIdeal.nD → PrngReg), Pre_NaKernelIdeal_finite_na m →
    (∀ c : Dev Cert.NaKernelIdeal.nD,
      m' ((c.tc : Thread Cert.NaReferenceIdeal.nD Cert.NaReferenceIdeal.τ).loc Cert.NaReferenceIdeal.main_arg0) = m ((c.tc : Thread Cert.NaKernelIdeal.nD Cert.NaKernelIdeal.τ).loc Cert.NaKernelIdeal.main_arg0)
      ∧ m' ((c.tc : Thread Cert.NaReferenceIdeal.nD Cert.NaReferenceIdeal.τ).loc Cert.NaReferenceIdeal.main_arg1) = m ((c.tc : Thread Cert.NaKernelIdeal.nD Cert.NaKernelIdeal.τ).loc Cert.NaKernelIdeal.main_arg1)) →
    ∃ (v0 : (c : Dev Cert.NaKernelIdeal.nD) → Buf (Elt Ideal) ((c.tc : Thread Cert.NaKernelIdeal.nD Cert.NaKernelIdeal.τ).loc Cert.NaKernelIdeal.main_v205)),
      θ_run (Cert.NaKernelIdeal.defs (F := Ideal)) (onTc (τ := Cert.NaKernelIdeal.τ) (Cert.NaKernelIdeal.main (F := Ideal))) ⟨m, fun _ => 0, g⟩ (fun r => ∀ c : Dev Cert.NaKernelIdeal.nD,
          r.2.mem ((c.tc : Thread Cert.NaKernelIdeal.nD Cert.NaKernelIdeal.τ).loc Cert.NaKernelIdeal.main_v205) = v0 c
          ∧ r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
          ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1))
      ∧ θ_run (Cert.NaReferenceIdeal.defs (F := Ideal)) (onTc (τ := Cert.NaReferenceIdeal.τ) (Cert.NaReferenceIdeal.main (F := Ideal))) ⟨m', fun _ => 0, g'⟩ (fun r => ∀ c : Dev Cert.NaReferenceIdeal.nD,
          r.2.mem ((c.tc : Thread Cert.NaReferenceIdeal.nD Cert.NaReferenceIdeal.τ).loc Cert.NaReferenceIdeal.main_v88) = v0 c
          ∧ r.2.mem ((c.tc : Thread Cert.NaReferenceIdeal.nD Cert.NaReferenceIdeal.τ).loc Cert.NaReferenceIdeal.main_arg0) = m' ((c.tc : Thread Cert.NaReferenceIdeal.nD Cert.NaReferenceIdeal.τ).loc Cert.NaReferenceIdeal.main_arg0)
          ∧ r.2.mem ((c.tc : Thread Cert.NaReferenceIdeal.nD Cert.NaReferenceIdeal.τ).loc Cert.NaReferenceIdeal.main_arg1) = m' ((c.tc : Thread Cert.NaReferenceIdeal.nD Cert.NaReferenceIdeal.τ).loc Cert.NaReferenceIdeal.main_arg1))

def Claim : Prop :=
  ∃ (hDilKernel4 : Cert.DilKernel4.Facts) (hDilKernel4Ideal : Cert.DilKernel4Ideal.Facts) (hDilReference4Ideal : Cert.DilReference4Ideal.Facts) (hPostKernel : Cert.PostKernel.Facts) (hPostKernelIdeal : Cert.PostKernelIdeal.Facts) (hPostReferenceIdeal : Cert.PostReferenceIdeal.Facts) (hQkvKernel : Cert.QkvKernel.Facts) (hQkvKernelIdeal : Cert.QkvKernelIdeal.Facts) (hQkvReferenceIdeal : Cert.QkvReferenceIdeal.Facts) (hDilKernel1 : Cert.DilKernel1.Facts) (hDilKernel1Ideal : Cert.DilKernel1Ideal.Facts) (hDilReference1Ideal : Cert.DilReference1Ideal.Facts) (hDilKernel16 : Cert.DilKernel16.Facts) (hDilKernel16Ideal : Cert.DilKernel16Ideal.Facts) (hDilReference16Ideal : Cert.DilReference16Ideal.Facts) (hNaKernel : Cert.NaKernel.Facts) (hNaKernelIdeal : Cert.NaKernelIdeal.Facts) (hNaReferenceIdeal : Cert.NaReferenceIdeal.Facts) (hPre_finite : Cert.Pre_finite.Facts) (hPre_finite_lse : Cert.Pre_finite_lse.Facts) (hPre_finite_na : Cert.Pre_finite_na.Facts),
    quiescent_DilKernel4 (hDilKernel4 := hDilKernel4)
    ∧ quiescent_DilKernel4Ideal (hDilKernel4Ideal := hDilKernel4Ideal)
    ∧ quiescent_DilKernel4Ideal_pre_finite (hDilKernel4Ideal := hDilKernel4Ideal) (hPre_finite := hPre_finite)
    ∧ quiescent_DilReference4Ideal (hDilReference4Ideal := hDilReference4Ideal)
    ∧ quiescent_DilReference4Ideal_pre_finite (hDilReference4Ideal := hDilReference4Ideal) (hPre_finite := hPre_finite)
    ∧ quiescent_PostKernel (hPostKernel := hPostKernel)
    ∧ quiescent_PostKernelIdeal (hPostKernelIdeal := hPostKernelIdeal)
    ∧ quiescent_PostKernelIdeal_pre_finite_lse (hPostKernelIdeal := hPostKernelIdeal) (hPre_finite_lse := hPre_finite_lse)
    ∧ quiescent_PostReferenceIdeal (hPostReferenceIdeal := hPostReferenceIdeal)
    ∧ quiescent_PostReferenceIdeal_pre_finite_lse (hPostReferenceIdeal := hPostReferenceIdeal) (hPre_finite_lse := hPre_finite_lse)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_DilKernel1 (hDilKernel1 := hDilKernel1)
    ∧ quiescent_DilKernel1Ideal (hDilKernel1Ideal := hDilKernel1Ideal)
    ∧ quiescent_DilKernel1Ideal_pre_finite (hDilKernel1Ideal := hDilKernel1Ideal) (hPre_finite := hPre_finite)
    ∧ quiescent_DilReference1Ideal (hDilReference1Ideal := hDilReference1Ideal)
    ∧ quiescent_DilReference1Ideal_pre_finite (hDilReference1Ideal := hDilReference1Ideal) (hPre_finite := hPre_finite)
    ∧ quiescent_DilKernel16 (hDilKernel16 := hDilKernel16)
    ∧ quiescent_DilKernel16Ideal (hDilKernel16Ideal := hDilKernel16Ideal)
    ∧ quiescent_DilKernel16Ideal_pre_finite (hDilKernel16Ideal := hDilKernel16Ideal) (hPre_finite := hPre_finite)
    ∧ quiescent_DilReference16Ideal (hDilReference16Ideal := hDilReference16Ideal)
    ∧ quiescent_DilReference16Ideal_pre_finite (hDilReference16Ideal := hDilReference16Ideal) (hPre_finite := hPre_finite)
    ∧ quiescent_NaKernel (hNaKernel := hNaKernel)
    ∧ quiescent_NaKernelIdeal (hNaKernelIdeal := hNaKernelIdeal)
    ∧ quiescent_NaKernelIdeal_pre_finite_na (hNaKernelIdeal := hNaKernelIdeal) (hPre_finite_na := hPre_finite_na)
    ∧ quiescent_NaReferenceIdeal (hNaReferenceIdeal := hNaReferenceIdeal)
    ∧ quiescent_NaReferenceIdeal_pre_finite_na (hNaReferenceIdeal := hNaReferenceIdeal) (hPre_finite_na := hPre_finite_na)
    ∧ preserves_DilKernel4_DilKernel4Ideal
    ∧ algebraic_DilKernel4Ideal_DilReference4Ideal_pre_finite (hDilKernel4Ideal := hDilKernel4Ideal) (hDilReference4Ideal := hDilReference4Ideal) (hPre_finite := hPre_finite)
    ∧ preserves_PostKernel_PostKernelIdeal
    ∧ algebraic_PostKernelIdeal_PostReferenceIdeal_pre_finite_lse (hPostKernelIdeal := hPostKernelIdeal) (hPostReferenceIdeal := hPostReferenceIdeal) (hPre_finite_lse := hPre_finite_lse)
    ∧ preserves_QkvKernel_QkvKernelIdeal
    ∧ algebraic_QkvKernelIdeal_QkvReferenceIdeal (hQkvKernelIdeal := hQkvKernelIdeal) (hQkvReferenceIdeal := hQkvReferenceIdeal)
    ∧ preserves_DilKernel1_DilKernel1Ideal
    ∧ algebraic_DilKernel1Ideal_DilReference1Ideal_pre_finite (hDilKernel1Ideal := hDilKernel1Ideal) (hDilReference1Ideal := hDilReference1Ideal) (hPre_finite := hPre_finite)
    ∧ preserves_DilKernel16_DilKernel16Ideal
    ∧ algebraic_DilKernel16Ideal_DilReference16Ideal_pre_finite (hDilKernel16Ideal := hDilKernel16Ideal) (hDilReference16Ideal := hDilReference16Ideal) (hPre_finite := hPre_finite)
    ∧ preserves_NaKernel_NaKernelIdeal
    ∧ algebraic_NaKernelIdeal_NaReferenceIdeal_pre_finite_na (hNaKernelIdeal := hNaKernelIdeal) (hNaReferenceIdeal := hNaReferenceIdeal) (hPre_finite_na := hPre_finite_na)
-- ==== Pre_finite.lean ====
abbrev S8x4096x3840 : Shape := ⟨3, ![8, 4096, 3840]⟩
abbrev S_ : Shape := ⟨0, ![]⟩

class Facts : Prop where
  bitsLt_bf16_f32 : FTy.bits .bf16 < FTy.bits .f32
  bcast_S_S8x4096x3840 : S_.BroadcastsInDim S8x4096x3840 (![] : Fin 0 → Fin S8x4096x3840.rank)
  reducesTo_S8x4096x3840_S_d0_1_2 : S8x4096x3840.ReducesTo [0, 1, 2] S_
  h_S_ : 0 < S_.numel

variable [Facts]

def fn {F : FTy → Type} [FloatOps F] (main_arg0 : FVec F S8x4096x3840 .bf16) : IVec S_ 1 :=
  let main_v0 : FVec F S8x4096x3840 .f32 := (extf .f32 · bitsLt_bf16_f32) main_arg0
  let main_v1 : FVec F S8x4096x3840 .f32 := Host.absf main_v0
  let main_cst : FVec F S_ .f32 := constant S_ .f32 0x7F800000#32
  let main_v2 : FVec F S8x4096x3840 .f32 := broadcastInDim S8x4096x3840 ![] bcast_S_S8x4096x3840 main_cst
  let main_v3 : IVec S8x4096x3840 1 := cmpf .olt main_v1 main_v2
  let main_c : IVec S_ 1 := constantI S_ 1 1#1
  let main_v4 : IVec S_ 1 := (fun x v => Host.reduce IntOp.andi x v reducesTo_S8x4096x3840_S_d0_1_2 h_S_) main_v3 main_c
  main_v4
-- ==== Pre_finite_lse.lean ====
abbrev S8x4096x1024 : Shape := ⟨3, ![8, 4096, 1024]⟩
abbrev S32768x512 : Shape := ⟨2, ![32768, 512]⟩
abbrev S32768x256 : Shape := ⟨2, ![32768, 256]⟩
abbrev S1x8x4096x256 : Shape := ⟨4, ![1, 8, 4096, 256]⟩
abbrev S1x1024 : Shape := ⟨2, ![1, 1024]⟩
abbrev S1x1024x5888 : Shape := ⟨3, ![1, 1024, 5888]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S8x4096x1024 .f32) (main_arg1 : FVec F S32768x512 .bf16) (main_arg2 : FVec F S32768x256 .bf16) (main_arg3 : FVec F S32768x256 .bf16) (main_arg4 : FVec F S32768x256 .bf16) (main_arg5 : FVec F S32768x256 .f32) (main_arg6 : FVec F S32768x256 .f32) (main_arg7 : FVec F S32768x256 .f32) (main_arg8 : FVec F S1x8x4096x256 .f32) (main_arg9 : FVec F S1x1024 .f32) (main_arg10 : FVec F S1x1024x5888 .f32) (main_arg11 : FVec F S1x512x1024 .f32) (main_arg12 : FVec F S1x256x1024 .f32) (main_arg13 : FVec F S1x1024x1024 .f32) (main_arg14 : FVec F S1x1024 .f32) (main_arg15 : FVec F S1x1024x4096 .f32) (main_arg16 : FVec F S1x4096x1024 .f32) (main_arg17 : FVec F S1x1024 .f32) (main_arg18 : FVec F S1x1024x1024 .f32) (main_arg19 : FVec F S1x256x1024 .f32) (main_arg20 : FVec F S1024 .f32) : IVec S_ 1 :=
  let main_v0 : FVec F S32768x256 .f32 := Host.absf main_arg5
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg6
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg7
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  main_v13
-- ==== Pre_finite_na.lean ====
abbrev S8x4096x3840 : Shape := ⟨3, ![8, 4096, 3840]⟩
abbrev S1x8x15x31 : Shape := ⟨4, ![1, 8, 15, 31]⟩
abbrev S_ : Shape := ⟨0, ![]⟩

class Facts : Prop where
  bitsLt_bf16_f32 : FTy.bits .bf16 < FTy.bits .f32
  bcast_S_S8x4096x3840 : S_.BroadcastsInDim S8x4096x3840 (![] : Fin 0 → Fin S8x4096x3840.rank)
  reducesTo_S8x4096x3840_S_d0_1_2 : S8x4096x3840.ReducesTo [0, 1, 2] S_
  h_S_ : 0 < S_.numel
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn {F : FTy → Type} [FloatOps F] (main_arg0 : FVec F S8x4096x3840 .bf16) (main_arg1 : FVec F S1x8x15x31 .f32) : IVec S_ 1 :=
  let main_v0 : FVec F S8x4096x3840 .f32 := (extf .f32 · bitsLt_bf16_f32) main_arg0
  let main_v1 : FVec F S8x4096x3840 .f32 := Host.absf main_v0
  let main_cst : FVec F S_ .f32 := constant S_ .f32 0x7F800000#32
  let main_v2 : FVec F S8x4096x3840 .f32 := broadcastInDim S8x4096x3840 ![] bcast_S_S8x4096x3840 main_cst
  let main_v3 : IVec S8x4096x3840 1 := cmpf .olt main_v1 main_v2
  let main_c : IVec S_ 1 := constantI S_ 1 1#1
  let main_v4 : IVec S_ 1 := (fun x v => Host.reduce IntOp.andi x v reducesTo_S8x4096x3840_S_d0_1_2 h_S_) main_v3 main_c
  let main_v5 : FVec F S1x8x15x31 .f32 := Host.absf main_arg1
  let main_cst_0 : FVec F S_ .f32 := constant S_ .f32 0x7F800000#32
  let main_v6 : FVec F S1x8x15x31 .f32 := broadcastInDim S1x8x15x31 ![] bcast_S_S1x8x15x31 main_cst_0
  let main_v7 : IVec S1x8x15x31 1 := cmpf .olt main_v5 main_v6
  let main_c_1 : IVec S_ 1 := constantI S_ 1 1#1
  let main_v8 : IVec S_ 1 := (fun x v => Host.reduce IntOp.andi x v reducesTo_S1x8x15x31_S_d0_1_2_3 h_S_) main_v7 main_c_1
  let main_v9 : IVec S_ 1 := andi main_v4 main_v8
  main_v9
-- ==== DilKernel4.lean ====
abbrev S8x4096x3840 : Shape := ⟨3, ![8, 4096, 3840]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S8x1024x15360 : Shape := ⟨3, ![8, 1024, 15360]⟩
abbrev S8x1024x1024 : Shape := ⟨3, ![8, 1024, 1024]⟩
abbrev S1x1024x256 : Shape := ⟨3, ![1, 1024, 256]⟩
abbrev S1x256x256 : Shape := ⟨3, ![1, 256, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 57
  | .vmem => 11
  | .smem => 0
  | _ => 0

abbrev bufTy : (tb : Table) → Fin (tcTables nBuf tb) → BufTy
  | .hbm, ⟨0, _⟩ => ⟨S8x4096x3840, .bf16⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .f32⟩
  | .hbm, ⟨16, _⟩ => ⟨S_, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S_, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S1x128x256, .f32⟩
  | .hbm, ⟨51, _⟩ => ⟨S1x128x256, .f32⟩
  | .hbm, ⟨52, _⟩ => ⟨S1x128x256, .f32⟩
  | .hbm, ⟨53, _⟩ => ⟨S3x128x256, .f32⟩
  | .hbm, ⟨54, _⟩ => ⟨S8x1024x15360, .bf16⟩
  | .hbm, ⟨55, _⟩ => ⟨S8x1024x1024, .bf16⟩
  | .hbm, ⟨56, _⟩ => ⟨S8x1024x1024, .f32⟩
  | .local _ .vmem, ⟨0, _⟩ => ⟨S1x128x256, .bf16⟩
  | .local _ .vmem, ⟨1, _⟩ => ⟨S1x128x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S3x128x256, .f32⟩
  | .local _ .vmem, ⟨7, _⟩ => ⟨S1x128x256, .bf16⟩
  | .local _ .vmem, ⟨8, _⟩ => ⟨S1x128x256, .bf16⟩
  | .local _ .vmem, ⟨9, _⟩ => ⟨S1x128x256, .f32⟩
  | .local _ .vmem, ⟨10, _⟩ => ⟨S1x128x256, .f32⟩
  | _, _ => ⟨S8x4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let c768_i32 : BitVec 32 := 768#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c768_i32 v2
  v3
def k0_off1 (i : grid0.Coords) : Fin 3 → Nat :=
  let c0 : Index := 0#32
  let c768_i32 : BitVec 32 := 768#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c768_i32 v2
  let v4 : BitVec 32 := v3
  let v5 : Index := Scalar.indexCast v4
  let c0_0 : Index := 0#32
  ![0, v5.toNat, 0]
def k0_off2 (i : grid0.Coords) : Fin 3 → Nat :=
  let arg2 : BitVec 32 := BitVec.ofNat 32 (i 2).val
  let c0_i32_3 : BitVec 32 := 0#32
  let v11 : BitVec 1 := Scalar.cmpi .eq arg2 c0_i32_3
  let c0_i32_4 : BitVec 32 := 0#32
  let c7_i32 : BitVec 32 := 7#32
  let v12 : BitVec 1 := Scalar.cmpi .eq arg2 c7_i32
  let c2_i32 : BitVec 32 := 2#32
  let c1_i32 : BitVec 32 := 1#32
  let v13 : BitVec 32 := Scalar.select v12 c2_i32 c1_i32
  let v14 : BitVec 32 := Scalar.select v11 c0_i32_4 v13
  let v15 : Index := Scalar.indexCast v14
  let c0_5 : Index := 0#32
  let c0_6 : Index := 0#32
  ![v15.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg0.toNat, arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c9_i32 : BitVec 32 := 9#32
  let v1 : BitVec 32 := Scalar.addi v0 c9_i32
  let c1_i32 : BitVec 32 := 1#32
  let v2 : BitVec 32 := Scalar.addi v1 c1_i32
  let c0_i32 : BitVec 32 := 0#32
  let c0_i32_0 : BitVec 32 := 0#32
  ![arg0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c12_i32 : BitVec 32 := 12#32
  let v1 : BitVec 32 := Scalar.addi v0 c12_i32
  let c1_i32 : BitVec 32 := 1#32
  let v2 : BitVec 32 := Scalar.addi v1 c1_i32
  let c0_i32 : BitVec 32 := 0#32
  let c0_i32_0 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DilReference4Ideal.lean ====
abbrev S8x4096x3840 : Shape := ⟨3, ![8, 4096, 3840]⟩
abbrev S8x4096x256 : Shape := ⟨3, ![8, 4096, 256]⟩
abbrev S8x1024x4x4x64 : Shape := ⟨5, ![8, 1024, 4, 4, 64]⟩
abbrev S8x4x4x1024x1024 : Shape := ⟨5, ![8, 4, 4, 1024, 1024]⟩
abbrev S1024x1024 : Shape := ⟨2, ![1024, 1024]⟩
abbrev S_ : Shape := ⟨0, ![]⟩
abbrev S8x4x4x1024 : Shape := ⟨4, ![8, 4, 4, 1024]⟩
abbrev S8x4x4x1024x1 : Shape := ⟨5, ![8, 4, 4, 1024, 1]⟩
abbrev S8x4x4x64x1024 : Shape := ⟨5, ![8, 4, 4, 64, 1024]⟩
abbrev S8x1024x1024 : Shape := ⟨3, ![8, 1024, 1024]⟩
abbrev S8x1024x4x4 : Shape := ⟨4, ![8, 1024, 4, 4]⟩
abbrev S8x1024x4x4x1 : Shape := ⟨5, ![8, 1024, 4, 4, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x3840, .bf16⟩
  | .hbm, ⟨1, _⟩ => ⟨S8x4096x256, .bf16⟩
  | .hbm, ⟨2, _⟩ => ⟨S8x4096x256, .f32⟩
  | .hbm, ⟨3, _⟩ => ⟨S8x1024x4x4x64, .f32⟩
  | .hbm, ⟨4, _⟩ => ⟨S8x4096x256, .bf16⟩
  | .hbm, ⟨5, _⟩ => ⟨S8x4096x256, .f32⟩
  | .hbm, ⟨6, _⟩ => ⟨S8x1024x4x4x64, .f32⟩
  | .hbm, ⟨7, _⟩ => ⟨S8x4096x256, .bf16⟩
  | .hbm, ⟨8, _⟩ => ⟨S8x4096x256, .f32⟩
  | .hbm, ⟨9, _⟩ => ⟨S8x1024x4x4x64, .f32⟩
  | .hbm, ⟨10, _⟩ => ⟨S8x4x4x1024x1024, .f32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .f32⟩
  | .hbm, ⟨19, _⟩ => ⟨S_, .f32⟩
  | .hbm, ⟨20, _⟩ => ⟨S8x4x4x1024x1024, .i1⟩
  | .hbm, ⟨21, _⟩ => ⟨S8x4x4x1024x1024, .f32⟩
  | .hbm, ⟨22, _⟩ => ⟨S8x4x4x1024x1024, .f32⟩
  | .hbm, ⟨23, _⟩ => ⟨S_, .f32⟩
  | .hbm, ⟨24, _⟩ => ⟨S8x4x4x1024, .f32⟩
  | .hbm, ⟨25, _⟩ => ⟨S8x4x4x1024x1, .f32⟩
  | .hbm, ⟨26, _⟩ => ⟨S8x4x4x1024x1024, .f32⟩
  | .hbm, ⟨27, _⟩ => ⟨S8x4x4x1024x1024, .f32⟩
  | .hbm, ⟨28, _⟩ => ⟨S8x4x4x1024x1024, .f32⟩
  | .hbm, ⟨29, _⟩ => ⟨S_, .f32⟩
  | .hbm, ⟨30, _⟩ => ⟨S8x4x4x1024, .f32⟩
  | .hbm, ⟨31, _⟩ => ⟨S8x4x4x1024, .f32⟩
  | .hbm, ⟨32, _⟩ => ⟨S8x4x4x1024, .f32⟩
  | .hbm, ⟨33, _⟩ => ⟨S8x4x4x1024x1, .f32⟩
  | .hbm, ⟨34, _⟩ => ⟨S8x4x4x1024x1024, .f32⟩
  | .hbm, ⟨35, _⟩ => ⟨S8x4x4x1024x1024, .f32⟩
  | .hbm, ⟨36, _⟩ => ⟨S8x4x4x1024x1024, .f32⟩
  | .hbm, ⟨37, _⟩ => ⟨S8x4x4x64x1024, .f32⟩
  | .hbm, ⟨38, _⟩ => ⟨S8x1024x4x4x64, .f32⟩
  | .hbm, ⟨39, _⟩ => ⟨S8x1024x1024, .f32⟩
  | .hbm, ⟨40, _⟩ => ⟨S8x1024x1024, .bf16⟩
  | .hbm, ⟨41, _⟩ => ⟨S8x1024x4x4, .f32⟩
  | .hbm, ⟨42, _⟩ => ⟨S8x1024x4x4x1, .f32⟩
  | .hbm, ⟨43, _⟩ => ⟨S8x1024x4x4x64, .f32⟩
  | .hbm, ⟨44, _⟩ => ⟨S8x1024x1024, .f32⟩
  | _, _ => ⟨S8x4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== PostKernel.lean ====
abbrev S8x4096x1024 : Shape := ⟨3, ![8, 4096, 1024]⟩
abbrev S32768x512 : Shape := ⟨2, ![32768, 512]⟩
abbrev S32768x256 : Shape := ⟨2, ![32768, 256]⟩
abbrev S1x8x4096x256 : Shape := ⟨4, ![1, 8, 4096, 256]⟩
abbrev S1x1024 : Shape := ⟨2, ![1, 1024]⟩
abbrev S1x1024x5888 : Shape := ⟨3, ![1, 1024, 5888]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S32768x1024 : Shape := ⟨2, ![32768, 1024]⟩
abbrev S1024x5888 : Shape := ⟨2, ![1024, 5888]⟩
abbrev S1024x2048 : Shape := ⟨2, ![1024, 2048]⟩
abbrev S512x1024 : Shape := ⟨2, ![512, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S8x4096x256 : Shape := ⟨3, ![8, 4096, 256]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 49
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S1x8x4096x256, .f32⟩
  | .hbm, ⟨9, _⟩ => ⟨S1x1024, .f32⟩
  | .hbm, ⟨10, _⟩ => ⟨S1x1024x5888, .f32⟩
  | .hbm, ⟨11, _⟩ => ⟨S1x512x1024, .f32⟩
  | .hbm, ⟨12, _⟩ => ⟨S1x256x1024, .f32⟩
  | .hbm, ⟨13, _⟩ => ⟨S1x1024x1024, .f32⟩
  | .hbm, ⟨14, _⟩ => ⟨S1x1024, .f32⟩
  | .hbm, ⟨15, _⟩ => ⟨S1x1024x4096, .f32⟩
  | .hbm, ⟨16, _⟩ => ⟨S1x4096x1024, .f32⟩
  | .hbm, ⟨17, _⟩ => ⟨S1x1024, .f32⟩
  | .hbm, ⟨18, _⟩ => ⟨S1x1024x1024, .f32⟩
  | .hbm, ⟨19, _⟩ => ⟨S1x256x1024, .f32⟩
  | .hbm, ⟨20, _⟩ => ⟨S1024, .f32⟩
  | .hbm, ⟨21, _⟩ => ⟨S32768x1024, .f32⟩
  | .hbm, ⟨22, _⟩ => ⟨S1024x5888, .f32⟩
  | .hbm, ⟨23, _⟩ => ⟨S1024x2048, .f32⟩
  | .hbm, ⟨24, _⟩ => ⟨S1024x2048, .bf16⟩
  | .hbm, ⟨25, _⟩ => ⟨S1024, .f32⟩
  | .hbm, ⟨26, _⟩ => ⟨S1x1024, .f32⟩
  | .hbm, ⟨27, _⟩ => ⟨S512x1024, .f32⟩
  | .hbm, ⟨28, _⟩ => ⟨S512x1024, .bf16⟩
  | .hbm, ⟨29, _⟩ => ⟨S256x1024, .f32⟩
  | .hbm, ⟨30, _⟩ => ⟨S256x1024, .bf16⟩
  | .hbm, ⟨31, _⟩ => ⟨S1024x1024, .f32⟩
  | .hbm, ⟨32, _⟩ => ⟨S1024x1024, .bf16⟩
  | .hbm, ⟨33, _⟩ => ⟨S1024, .f32⟩
  | .hbm, ⟨34, _⟩ => ⟨S1x1024, .f32⟩
  | .hbm, ⟨35, _⟩ => ⟨S1024x4096, .f32⟩
  | .hbm, ⟨36, _⟩ => ⟨S1024x4096, .bf16⟩
  | .hbm, ⟨37, _⟩ => ⟨S4096x1024, .f32⟩
  | .hbm, ⟨38, _⟩ => ⟨S4096x1024, .bf16⟩
  | .hbm, ⟨39, _⟩ => ⟨S1024, .f32⟩
  | .hbm, ⟨40, _⟩ => ⟨S1x1024, .f32⟩
  | .hbm, ⟨41, _⟩ => ⟨S1024x1024, .f32⟩
  | .hbm, ⟨42, _⟩ => ⟨S1024x1024, .bf16⟩
  | .hbm, ⟨43, _⟩ => ⟨S256x1024, .f32⟩
  | .hbm, ⟨44, _⟩ => ⟨S256x1024, .bf16⟩
  | .hbm, ⟨45, _⟩ => ⟨S1x1024, .f32⟩
  | .hbm, ⟨46, _⟩ => ⟨S8x4096x256, .f32⟩
  | .hbm, ⟨47, _⟩ => ⟨S32768x256, .f32⟩
  | .hbm, ⟨48, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S1x1024, .f32⟩
  | .local _ .vmem, ⟨19, _⟩ => ⟨S1024x2048, .bf16⟩
  | .local _ .vmem, ⟨20, _⟩ => ⟨S512x1024, .bf16⟩
  | .local _ .vmem, ⟨21, _⟩ => ⟨S256x1024, .bf16⟩
  | .local _ .vmem, ⟨22, _⟩ => ⟨S1024x1024, .bf16⟩
  | .local _ .vmem, ⟨23, _⟩ => ⟨S1x1024, .f32⟩
  | .local _ .vmem, ⟨24, _⟩ => ⟨S1024x4096, .bf16⟩
  | .local _ .vmem, ⟨25, _⟩ => ⟨S4096x1024, .bf16⟩
  | .local _ .vmem, ⟨26, _⟩ => ⟨S1x1024, .f32⟩
  | .local _ .vmem, ⟨27, _⟩ => ⟨S1024x1024, .bf16⟩
  | .local _ .vmem, ⟨28, _⟩ => ⟨S256x1024, .bf16⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4096x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== PostReferenceIdeal.lean ====
abbrev S8x4096x1024 : Shape := ⟨3, ![8, 4096, 1024]⟩
abbrev S32768x512 : Shape := ⟨2, ![32768, 512]⟩
abbrev S32768x256 : Shape := ⟨2, ![32768, 256]⟩
abbrev S1x8x4096x256 : Shape := ⟨4, ![1, 8, 4096, 256]⟩
abbrev S1x1024 : Shape := ⟨2, ![1, 1024]⟩
abbrev S1x1024x5888 : Shape := ⟨3, ![1, 1024, 5888]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1024x5888 : Shape := ⟨2, ![1024, 5888]⟩
abbrev S1024x2048 : Shape := ⟨2, ![1024, 2048]⟩
abbrev S32768x2048 : Shape := ⟨2, ![32768, 2048]⟩
abbrev S1x32768x256 : Shape := ⟨3, ![1, 32768, 256]⟩
abbrev S3x32768x256 : Shape := ⟨3, ![3, 32768, 256]⟩
abbrev S512x1024 : Shape := ⟨2, ![512, 1024]⟩
abbrev S256x1024 : Shape := ⟨2, ![256, 1024]⟩
abbrev S1024x1024 : Shape := ⟨2, ![1024, 1024]⟩
abbrev S1024x4096 : Shape := ⟨2, ![1024, 4096]⟩
abbrev S32768x4096 : Shape := ⟨2, ![32768, 4096]⟩
abbrev S4096x1024 : Shape := ⟨2, ![4096, 1024]⟩
abbrev S8x4096x256 : Shape := ⟨3, ![8, 4096, 256]⟩

abbrev nBuf : Space → Nat
  | .hbm => 174
  | .vmem => 0
  | .smem => 0
  | _ => 0

abbrev hbmTy0_0 (i : Nat) : BufTy := match i % 128 with
  | 0 => ⟨S8x4096x1024, .f32⟩
  | 1 => ⟨S32768x512, .bf16⟩
  | 2 => ⟨S32768x256, .bf16⟩
  | 3 => ⟨S32768x256, .bf16⟩
  | 4 => ⟨S32768x256, .bf16⟩
  | 5 => ⟨S32768x256, .f32⟩
  | 6 => ⟨S32768x256, .f32⟩
  | 7 => ⟨S32768x256, .f32⟩
  | 8 => ⟨S1x8x4096x256, .f32⟩
  | 9 => ⟨S1x1024, .f32⟩
  | 10 => ⟨S1x1024x5888, .f32⟩
  | 11 => ⟨S1x512x1024, .f32⟩
  | 12 => ⟨S1x256x1024, .f32⟩
  | 13 => ⟨S1x1024x1024, .f32⟩
  | 14 => ⟨S1x1024, .f32⟩
  | 15 => ⟨S1x1024x4096, .f32⟩
  | 16 => ⟨S1x4096x1024, .f32⟩
  | 17 => ⟨S1x1024, .f32⟩
  | 18 => ⟨S1x1024x1024, .f32⟩
  | 19 => ⟨S1x256x1024, .f32⟩
  | 20 => ⟨S1024, .f32⟩
  | 21 => ⟨S32768x1024, .f32⟩
  | 22 => ⟨S1024, .f32⟩
  | 23 => ⟨S32768x1024, .f32⟩
  | 24 => ⟨S_, .f32⟩
  | 25 => ⟨S32768, .f32⟩
  | 26 => ⟨S32768x1, .f32⟩
  | 27 => ⟨S_, .f32⟩
  | 28 => ⟨S32768x1, .f32⟩
  | 29 => ⟨S32768x1, .f32⟩
  | 30 => ⟨S_, .f32⟩
  | 31 => ⟨S32768x1, .f32⟩
  | 32 => ⟨S32768x1, .f32⟩
  | 33 => ⟨S32768x1, .f32⟩
  | 34 => ⟨S32768x1024, .f32⟩
  | 35 => ⟨S32768x1024, .f32⟩
  | 36 => ⟨S1x1024, .f32⟩
  | 37 => ⟨S32768x1024, .f32⟩
  | 38 => ⟨S32768x1024, .f32⟩
  | 39 => ⟨S1024x5888, .f32⟩
  | 40 => ⟨S1024x2048, .f32⟩
  | 41 => ⟨S32768x2048, .f32⟩
  | 42 => ⟨S32768x1024, .f32⟩
  | 43 => ⟨S32768x1024, .f32⟩
  | 44 => ⟨S1x32768x256, .f32⟩
  | 45 => ⟨S1x32768x256, .f32⟩
  | 46 => ⟨S1x32768x256, .f32⟩
  | 47 => ⟨S3x32768x256, .f32⟩
  | 48 => ⟨S_, .f32⟩
  | 49 => ⟨S32768x256, .f32⟩
  | 50 => ⟨S_, .f32⟩
  | 51 => ⟨S32768x256, .f32⟩
  | 52 => ⟨S32768x256, .f32⟩
  | 53 => ⟨S1x32768x256, .f32⟩
  | 54 => ⟨S3x32768x256, .f32⟩
  | 55 => ⟨S3x32768x256, .f32⟩
  | 56 => ⟨S3x32768x256, .f32⟩
  | 57 => ⟨S_, .f32⟩
  | 58 => ⟨S32768x256, .f32⟩
  | 59 => ⟨S1x32768x256, .f32⟩
  | 60 => ⟨S3x32768x256, .f32⟩
  | 61 => ⟨S3x32768x256, .f32⟩
  | 62 => ⟨S32768x256, .f32⟩
  | 63 => ⟨S32768x256, .f32⟩
  | 64 => ⟨S32768x256, .f32⟩
  | 65 => ⟨S1x32768x256, .f32⟩
  | 66 => ⟨S1x32768x256, .f32⟩
  | 67 => ⟨S1x32768x256, .f32⟩
  | 68 => ⟨S3x32768x256, .f32⟩
  | 69 => ⟨S3x32768x256, .f32⟩
  | 70 => ⟨S_, .f32⟩
  | 71 => ⟨S32768x256, .f32⟩
  | 72 => ⟨S32768x1024, .f32⟩
  | 73 => ⟨S32768x1024, .f32⟩
  | 74 => ⟨S_, .f32⟩
  | 75 => ⟨S32768x1024, .f32⟩
  | 76 => ⟨S32768x1024, .f32⟩
  | 77 => ⟨S_, .f32⟩
  | 78 => ⟨S32768x1024, .f32⟩
  | 79 => ⟨S32768x1024, .f32⟩
  | 80 => ⟨S32768x512, .f32⟩
  | 81 => ⟨S512x1024, .f32⟩
  | 82 => ⟨S32768x1024, .f32⟩
  | 83 => ⟨S32768x1024, .f32⟩
  | 84 => ⟨S32768x1024, .f32⟩
  | 85 => ⟨S32768x1024, .f32⟩
  | 86 => ⟨S_, .f32⟩
  | 87 => ⟨S32768x1024, .f32⟩
  | 88 => ⟨S32768x1024, .f32⟩
  | 89 => ⟨S_, .f32⟩
  | 90 => ⟨S32768x1024, .f32⟩
  | 91 => ⟨S32768x1024, .f32⟩
  | 92 => ⟨S256x1024, .f32⟩
  | 93 => ⟨S32768x1024, .f32⟩
  | 94 => ⟨S32768x1024, .f32⟩
  | 95 => ⟨S32768x1024, .f32⟩
  | 96 => ⟨S1024x1024, .f32⟩
  | 97 => ⟨S32768x1024, .f32⟩
  | 98 => ⟨S32768x1024, .f32⟩
  | 99 => ⟨S1024, .f32⟩
  | 100 => ⟨S32768x1024, .f32⟩
  | 101 => ⟨S_, .f32⟩
  | 102 => ⟨S32768, .f32⟩
  | 103 => ⟨S32768x1, .f32⟩
  | 104 => ⟨S_, .f32⟩
  | 105 => ⟨S32768x1, .f32⟩
  | 106 => ⟨S32768x1, .f32⟩
  | 107 => ⟨S_, .f32⟩
  | 108 => ⟨S32768x1, .f32⟩
  | 109 => ⟨S32768x1, .f32⟩
  | 110 => ⟨S32768x1, .f32⟩
  | 111 => ⟨S32768x1024, .f32⟩
  | 112 => ⟨S32768x1024, .f32⟩
  | 113 => ⟨S1x1024, .f32⟩
  | 114 => ⟨S32768x1024, .f32⟩
  | 115 => ⟨S32768x1024, .f32⟩
  | 116 => ⟨S1024x4096, .f32⟩
  | 117 => ⟨S32768x4096, .f32⟩
  | 118 => ⟨S_, .f32⟩
  | 119 => ⟨S32768x4096, .f32⟩
  | 120 => ⟨S32768x4096, .f32⟩
  | 121 => ⟨S32768x4096, .f32⟩
  | 122 => ⟨S4096x1024, .f32⟩
  | 123 => ⟨S32768x1024, .f32⟩
  | 124 => ⟨S32768x1024, .f32⟩
  | 125 => ⟨S1024, .f32⟩
  | 126 => ⟨S32768x1024, .f32⟩
  | 127 => ⟨S_, .f32⟩
  | _ => ⟨S8x4096x1024, .f32⟩

abbrev hbmTy0_1 (i : Nat) : BufTy := match i % 128 with
  | 0 => ⟨S32768, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S32768x1024, .f32⟩
  | 10 => ⟨S32768x1024, .f32⟩
  | 11 => ⟨S1x1024, .f32⟩
  | 12 => ⟨S32768x1024, .f32⟩
  | 13 => ⟨S32768x1024, .f32⟩
  | 14 => ⟨S1024x1024, .f32⟩
  | 15 => ⟨S32768x1024, .f32⟩
  | 16 => ⟨S32768x1024, .f32⟩
  | 17 => ⟨S32768x1024, .f32⟩
  | 18 => ⟨S_, .f32⟩
  | 19 => ⟨S32768x1024, .f32⟩
  | 20 => ⟨S32768x1024, .f32⟩
  | 21 => ⟨S_, .f32⟩
  | 22 => ⟨S32768x1024, .f32⟩
  | 23 => ⟨S32768x1024, .f32⟩
  | 24 => ⟨S8x4096x256, .f32⟩
  | 25 => ⟨S32768x256, .f32⟩
  | 26 => ⟨S256x1024, .f32⟩
  | 27 => ⟨S32768x1024, .f32⟩
  | 28 => ⟨S32768x1024, .f32⟩
  | 29 => ⟨S32768x1024, .f32⟩
  | 30 => ⟨S32768x1024, .f32⟩
  | 31 => ⟨S_, .f32⟩
  | 32 => ⟨S32768, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S32768x1, .f32⟩
  | 41 => ⟨S32768x1024, .f32⟩
  | 42 => ⟨S32768x1024, .f32⟩
  | 43 => ⟨S1x1024, .f32⟩
  | 44 => ⟨S32768x1024, .f32⟩
  | 45 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_cst : Ref sig .tc := ⟨.hbm, 24, rfl⟩
abbrev main_v3 : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_cst_3 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_10 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call0_cst : Ref sig .tc := ⟨.hbm, 118, rfl⟩
abbrev main_call0_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_13 : Ref sig .tc := ⟨.hbm, 127, rfl⟩
abbrev main_v90 : Ref sig .tc := ⟨.hbm, 128, rfl⟩
abbrev main_v91 : Ref sig .tc := ⟨.hbm, 129, rfl⟩
abbrev main_cst_14 : Ref sig .tc := ⟨.hbm, 130, rfl⟩
abbrev main_v92 : Ref sig .tc := ⟨.hbm, 131, rfl⟩
abbrev main_v93 : Ref sig .tc := ⟨.hbm, 132, rfl⟩
abbrev main_cst_15 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_16 : Ref sig .tc := ⟨.hbm, 146, rfl⟩
abbrev main_v106 : Ref sig .tc := ⟨.hbm, 147, rfl⟩
abbrev main_v107 : Ref sig .tc := ⟨.hbm, 148, rfl⟩
abbrev main_cst_17 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_18 : Ref sig .tc := ⟨.hbm, 159, rfl⟩
abbrev main_v117 : Ref sig .tc := ⟨.hbm, 160, rfl⟩
abbrev main_v118 : Ref sig .tc := ⟨.hbm, 161, rfl⟩
abbrev main_cst_19 : Ref sig .tc := ⟨.hbm, 162, rfl⟩
abbrev main_v119 : Ref sig .tc := ⟨.hbm, 163, rfl⟩
abbrev main_v120 : Ref sig .tc := ⟨.hbm, 164, rfl⟩
abbrev main_cst_20 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩

abbrev nD : Nat := 1
abbrev τ : Topo := Topo.v7x

variable {F : FTy → Type} [FloatOps F]
-- ==== QkvKernel.lean ====
abbrev S8x4096x1024 : Shape := ⟨3, ![8, 4096, 1024]⟩
abbrev S32768x32 : Shape := ⟨2, ![32768, 32]⟩
abbrev S1x1024 : Shape := ⟨2, ![1, 1024]⟩
abbrev S1x1024x5888 : Shape := ⟨3, ![1, 1024, 5888]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x1024 : Shape := ⟨2, ![32768, 1024]⟩
abbrev S1024x5888 : Shape := ⟨2, ![1024, 5888]⟩
abbrev S1024x3840 : Shape := ⟨2, ![1024, 3840]⟩
abbrev S1024 : Shape := ⟨1, ![1024]⟩
abbrev S32768x3840 : Shape := ⟨2, ![32768, 3840]⟩
abbrev S512x1024 : Shape := ⟨2, ![512, 1024]⟩
abbrev S512x128 : Shape := ⟨2, ![512, 128]⟩
abbrev S512x3840 : Shape := ⟨2, ![512, 3840]⟩
abbrev S512 : Shape := ⟨1, ![512]⟩
abbrev S512x1 : Shape := ⟨2, ![512, 1]⟩
abbrev S512x256 : Shape := ⟨2, ![512, 256]⟩
abbrev S1024x256 : Shape := ⟨2, ![1024, 256]⟩

abbrev nBuf : Space → Nat
  | .hbm => 20
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S32768x32, .f32⟩
  | .hbm, ⟨2, _⟩ => ⟨S32768x32, .f32⟩
  | .hbm, ⟨3, _⟩ => ⟨S1x1024, .f32⟩
  | .hbm, ⟨4, _⟩ => ⟨S1x1024x5888, .f32⟩
  | .hbm, ⟨5, _⟩ => ⟨S1x32768x1x32, .f32⟩
  | .hbm, ⟨6, _⟩ => ⟨S1x32768x4x32, .f32⟩
  | .hbm, ⟨7, _⟩ => ⟨S32768x128, .f32⟩
  | .hbm, ⟨8, _⟩ => ⟨S32768x32, .f32⟩
  | .hbm, ⟨9, _⟩ => ⟨S32768x64, .f32⟩
  | .hbm, ⟨10, _⟩ => ⟨S1x32768x1x64, .f32⟩
  | .hbm, ⟨11, _⟩ => ⟨S1x32768x2x64, .f32⟩
  | .hbm, ⟨12, _⟩ => ⟨S32768x128, .f32⟩
  | .hbm, ⟨13, _⟩ => ⟨S32768x1024, .f32⟩
  | .hbm, ⟨14, _⟩ => ⟨S1024x5888, .f32⟩
  | .hbm, ⟨15, _⟩ => ⟨S1024x3840, .f32⟩
  | .hbm, ⟨16, _⟩ => ⟨S1024x3840, .bf16⟩
  | .hbm, ⟨17, _⟩ => ⟨S1024, .f32⟩
  | .hbm, ⟨18, _⟩ => ⟨S1x1024, .f32⟩
  | .hbm, ⟨19, _⟩ => ⟨S32768x3840, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3840, .bf16⟩
  | .local _ .vmem, ⟨9, _⟩ => ⟨S512x3840, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3840 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvReferenceIdeal.lean ====
abbrev S8x4096x1024 : Shape := ⟨3, ![8, 4096, 1024]⟩
abbrev S32768x32 : Shape := ⟨2, ![32768, 32]⟩
abbrev S1x1024 : Shape := ⟨2, ![1, 1024]⟩
abbrev S1x1024x5888 : Shape := ⟨3, ![1, 1024, 5888]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5888 : Shape := ⟨2, ![1024, 5888]⟩
abbrev S1024x3840 : Shape := ⟨2, ![1024, 3840]⟩
abbrev S32768x3840 : Shape := ⟨2, ![32768, 3840]⟩
abbrev S32768x512 : Shape := ⟨2, ![32768, 512]⟩
abbrev S32768x768 : Shape := ⟨2, ![32768, 768]⟩
abbrev S32768x12x64 : Shape := ⟨3, ![32768, 12, 64]⟩
abbrev S32768x1x32 : Shape := ⟨3, ![32768, 1, 32]⟩
abbrev S32768x12x32 : Shape := ⟨3, ![32768, 12, 32]⟩

abbrev nBuf : Space → Nat
  | .hbm => 74
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x32, .f32⟩
  | .hbm, ⟨2, _⟩ => ⟨S32768x32, .f32⟩
  | .hbm, ⟨3, _⟩ => ⟨S1x1024, .f32⟩
  | .hbm, ⟨4, _⟩ => ⟨S1x1024x5888, .f32⟩
  | .hbm, ⟨5, _⟩ => ⟨S32768x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x5888, .f32⟩
  | .hbm, ⟨24, _⟩ => ⟨S1024x3840, .f32⟩
  | .hbm, ⟨25, _⟩ => ⟨S32768x3840, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x768, .f32⟩
  | .hbm, ⟨30, _⟩ => ⟨S32768x768, .f32⟩
  | .hbm, ⟨31, _⟩ => ⟨S32768x768, .f32⟩
  | .hbm, ⟨32, _⟩ => ⟨S_, .f32⟩
  | .hbm, ⟨33, _⟩ => ⟨S32768x512, .f32⟩
  | .hbm, ⟨34, _⟩ => ⟨S32768x512, .f32⟩
  | .hbm, ⟨35, _⟩ => ⟨S32768x12x64, .f32⟩
  | .hbm, ⟨36, _⟩ => ⟨S32768x1x32, .f32⟩
  | .hbm, ⟨37, _⟩ => ⟨S32768x1x32, .f32⟩
  | .hbm, ⟨38, _⟩ => ⟨S32768x12x32, .f32⟩
  | .hbm, ⟨39, _⟩ => ⟨S32768x12x32, .f32⟩
  | .hbm, ⟨40, _⟩ => ⟨S32768x12x32, .f32⟩
  | .hbm, ⟨41, _⟩ => ⟨S32768x12x32, .f32⟩
  | .hbm, ⟨42, _⟩ => ⟨S32768x12x32, .f32⟩
  | .hbm, ⟨43, _⟩ => ⟨S32768x12x32, .f32⟩
  | .hbm, ⟨44, _⟩ => ⟨S32768x12x32, .f32⟩
  | .hbm, ⟨45, _⟩ => ⟨S32768x12x32, .f32⟩
  | .hbm, ⟨46, _⟩ => ⟨S32768x12x32, .f32⟩
  | .hbm, ⟨47, _⟩ => ⟨S32768x12x32, .f32⟩
  | .hbm, ⟨48, _⟩ => ⟨S32768x12x32, .f32⟩
  | .hbm, ⟨49, _⟩ => ⟨S32768x12x32, .f32⟩
  | .hbm, ⟨50, _⟩ => ⟨S32768x12x64, .f32⟩
  | .hbm, ⟨51, _⟩ => ⟨S32768x768, .f32⟩
  | .hbm, ⟨52, _⟩ => ⟨S_, .f32⟩
  | .hbm, ⟨53, _⟩ => ⟨S32768x768, .f32⟩
  | .hbm, ⟨54, _⟩ => ⟨S32768x768, .f32⟩
  | .hbm, ⟨55, _⟩ => ⟨S32768x12x64, .f32⟩
  | .hbm, ⟨56, _⟩ => ⟨S32768x1x32, .f32⟩
  | .hbm, ⟨57, _⟩ => ⟨S32768x1x32, .f32⟩
  | .hbm, ⟨58, _⟩ => ⟨S32768x12x32, .f32⟩
  | .hbm, ⟨59, _⟩ => ⟨S32768x12x32, .f32⟩
  | .hbm, ⟨60, _⟩ => ⟨S32768x12x32, .f32⟩
  | .hbm, ⟨61, _⟩ => ⟨S32768x12x32, .f32⟩
  | .hbm, ⟨62, _⟩ => ⟨S32768x12x32, .f32⟩
  | .hbm, ⟨63, _⟩ => ⟨S32768x12x32, .f32⟩
  | .hbm, ⟨64, _⟩ => ⟨S32768x12x32, .f32⟩
  | .hbm, ⟨65, _⟩ => ⟨S32768x12x32, .f32⟩
  | .hbm, ⟨66, _⟩ => ⟨S32768x12x32, .f32⟩
  | .hbm, ⟨67, _⟩ => ⟨S32768x12x32, .f32⟩
  | .hbm, ⟨68, _⟩ => ⟨S32768x12x32, .f32⟩
  | .hbm, ⟨69, _⟩ => ⟨S32768x12x32, .f32⟩
  | .hbm, ⟨70, _⟩ => ⟨S32768x12x64, .f32⟩
  | .hbm, ⟨71, _⟩ => ⟨S32768x768, .f32⟩
  | .hbm, ⟨72, _⟩ => ⟨S32768x3840, .f32⟩
  | .hbm, ⟨73, _⟩ => ⟨S32768x3840, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== DilKernel1.lean ====
abbrev S8x4096x3840 : Shape := ⟨3, ![8, 4096, 3840]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S8x4096x256 : Shape := ⟨3, ![8, 4096, 256]⟩
abbrev S1x4096x256 : Shape := ⟨3, ![1, 4096, 256]⟩
abbrev S1x256x256 : Shape := ⟨3, ![1, 256, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 56
  | .vmem => 11
  | .smem => 0
  | _ => 0

abbrev bufTy : (tb : Table) → Fin (tcTables nBuf tb) → BufTy
  | .hbm, ⟨0, _⟩ => ⟨S8x4096x3840, .bf16⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .f32⟩
  | .hbm, ⟨16, _⟩ => ⟨S_, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S_, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S1x128x256, .f32⟩
  | .hbm, ⟨51, _⟩ => ⟨S1x128x256, .f32⟩
  | .hbm, ⟨52, _⟩ => ⟨S1x128x256, .f32⟩
  | .hbm, ⟨53, _⟩ => ⟨S3x128x256, .f32⟩
  | .hbm, ⟨54, _⟩ => ⟨S8x4096x256, .bf16⟩
  | .hbm, ⟨55, _⟩ => ⟨S8x4096x256, .f32⟩
  | .local _ .vmem, ⟨0, _⟩ => ⟨S1x128x256, .bf16⟩
  | .local _ .vmem, ⟨1, _⟩ => ⟨S1x128x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S3x128x256, .f32⟩
  | .local _ .vmem, ⟨7, _⟩ => ⟨S1x128x256, .bf16⟩
  | .local _ .vmem, ⟨8, _⟩ => ⟨S1x128x256, .bf16⟩
  | .local _ .vmem, ⟨9, _⟩ => ⟨S1x128x256, .f32⟩
  | .local _ .vmem, ⟨10, _⟩ => ⟨S1x128x256, .f32⟩
  | _, _ => ⟨S8x4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35_0 : Ref sig .tc := ⟨.hbm, 54, rfl⟩
abbrev main_v35_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 32], ![false, false, false]⟩

def k0_mult1 (i : grid0.Coords) : BitVec 32 :=
  let c3840_i32 : BitVec 32 := 3840#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c3840_i32 v2
  v3
def k0_off1 (i : grid0.Coords) : Fin 3 → Nat :=
  let c0 : Index := 0#32
  let c3840_i32 : BitVec 32 := 3840#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c3840_i32 v2
  let v4 : BitVec 32 := v3
  let v5 : Index := Scalar.indexCast v4
  let c0_0 : Index := 0#32
  ![0, v5.toNat, 0]
def k0_off2 (i : grid0.Coords) : Fin 3 → Nat :=
  let arg2 : BitVec 32 := BitVec.ofNat 32 (i 2).val
  let c0_i32_3 : BitVec 32 := 0#32
  let v11 : BitVec 1 := Scalar.cmpi .eq arg2 c0_i32_3
  let c0_i32_4 : BitVec 32 := 0#32
  let c31_i32 : BitVec 32 := 31#32
  let v12 : BitVec 1 := Scalar.cmpi .eq arg2 c31_i32
  let c2_i32 : BitVec 32 := 2#32
  let c1_i32 : BitVec 32 := 1#32
  let v13 : BitVec 32 := Scalar.select v12 c2_i32 c1_i32
  let v14 : BitVec 32 := Scalar.select v11 c0_i32_4 v13
  let v15 : Index := Scalar.indexCast v14
  let c0_5 : Index := 0#32
  let c0_6 : Index := 0#32
  ![v15.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c6_i32 : BitVec 32 := 6#32
  let v1 : BitVec 32 := Scalar.addi v0 c6_i32
  let c0_i32 : BitVec 32 := 0#32
  let v2 : BitVec 32 := Scalar.addi v1 c0_i32
  let c0_i32_0 : BitVec 32 := 0#32
  ![arg0.toNat, arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c9_i32 : BitVec 32 := 9#32
  let v1 : BitVec 32 := Scalar.addi v0 c9_i32
  let c0_i32 : BitVec 32 := 0#32
  let v2 : BitVec 32 := Scalar.addi v1 c0_i32
  let c0_i32_0 : BitVec 32 := 0#32
  let c0_i32_1 : BitVec 32 := 0#32
  ![arg0.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c12_i32 : BitVec 32 := 12#32
  let v1 : BitVec 32 := Scalar.addi v0 c12_i32
  let c0_i32 : BitVec 32 := 0#32
  let v2 : BitVec 32 := Scalar.addi v1 c0_i32
  let c0_i32_0 : BitVec 32 := 0#32
  let c0_i32_1 : BitVec 32 := 0#32
  ![arg0.toNat, c0_i32_0.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DilReference1Ideal.lean ====
abbrev S8x4096x3840 : Shape := ⟨3, ![8, 4096, 3840]⟩
abbrev S8x4096x256 : Shape := ⟨3, ![8, 4096, 256]⟩
abbrev S8x4096x1x4x64 : Shape := ⟨5, ![8, 4096, 1, 4, 64]⟩
abbrev S8x1x4x4096x4096 : Shape := ⟨5, ![8, 1, 4, 4096, 4096]⟩
abbrev S4096x4096 : Shape := ⟨2, ![4096, 4096]⟩
abbrev S_ : Shape := ⟨0, ![]⟩
abbrev S8x1x4x4096 : Shape := ⟨4, ![8, 1, 4, 4096]⟩
abbrev S8x1x4x4096x1 : Shape := ⟨5, ![8, 1, 4, 4096, 1]⟩
abbrev S8x1x4x64x4096 : Shape := ⟨5, ![8, 1, 4, 64, 4096]⟩
abbrev S8x4096x1x4 : Shape := ⟨4, ![8, 4096, 1, 4]⟩
abbrev S8x4096x1x4x1 : Shape := ⟨5, ![8, 4096, 1, 4, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x3840, .bf16⟩
  | .hbm, ⟨1, _⟩ => ⟨S8x4096x256, .bf16⟩
  | .hbm, ⟨2, _⟩ => ⟨S8x4096x256, .f32⟩
  | .hbm, ⟨3, _⟩ => ⟨S8x4096x1x4x64, .f32⟩
  | .hbm, ⟨4, _⟩ => ⟨S8x4096x256, .bf16⟩
  | .hbm, ⟨5, _⟩ => ⟨S8x4096x256, .f32⟩
  | .hbm, ⟨6, _⟩ => ⟨S8x4096x1x4x64, .f32⟩
  | .hbm, ⟨7, _⟩ => ⟨S8x4096x256, .bf16⟩
  | .hbm, ⟨8, _⟩ => ⟨S8x4096x256, .f32⟩
  | .hbm, ⟨9, _⟩ => ⟨S8x4096x1x4x64, .f32⟩
  | .hbm, ⟨10, _⟩ => ⟨S8x1x4x4096x4096, .f32⟩
  | .hbm, ⟨11, _⟩ => ⟨S4096x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x1x4x4096x4096, .i1⟩
  | .hbm, ⟨21, _⟩ => ⟨S8x1x4x4096x4096, .f32⟩
  | .hbm, ⟨22, _⟩ => ⟨S8x1x4x4096x4096, .f32⟩
  | .hbm, ⟨23, _⟩ => ⟨S_, .f32⟩
  | .hbm, ⟨24, _⟩ => ⟨S8x1x4x4096, .f32⟩
  | .hbm, ⟨25, _⟩ => ⟨S8x1x4x4096x1, .f32⟩
  | .hbm, ⟨26, _⟩ => ⟨S8x1x4x4096x4096, .f32⟩
  | .hbm, ⟨27, _⟩ => ⟨S8x1x4x4096x4096, .f32⟩
  | .hbm, ⟨28, _⟩ => ⟨S8x1x4x4096x4096, .f32⟩
  | .hbm, ⟨29, _⟩ => ⟨S_, .f32⟩
  | .hbm, ⟨30, _⟩ => ⟨S8x1x4x4096, .f32⟩
  | .hbm, ⟨31, _⟩ => ⟨S8x1x4x4096, .f32⟩
  | .hbm, ⟨32, _⟩ => ⟨S8x1x4x4096, .f32⟩
  | .hbm, ⟨33, _⟩ => ⟨S8x1x4x4096x1, .f32⟩
  | .hbm, ⟨34, _⟩ => ⟨S8x1x4x4096x4096, .f32⟩
  | .hbm, ⟨35, _⟩ => ⟨S8x1x4x4096x4096, .f32⟩
  | .hbm, ⟨36, _⟩ => ⟨S8x1x4x4096x4096, .f32⟩
  | .hbm, ⟨37, _⟩ => ⟨S8x1x4x64x4096, .f32⟩
  | .hbm, ⟨38, _⟩ => ⟨S8x4096x1x4x64, .f32⟩
  | .hbm, ⟨39, _⟩ => ⟨S8x4096x256, .f32⟩
  | .hbm, ⟨40, _⟩ => ⟨S8x4096x256, .bf16⟩
  | .hbm, ⟨41, _⟩ => ⟨S8x4096x1x4, .f32⟩
  | .hbm, ⟨42, _⟩ => ⟨S8x4096x1x4x1, .f32⟩
  | .hbm, ⟨43, _⟩ => ⟨S8x4096x1x4x64, .f32⟩
  | .hbm, ⟨44, _⟩ => ⟨S8x4096x256, .f32⟩
  | _, _ => ⟨S8x4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== DilKernel16.lean ====
abbrev S8x4096x3840 : Shape := ⟨3, ![8, 4096, 3840]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S3x128x256 : Shape := ⟨3, ![3, 128, 256]⟩
abbrev S8x256x61440 : Shape := ⟨3, ![8, 256, 61440]⟩
abbrev S8x256x4096 : Shape := ⟨3, ![8, 256, 4096]⟩
abbrev S1x256x256 : Shape := ⟨3, ![1, 256, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 57
  | .vmem => 11
  | .smem => 0
  | _ => 0

abbrev bufTy : (tb : Table) → Fin (tcTables nBuf tb) → BufTy
  | .hbm, ⟨0, _⟩ => ⟨S8x4096x3840, .bf16⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .f32⟩
  | .hbm, ⟨16, _⟩ => ⟨S_, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S_, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S1x128x256, .f32⟩
  | .hbm, ⟨51, _⟩ => ⟨S1x128x256, .f32⟩
  | .hbm, ⟨52, _⟩ => ⟨S1x128x256, .f32⟩
  | .hbm, ⟨53, _⟩ => ⟨S3x128x256, .f32⟩
  | .hbm, ⟨54, _⟩ => ⟨S8x256x61440, .bf16⟩
  | .hbm, ⟨55, _⟩ => ⟨S8x256x4096, .bf16⟩
  | .hbm, ⟨56, _⟩ => ⟨S8x256x4096, .f32⟩
  | .local _ .vmem, ⟨0, _⟩ => ⟨S1x128x256, .bf16⟩
  | .local _ .vmem, ⟨1, _⟩ => ⟨S1x128x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S3x128x256, .f32⟩
  | .local _ .vmem, ⟨7, _⟩ => ⟨S1x128x256, .bf16⟩
  | .local _ .vmem, ⟨8, _⟩ => ⟨S1x128x256, .bf16⟩
  | .local _ .vmem, ⟨9, _⟩ => ⟨S1x128x256, .f32⟩
  | .local _ .vmem, ⟨10, _⟩ => ⟨S1x128x256, .f32⟩
  | _, _ => ⟨S8x4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36_0 : Ref sig .tc := ⟨.hbm, 55, rfl⟩
abbrev main_v36_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 16, 2], ![false, false, false]⟩

def k0_mult1 (i : grid0.Coords) : BitVec 32 :=
  let c0_i32_0 : BitVec 32 := 0#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c0_i32_0 v2
  v3
def k0_off1 (i : grid0.Coords) : Fin 3 → Nat :=
  let c0 : Index := 0#32
  let c0_i32_0 : BitVec 32 := 0#32
  let c0_i32 : BitVec 32 := 0#32
  let arg2 : BitVec 32 := BitVec.ofNat 32 (i 2).val
  let c128_i32 : BitVec 32 := 128#32
  let v0 : BitVec 32 := Scalar.muli arg2 c128_i32
  let c64_i32 : BitVec 32 := 64#32
  let v1 : BitVec 32 := Scalar.subi v0 c64_i32
  let v2 : BitVec 32 := Scalar.maxsi c0_i32 v1
  let v3 : BitVec 32 := Scalar.minsi c0_i32_0 v2
  let v4 : BitVec 32 := v3
  let v5 : Index := Scalar.indexCast v4
  let c0_1 : Index := 0#32
  ![0, v5.toNat, 0]
def k0_off2 (i : grid0.Coords) : Fin 3 → Nat :=
  let arg2 : BitVec 32 := BitVec.ofNat 32 (i 2).val
  let c0_i32_4 : BitVec 32 := 0#32
  let v11 : BitVec 1 := Scalar.cmpi .eq arg2 c0_i32_4
  let c0_i32_6 : BitVec 32 := 0#32
  let c1_i32 : BitVec 32 := 1#32
  let v12 : BitVec 1 := Scalar.cmpi .eq arg2 c1_i32
  let c2_i32 : BitVec 32 := 2#32
  let c1_i32_5 : BitVec 32 := 1#32
  let v13 : BitVec 32 := Scalar.select v12 c2_i32 c1_i32_5
  let v14 : BitVec 32 := Scalar.select v11 c0_i32_6 v13
  let v15 : Index := Scalar.indexCast v14
  let c0_7 : Index := 0#32
  let c0_8 : Index := 0#32
  ![v15.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c6_i32 : BitVec 32 := 6#32
  let v1 : BitVec 32 := Scalar.addi v0 c6_i32
  let c2_i32 : BitVec 32 := 2#32
  let v2 : BitVec 32 := Scalar.addi v1 c2_i32
  let c0_i32 : BitVec 32 := 0#32
  ![arg0.toNat, arg2.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c9_i32 : BitVec 32 := 9#32
  let v1 : BitVec 32 := Scalar.addi v0 c9_i32
  let c2_i32 : BitVec 32 := 2#32
  let v2 : BitVec 32 := Scalar.addi v1 c2_i32
  let c0_i32 : BitVec 32 := 0#32
  let c0_i32_0 : BitVec 32 := 0#32
  ![arg0.toNat, c0_i32.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.muli arg1 c15_i32
  let c12_i32 : BitVec 32 := 12#32
  let v1 : BitVec 32 := Scalar.addi v0 c12_i32
  let c2_i32 : BitVec 32 := 2#32
  let v2 : BitVec 32 := Scalar.addi v1 c2_i32
  let c0_i32 : BitVec 32 := 0#32
  let c0_i32_0 : BitVec 32 := 0#32
  ![arg0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DilReference16Ideal.lean ====
abbrev S8x4096x3840 : Shape := ⟨3, ![8, 4096, 3840]⟩
abbrev S8x4096x256 : Shape := ⟨3, ![8, 4096, 256]⟩
abbrev S8x256x16x4x64 : Shape := ⟨5, ![8, 256, 16, 4, 64]⟩
abbrev S8x16x4x256x256 : Shape := ⟨5, ![8, 16, 4, 256, 256]⟩
abbrev S256x256 : Shape := ⟨2, ![256, 256]⟩
abbrev S_ : Shape := ⟨0, ![]⟩
abbrev S8x16x4x256 : Shape := ⟨4, ![8, 16, 4, 256]⟩
abbrev S8x16x4x256x1 : Shape := ⟨5, ![8, 16, 4, 256, 1]⟩
abbrev S8x16x4x64x256 : Shape := ⟨5, ![8, 16, 4, 64, 256]⟩
abbrev S8x256x4096 : Shape := ⟨3, ![8, 256, 4096]⟩
abbrev S8x256x16x4 : Shape := ⟨4, ![8, 256, 16, 4]⟩
abbrev S8x256x16x4x1 : Shape := ⟨5, ![8, 256, 16, 4, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x3840, .bf16⟩
  | .hbm, ⟨1, _⟩ => ⟨S8x4096x256, .bf16⟩
  | .hbm, ⟨2, _⟩ => ⟨S8x4096x256, .f32⟩
  | .hbm, ⟨3, _⟩ => ⟨S8x256x16x4x64, .f32⟩
  | .hbm, ⟨4, _⟩ => ⟨S8x4096x256, .bf16⟩
  | .hbm, ⟨5, _⟩ => ⟨S8x4096x256, .f32⟩
  | .hbm, ⟨6, _⟩ => ⟨S8x256x16x4x64, .f32⟩
  | .hbm, ⟨7, _⟩ => ⟨S8x4096x256, .bf16⟩
  | .hbm, ⟨8, _⟩ => ⟨S8x4096x256, .f32⟩
  | .hbm, ⟨9, _⟩ => ⟨S8x256x16x4x64, .f32⟩
  | .hbm, ⟨10, _⟩ => ⟨S8x16x4x256x256, .f32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .f32⟩
  | .hbm, ⟨19, _⟩ => ⟨S_, .f32⟩
  | .hbm, ⟨20, _⟩ => ⟨S8x16x4x256x256, .i1⟩
  | .hbm, ⟨21, _⟩ => ⟨S8x16x4x256x256, .f32⟩
  | .hbm, ⟨22, _⟩ => ⟨S8x16x4x256x256, .f32⟩
  | .hbm, ⟨23, _⟩ => ⟨S_, .f32⟩
  | .hbm, ⟨24, _⟩ => ⟨S8x16x4x256, .f32⟩
  | .hbm, ⟨25, _⟩ => ⟨S8x16x4x256x1, .f32⟩
  | .hbm, ⟨26, _⟩ => ⟨S8x16x4x256x256, .f32⟩
  | .hbm, ⟨27, _⟩ => ⟨S8x16x4x256x256, .f32⟩
  | .hbm, ⟨28, _⟩ => ⟨S8x16x4x256x256, .f32⟩
  | .hbm, ⟨29, _⟩ => ⟨S_, .f32⟩
  | .hbm, ⟨30, _⟩ => ⟨S8x16x4x256, .f32⟩
  | .hbm, ⟨31, _⟩ => ⟨S8x16x4x256, .f32⟩
  | .hbm, ⟨32, _⟩ => ⟨S8x16x4x256, .f32⟩
  | .hbm, ⟨33, _⟩ => ⟨S8x16x4x256x1, .f32⟩
  | .hbm, ⟨34, _⟩ => ⟨S8x16x4x256x256, .f32⟩
  | .hbm, ⟨35, _⟩ => ⟨S8x16x4x256x256, .f32⟩
  | .hbm, ⟨36, _⟩ => ⟨S8x16x4x256x256, .f32⟩
  | .hbm, ⟨37, _⟩ => ⟨S8x16x4x64x256, .f32⟩
  | .hbm, ⟨38, _⟩ => ⟨S8x256x16x4x64, .f32⟩
  | .hbm, ⟨39, _⟩ => ⟨S8x256x4096, .f32⟩
  | .hbm, ⟨40, _⟩ => ⟨S8x256x4096, .bf16⟩
  | .hbm, ⟨41, _⟩ => ⟨S8x256x16x4, .f32⟩
  | .hbm, ⟨42, _⟩ => ⟨S8x256x16x4x1, .f32⟩
  | .hbm, ⟨43, _⟩ => ⟨S8x256x16x4x64, .f32⟩
  | .hbm, ⟨44, _⟩ => ⟨S8x256x4096, .f32⟩
  | _, _ => ⟨S8x4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_c : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩

abbrev nD : Nat := 1
abbrev τ : Topo := Topo.v7x

variable {F : FTy → Type} [FloatOps F]
-- ==== NaKernel.lean ====
abbrev S8x4096x3840 : Shape := ⟨3, ![8, 4096, 3840]⟩
abbrev S1x8x15x31 : Shape := ⟨4, ![1, 8, 15, 31]⟩
abbrev S8x15x31 : Shape := ⟨3, ![8, 15, 31]⟩
abbrev S4 : Shape := ⟨1, ![4]⟩
abbrev S4x1x1x1 : Shape := ⟨4, ![4, 1, 1, 1]⟩
abbrev S_ : Shape := ⟨0, ![]⟩
abbrev S64 : Shape := ⟨1, ![64]⟩
abbrev S1x64x1x1 : Shape := ⟨4, ![1, 64, 1, 1]⟩
abbrev S12 : Shape := ⟨1, ![12]⟩
abbrev S1x1x12x1 : Shape := ⟨4, ![1, 1, 12, 1]⟩
abbrev S1x1x1x64 : Shape := ⟨4, ![1, 1, 1, 64]⟩
abbrev S4x1x12x1 : Shape := ⟨4, ![4, 1, 12, 1]⟩
abbrev S1x64x1x64 : Shape := ⟨4, ![1, 64, 1, 64]⟩
abbrev S4x64x12x64 : Shape := ⟨4, ![4, 64, 12, 64]⟩
abbrev S256x768 : Shape := ⟨2, ![256, 768]⟩
abbrev S1x256x768 : Shape := ⟨3, ![1, 256, 768]⟩
abbrev S3x256x768 : Shape := ⟨3, ![3, 256, 768]⟩
abbrev S8x465 : Shape := ⟨2, ![8, 465]⟩
abbrev S3x256x768x1 : Shape := ⟨4, ![3, 256, 768, 1]⟩
abbrev S1 : Shape := ⟨1, ![1]⟩
abbrev S1x1x1x1 : Shape := ⟨4, ![1, 1, 1, 1]⟩
abbrev S8x3x256x768 : Shape := ⟨4, ![8, 3, 256, 768]⟩
abbrev S1x3x256x768 : Shape := ⟨4, ![1, 3, 256, 768]⟩
abbrev S2x4x3x256x768 : Shape := ⟨5, ![2, 4, 3, 256, 768]⟩
abbrev S3x2x4x256x768 : Shape := ⟨5, ![3, 2, 4, 256, 768]⟩
abbrev S3x2x1024x768 : Shape := ⟨4, ![3, 2, 1024, 768]⟩
abbrev S8x4096x512 : Shape := ⟨3, ![8, 4096, 512]⟩
abbrev S1x256x256 : Shape := ⟨3, ![1, 256, 256]⟩
abbrev S1x4096x256 : Shape := ⟨3, ![1, 4096, 256]⟩
abbrev S1x1x1024x768 : Shape := ⟨4, ![1, 1, 1024, 768]⟩
abbrev S1x768x256 : Shape := ⟨3, ![1, 768, 256]⟩
abbrev S768x256 : Shape := ⟨2, ![768, 256]⟩
abbrev S256x256 : Shape := ⟨2, ![256, 256]⟩
abbrev S1024x256 : Shape := ⟨2, ![1024, 256]⟩
abbrev S1024x768 : Shape := ⟨2, ![1024, 768]⟩
abbrev S1024 : Shape := ⟨1, ![1024]⟩
abbrev S1024x1 : Shape := ⟨2, ![1024, 1]⟩

abbrev nBuf : Space → Nat
  | .hbm => 351
  | .vmem => 10
  | .smem => 0
  | _ => 0

abbrev hbmTy0_0 (i : Nat) : BufTy := match i % 128 with
  | 0 => ⟨S8x4096x3840, .bf16⟩
  | 1 => ⟨S1x8x15x31, .f32⟩
  | 2 => ⟨S8x15x31, .f32⟩
  | 3 => ⟨S4, .i32⟩
  | 4 => ⟨S4x1x1x1, .i32⟩
  | 5 => ⟨S_, .i32⟩
  | 6 => ⟨S4x1x1x1, .i32⟩
  | 7 => ⟨S4x1x1x1, .i32⟩
  | 8 => ⟨S64, .i32⟩
  | 9 => ⟨S1x64x1x1, .i32⟩
  | 10 => ⟨S12, .i32⟩
  | 11 => ⟨S1x1x12x1, .i32⟩
  | 12 => ⟨S_, .i32⟩
  | 13 => ⟨S1x1x12x1, .i32⟩
  | 14 => ⟨S1x1x12x1, .i32⟩
  | 15 => ⟨S64, .i32⟩
  | 16 => ⟨S1x1x1x64, .i32⟩
  | 17 => ⟨S_, .i32⟩
  | 18 => ⟨S4x1x1x1, .i32⟩
  | 19 => ⟨S4x1x1x1, .i32⟩
  | 20 => ⟨S_, .i32⟩
  | 21 => ⟨S_, .i32⟩
  | 22 => ⟨S_, .i32⟩
  | 23 => ⟨S4x1x1x1, .i32⟩
  | 24 => ⟨S4x1x1x1, .i32⟩
  | 25 => ⟨S_, .i32⟩
  | 26 => ⟨S4x1x1x1, .i32⟩
  | 27 => ⟨S4x1x1x1, .i32⟩
  | 28 => ⟨S_, .i32⟩
  | 29 => ⟨S1x64x1x1, .i32⟩
  | 30 => ⟨S1x64x1x1, .i32⟩
  | 31 => ⟨S_, .i32⟩
  | 32 => ⟨S_, .i32⟩
  | 33 => ⟨S_, .i32⟩
  | 34 => ⟨S1x64x1x1, .i32⟩
  | 35 => ⟨S1x64x1x1, .i32⟩
  | 36 => ⟨S_, .i32⟩
  | 37 => ⟨S1x64x1x1, .i32⟩
  | 38 => ⟨S1x64x1x1, .i32⟩
  | 39 => ⟨S4x1x12x1, .i32⟩
  | 40 => ⟨S4x1x12x1, .i32⟩
  | 41 => ⟨S4x1x12x1, .i1⟩
  | 42 => ⟨S_, .i32⟩
  | 43 => ⟨S4x1x1x1, .i32⟩
  | 44 => ⟨S4x1x1x1, .i32⟩
  | 45 => ⟨S4x1x12x1, .i32⟩
  | 46 => ⟨S4x1x12x1, .i32⟩
  | 47 => ⟨S4x1x12x1, .i1⟩
  | 48 => ⟨S4x1x12x1, .i1⟩
  | 49 => ⟨S1x64x1x64, .i32⟩
  | 50 => ⟨S1x64x1x64, .i32⟩
  | 51 => ⟨S1x64x1x64, .i1⟩
  | 52 => ⟨S4x64x12x64, .i1⟩
  | 53 => ⟨S4x64x12x64, .i1⟩
  | 54 => ⟨S4x64x12x64, .i1⟩
  | 55 => ⟨S_, .i32⟩
  | 56 => ⟨S1x64x1x1, .i32⟩
  | 57 => ⟨S1x64x1x1, .i32⟩
  | 58 => ⟨S1x64x1x64, .i32⟩
  | 59 => ⟨S1x64x1x64, .i32⟩
  | 60 => ⟨S1x64x1x64, .i1⟩
  | 61 => ⟨S4x64x12x64, .i1⟩
  | 62 => ⟨S4x64x12x64, .i1⟩
  | 63 => ⟨S4x1x12x1, .i32⟩
  | 64 => ⟨S4x1x12x1, .i32⟩
  | 65 => ⟨S4x1x12x1, .i32⟩
  | 66 => ⟨S_, .i32⟩
  | 67 => ⟨S4x1x12x1, .i32⟩
  | 68 => ⟨S4x1x12x1, .i32⟩
  | 69 => ⟨S_, .i32⟩
  | 70 => ⟨S4x1x12x1, .i32⟩
  | 71 => ⟨S4x1x12x1, .i32⟩
  | 72 => ⟨S_, .i32⟩
  | 73 => ⟨S_, .i32⟩
  | 74 => ⟨S_, .i32⟩
  | 75 => ⟨S4x1x12x1, .i32⟩
  | 76 => ⟨S4x1x12x1, .i32⟩
  | 77 => ⟨S_, .i32⟩
  | 78 => ⟨S4x1x12x1, .i32⟩
  | 79 => ⟨S4x1x12x1, .i32⟩
  | 80 => ⟨S1x64x1x64, .i32⟩
  | 81 => ⟨S1x64x1x64, .i32⟩
  | 82 => ⟨S1x64x1x64, .i32⟩
  | 83 => ⟨S_, .i32⟩
  | 84 => ⟨S1x64x1x64, .i32⟩
  | 85 => ⟨S1x64x1x64, .i32⟩
  | 86 => ⟨S_, .i32⟩
  | 87 => ⟨S1x64x1x64, .i32⟩
  | 88 => ⟨S1x64x1x64, .i32⟩
  | 89 => ⟨S_, .i32⟩
  | 90 => ⟨S_, .i32⟩
  | 91 => ⟨S_, .i32⟩
  | 92 => ⟨S1x64x1x64, .i32⟩
  | 93 => ⟨S1x64x1x64, .i32⟩
  | 94 => ⟨S_, .i32⟩
  | 95 => ⟨S1x64x1x64, .i32⟩
  | 96 => ⟨S1x64x1x64, .i32⟩
  | 97 => ⟨S_, .i32⟩
  | 98 => ⟨S4x1x12x1, .i32⟩
  | 99 => ⟨S4x1x12x1, .i32⟩
  | 100 => ⟨S4x64x12x64, .i32⟩
  | 101 => ⟨S4x64x12x64, .i32⟩
  | 102 => ⟨S4x64x12x64, .i32⟩
  | 103 => ⟨S256x768, .i32⟩
  | 104 => ⟨S256x768, .i1⟩
  | 105 => ⟨S4, .i32⟩
  | 106 => ⟨S4x1x1x1, .i32⟩
  | 107 => ⟨S_, .i32⟩
  | 108 => ⟨S4x1x1x1, .i32⟩
  | 109 => ⟨S4x1x1x1, .i32⟩
  | 110 => ⟨S64, .i32⟩
  | 111 => ⟨S1x64x1x1, .i32⟩
  | 112 => ⟨S12, .i32⟩
  | 113 => ⟨S1x1x12x1, .i32⟩
  | 114 => ⟨S_, .i32⟩
  | 115 => ⟨S1x1x12x1, .i32⟩
  | 116 => ⟨S1x1x12x1, .i32⟩
  | 117 => ⟨S64, .i32⟩
  | 118 => ⟨S1x1x1x64, .i32⟩
  | 119 => ⟨S_, .i32⟩
  | 120 => ⟨S4x1x1x1, .i32⟩
  | 121 => ⟨S4x1x1x1, .i32⟩
  | 122 => ⟨S_, .i32⟩
  | 123 => ⟨S_, .i32⟩
  | 124 => ⟨S_, .i32⟩
  | 125 => ⟨S4x1x1x1, .i32⟩
  | 126 => ⟨S4x1x1x1, .i32⟩
  | 127 => ⟨S_, .i32⟩
  | _ => ⟨S8x4096x3840, .bf16⟩

abbrev hbmTy0_1 (i : Nat) : BufTy := match i % 128 with
  | 0 => ⟨S4x1x1x1, .i32⟩
  | 1 => ⟨S4x1x1x1, .i32⟩
  | 2 => ⟨S_, .i32⟩
  | 3 => ⟨S1x64x1x1, .i32⟩
  | 4 => ⟨S1x64x1x1, .i32⟩
  | 5 => ⟨S_, .i32⟩
  | 6 => ⟨S_, .i32⟩
  | 7 => ⟨S_, .i32⟩
  | 8 => ⟨S1x64x1x1, .i32⟩
  | 9 => ⟨S1x64x1x1, .i32⟩
  | 10 => ⟨S_, .i32⟩
  | 11 => ⟨S1x64x1x1, .i32⟩
  | 12 => ⟨S1x64x1x1, .i32⟩
  | 13 => ⟨S4x1x12x1, .i32⟩
  | 14 => ⟨S4x1x12x1, .i32⟩
  | 15 => ⟨S4x1x12x1, .i1⟩
  | 16 => ⟨S_, .i32⟩
  | 17 => ⟨S4x1x1x1, .i32⟩
  | 18 => ⟨S4x1x1x1, .i32⟩
  | 19 => ⟨S4x1x12x1, .i32⟩
  | 20 => ⟨S4x1x12x1, .i32⟩
  | 21 => ⟨S4x1x12x1, .i1⟩
  | 22 => ⟨S4x1x12x1, .i1⟩
  | 23 => ⟨S1x64x1x64, .i32⟩
  | 24 => ⟨S1x64x1x64, .i32⟩
  | 25 => ⟨S1x64x1x64, .i1⟩
  | 26 => ⟨S4x64x12x64, .i1⟩
  | 27 => ⟨S4x64x12x64, .i1⟩
  | 28 => ⟨S4x64x12x64, .i1⟩
  | 29 => ⟨S_, .i32⟩
  | 30 => ⟨S1x64x1x1, .i32⟩
  | 31 => ⟨S1x64x1x1, .i32⟩
  | 32 => ⟨S1x64x1x64, .i32⟩
  | 33 => ⟨S1x64x1x64, .i32⟩
  | 34 => ⟨S1x64x1x64, .i1⟩
  | 35 => ⟨S4x64x12x64, .i1⟩
  | 36 => ⟨S4x64x12x64, .i1⟩
  | 37 => ⟨S4x1x12x1, .i32⟩
  | 38 => ⟨S4x1x12x1, .i32⟩
  | 39 => ⟨S4x1x12x1, .i32⟩
  | 40 => ⟨S_, .i32⟩
  | 41 => ⟨S4x1x12x1, .i32⟩
  | 42 => ⟨S4x1x12x1, .i32⟩
  | 43 => ⟨S_, .i32⟩
  | 44 => ⟨S4x1x12x1, .i32⟩
  | 45 => ⟨S4x1x12x1, .i32⟩
  | 46 => ⟨S_, .i32⟩
  | 47 => ⟨S_, .i32⟩
  | 48 => ⟨S_, .i32⟩
  | 49 => ⟨S4x1x12x1, .i32⟩
  | 50 => ⟨S4x1x12x1, .i32⟩
  | 51 => ⟨S_, .i32⟩
  | 52 => ⟨S4x1x12x1, .i32⟩
  | 53 => ⟨S4x1x12x1, .i32⟩
  | 54 => ⟨S1x64x1x64, .i32⟩
  | 55 => ⟨S1x64x1x64, .i32⟩
  | 56 => ⟨S1x64x1x64, .i32⟩
  | 57 => ⟨S_, .i32⟩
  | 58 => ⟨S1x64x1x64, .i32⟩
  | 59 => ⟨S1x64x1x64, .i32⟩
  | 60 => ⟨S_, .i32⟩
  | 61 => ⟨S1x64x1x64, .i32⟩
  | 62 => ⟨S1x64x1x64, .i32⟩
  | 63 => ⟨S_, .i32⟩
  | 64 => ⟨S_, .i32⟩
  | 65 => ⟨S_, .i32⟩
  | 66 => ⟨S1x64x1x64, .i32⟩
  | 67 => ⟨S1x64x1x64, .i32⟩
  | 68 => ⟨S_, .i32⟩
  | 69 => ⟨S1x64x1x64, .i32⟩
  | 70 => ⟨S1x64x1x64, .i32⟩
  | 71 => ⟨S_, .i32⟩
  | 72 => ⟨S4x1x12x1, .i32⟩
  | 73 => ⟨S4x1x12x1, .i32⟩
  | 74 => ⟨S4x64x12x64, .i32⟩
  | 75 => ⟨S4x64x12x64, .i32⟩
  | 76 => ⟨S4x64x12x64, .i32⟩
  | 77 => ⟨S256x768, .i32⟩
  | 78 => ⟨S256x768, .i1⟩
  | 79 => ⟨S4, .i32⟩
  | 80 => ⟨S4x1x1x1, .i32⟩
  | 81 => ⟨S_, .i32⟩
  | 82 => ⟨S4x1x1x1, .i32⟩
  | 83 => ⟨S4x1x1x1, .i32⟩
  | 84 => ⟨S64, .i32⟩
  | 85 => ⟨S1x64x1x1, .i32⟩
  | 86 => ⟨S12, .i32⟩
  | 87 => ⟨S1x1x12x1, .i32⟩
  | 88 => ⟨S_, .i32⟩
  | 89 => ⟨S1x1x12x1, .i32⟩
  | 90 => ⟨S1x1x12x1, .i32⟩
  | 91 => ⟨S64, .i32⟩
  | 92 => ⟨S1x1x1x64, .i32⟩
  | 93 => ⟨S_, .i32⟩
  | 94 => ⟨S4x1x1x1, .i32⟩
  | 95 => ⟨S4x1x1x1, .i32⟩
  | 96 => ⟨S_, .i32⟩
  | 97 => ⟨S_, .i32⟩
  | 98 => ⟨S_, .i32⟩
  | 99 => ⟨S4x1x1x1, .i32⟩
  | 100 => ⟨S4x1x1x1, .i32⟩
  | 101 => ⟨S_, .i32⟩
  | 102 => ⟨S4x1x1x1, .i32⟩
  | 103 => ⟨S4x1x1x1, .i32⟩
  | 104 => ⟨S_, .i32⟩
  | 105 => ⟨S1x64x1x1, .i32⟩
  | 106 => ⟨S1x64x1x1, .i32⟩
  | 107 => ⟨S_, .i32⟩
  | 108 => ⟨S_, .i32⟩
  | 109 => ⟨S_, .i32⟩
  | 110 => ⟨S1x64x1x1, .i32⟩
  | 111 => ⟨S1x64x1x1, .i32⟩
  | 112 => ⟨S_, .i32⟩
  | 113 => ⟨S1x64x1x1, .i32⟩
  | 114 => ⟨S1x64x1x1, .i32⟩
  | 115 => ⟨S4x1x12x1, .i32⟩
  | 116 => ⟨S4x1x12x1, .i32⟩
  | 117 => ⟨S4x1x12x1, .i1⟩
  | 118 => ⟨S_, .i32⟩
  | 119 => ⟨S4x1x1x1, .i32⟩
  | 120 => ⟨S4x1x1x1, .i32⟩
  | 121 => ⟨S4x1x12x1, .i32⟩
  | 122 => ⟨S4x1x12x1, .i32⟩
  | 123 => ⟨S4x1x12x1, .i1⟩
  | 124 => ⟨S4x1x12x1, .i1⟩
  | 125 => ⟨S1x64x1x64, .i32⟩
  | 126 => ⟨S1x64x1x64, .i32⟩
  | 127 => ⟨S1x64x1x64, .i1⟩
  | _ => ⟨S8x4096x3840, .bf16⟩

abbrev hbmTy0_2 (i : Nat) : BufTy := match i % 128 with
  | 0 => ⟨S4x64x12x64, .i1⟩
  | 1 => ⟨S4x64x12x64, .i1⟩
  | 2 => ⟨S4x64x12x64, .i1⟩
  | 3 => ⟨S_, .i32⟩
  | 4 => ⟨S1x64x1x1, .i32⟩
  | 5 => ⟨S1x64x1x1, .i32⟩
  | 6 => ⟨S1x64x1x64, .i32⟩
  | 7 => ⟨S1x64x1x64, .i32⟩
  | 8 => ⟨S1x64x1x64, .i1⟩
  | 9 => ⟨S4x64x12x64, .i1⟩
  | 10 => ⟨S4x64x12x64, .i1⟩
  | 11 => ⟨S4x1x12x1, .i32⟩
  | 12 => ⟨S4x1x12x1, .i32⟩
  | 13 => ⟨S4x1x12x1, .i32⟩
  | 14 => ⟨S_, .i32⟩
  | 15 => ⟨S4x1x12x1, .i32⟩
  | 16 => ⟨S4x1x12x1, .i32⟩
  | 17 => ⟨S_, .i32⟩
  | 18 => ⟨S4x1x12x1, .i32⟩
  | 19 => ⟨S4x1x12x1, .i32⟩
  | 20 => ⟨S_, .i32⟩
  | 21 => ⟨S_, .i32⟩
  | 22 => ⟨S_, .i32⟩
  | 23 => ⟨S4x1x12x1, .i32⟩
  | 24 => ⟨S4x1x12x1, .i32⟩
  | 25 => ⟨S_, .i32⟩
  | 26 => ⟨S4x1x12x1, .i32⟩
  | 27 => ⟨S4x1x12x1, .i32⟩
  | 28 => ⟨S1x64x1x64, .i32⟩
  | 29 => ⟨S1x64x1x64, .i32⟩
  | 30 => ⟨S1x64x1x64, .i32⟩
  | 31 => ⟨S_, .i32⟩
  | 32 => ⟨S1x64x1x64, .i32⟩
  | 33 => ⟨S1x64x1x64, .i32⟩
  | 34 => ⟨S_, .i32⟩
  | 35 => ⟨S1x64x1x64, .i32⟩
  | 36 => ⟨S1x64x1x64, .i32⟩
  | 37 => ⟨S_, .i32⟩
  | 38 => ⟨S_, .i32⟩
  | 39 => ⟨S_, .i32⟩
  | 40 => ⟨S1x64x1x64, .i32⟩
  | 41 => ⟨S1x64x1x64, .i32⟩
  | 42 => ⟨S_, .i32⟩
  | 43 => ⟨S1x64x1x64, .i32⟩
  | 44 => ⟨S1x64x1x64, .i32⟩
  | 45 => ⟨S_, .i32⟩
  | 46 => ⟨S4x1x12x1, .i32⟩
  | 47 => ⟨S4x1x12x1, .i32⟩
  | 48 => ⟨S4x64x12x64, .i32⟩
  | 49 => ⟨S4x64x12x64, .i32⟩
  | 50 => ⟨S4x64x12x64, .i32⟩
  | 51 => ⟨S256x768, .i32⟩
  | 52 => ⟨S256x768, .i1⟩
  | 53 => ⟨S1x256x768, .i32⟩
  | 54 => ⟨S1x256x768, .i32⟩
  | 55 => ⟨S1x256x768, .i32⟩
  | 56 => ⟨S3x256x768, .i32⟩
  | 57 => ⟨S1x256x768, .i1⟩
  | 58 => ⟨S1x256x768, .i1⟩
  | 59 => ⟨S1x256x768, .i1⟩
  | 60 => ⟨S3x256x768, .i1⟩
  | 61 => ⟨S8x465, .f32⟩
  | 62 => ⟨S_, .i32⟩
  | 63 => ⟨S3x256x768, .i32⟩
  | 64 => ⟨S3x256x768, .i1⟩
  | 65 => ⟨S_, .i32⟩
  | 66 => ⟨S3x256x768, .i32⟩
  | 67 => ⟨S3x256x768, .i32⟩
  | 68 => ⟨S3x256x768, .i32⟩
  | 69 => ⟨S3x256x768x1, .i32⟩
  | 70 => ⟨S1, .i32⟩
  | 71 => ⟨S_, .i32⟩
  | 72 => ⟨S3x256x768x1, .i32⟩
  | 73 => ⟨S3x256x768x1, .i1⟩
  | 74 => ⟨S1x1x1x1, .i32⟩
  | 75 => ⟨S3x256x768x1, .i32⟩
  | 76 => ⟨S3x256x768x1, .i1⟩
  | 77 => ⟨S3x256x768x1, .i1⟩
  | 78 => ⟨S_, .i1⟩
  | 79 => ⟨S3x256x768, .i1⟩
  | 80 => ⟨S8x3x256x768, .f32⟩
  | 81 => ⟨S8x3x256x768, .i1⟩
  | 82 => ⟨S_, .f32⟩
  | 83 => ⟨S8x3x256x768, .f32⟩
  | 84 => ⟨S8x3x256x768, .f32⟩
  | 85 => ⟨S1x3x256x768, .i1⟩
  | 86 => ⟨S_, .f32⟩
  | 87 => ⟨S_, .f32⟩
  | 88 => ⟨S8x3x256x768, .i1⟩
  | 89 => ⟨S8x3x256x768, .f32⟩
  | 90 => ⟨S8x3x256x768, .f32⟩
  | 91 => ⟨S2x4x3x256x768, .f32⟩
  | 92 => ⟨S3x2x4x256x768, .f32⟩
  | 93 => ⟨S3x2x1024x768, .f32⟩
  | 94 => ⟨S8x4096x512, .bf16⟩
  | _ => ⟨S8x4096x3840, .bf16⟩

abbrev hbmTy (i : Nat) : BufTy := match i / 128 with
  | 0 => hbmTy0_0 i
  | 1 => hbmTy0_1 i
  | 2 => hbmTy0_2 i
  | _ => ⟨S8x4096x3840, .bf16⟩

abbrev bufTy : (tb : Table) → Fin (tcTables nBuf tb) → BufTy
  | .hbm, ⟨i, _⟩ => hbmTy i
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x1x1024x768, .f32⟩
  | .local _ .vmem, ⟨7, _⟩ => ⟨S1x1x1024x768, .f32⟩
  | .local _ .vmem, ⟨8, _⟩ => ⟨S1x256x256, .bf16⟩
  | .local _ .vmem, ⟨9, _⟩ => ⟨S1x256x256, .bf16⟩
  | _, _ => ⟨S8x4096x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_c_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_c_12 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_13 : Ref sig .tc := ⟨.hbm, 83, rfl⟩
abbrev main_v52 : Ref sig .tc := ⟨.hbm, 84, rfl⟩
abbrev main_v53 : Ref sig .tc := ⟨.hbm, 85, rfl⟩
abbrev main_c_14 : Ref sig .tc := ⟨.hbm, 86, rfl⟩
abbrev main_v54 : Ref sig .tc := ⟨.hbm, 87, rfl⟩
abbrev main_v55 : Ref sig .tc := ⟨.hbm, 88, rfl⟩
abbrev main_c_15 : Ref sig .tc := ⟨.hbm, 89, rfl⟩
abbrev main_c_16 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v56 : Ref sig .tc := ⟨.hbm, 96, rfl⟩
abbrev main_c_17 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_18 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_19 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_20 : Ref sig .tc := ⟨.hbm, 119, rfl⟩
abbrev main_v76 : Ref sig .tc := ⟨.hbm, 120, rfl⟩
abbrev main_v77 : Ref sig .tc := ⟨.hbm, 121, rfl⟩
abbrev main_c_21 : Ref sig .tc := ⟨.hbm, 122, rfl⟩
abbrev main_c_22 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v78 : Ref sig .tc := ⟨.hbm, 129, rfl⟩
abbrev main_c_23 : Ref sig .tc := ⟨.hbm, 130, rfl⟩
abbrev main_v79 : Ref sig .tc := ⟨.hbm, 131, rfl⟩
abbrev main_v80 : Ref sig .tc := ⟨.hbm, 132, rfl⟩
abbrev main_c_24 : Ref sig .tc := ⟨.hbm, 133, rfl⟩
abbrev main_c_25 : Ref sig .tc := ⟨.hbm, 134, rfl⟩
abbrev main_call5_v0 : Ref sig .tc := ⟨.hbm, 135, rfl⟩
abbrev main_call5_v1 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_c_26 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_c_27 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_c_28 : Ref sig .tc := ⟨.hbm, 168, rfl⟩
abbrev main_v107 : Ref sig .tc := ⟨.hbm, 169, rfl⟩
abbrev main_v108 : Ref sig .tc := ⟨.hbm, 170, rfl⟩
abbrev main_c_29 : Ref sig .tc := ⟨.hbm, 171, rfl⟩
abbrev main_v109 : Ref sig .tc := ⟨.hbm, 172, rfl⟩
abbrev main_v110 : Ref sig .tc := ⟨.hbm, 173, rfl⟩
abbrev main_c_30 : Ref sig .tc := ⟨.hbm, 174, rfl⟩
abbrev main_c_31 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_c_32 : Ref sig .tc := ⟨.hbm, 185, rfl⟩
abbrev main_v115 : Ref sig .tc := ⟨.hbm, 186, rfl⟩
abbrev main_v116 : Ref sig .tc := ⟨.hbm, 187, rfl⟩
abbrev main_c_33 : Ref sig .tc := ⟨.hbm, 188, rfl⟩
abbrev main_v117 : Ref sig .tc := ⟨.hbm, 189, rfl⟩
abbrev main_v118 : Ref sig .tc := ⟨.hbm, 190, rfl⟩
abbrev main_c_34 : Ref sig .tc := ⟨.hbm, 191, rfl⟩
abbrev main_c_35 : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_v119 : Ref sig .tc := ⟨.hbm, 198, rfl⟩
abbrev main_c_36 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_c_37 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_c_38 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_c_39 : Ref sig .tc := ⟨.hbm, 221, rfl⟩
abbrev main_v139 : Ref sig .tc := ⟨.hbm, 222, rfl⟩
abbrev main_v140 : Ref sig .tc := ⟨.hbm, 223, rfl⟩
abbrev main_c_40 : Ref sig .tc := ⟨.hbm, 224, rfl⟩
abbrev main_c_41 : Ref sig .tc := ⟨.hbm, 225, rfl⟩
abbrev main_call8_v0 : Ref sig .tc := ⟨.hbm, 226, rfl⟩
abbrev main_call8_v1 : Ref sig .tc := ⟨.hbm, 227, rfl⟩
abbrev main_call8_v2 : Ref sig .tc := ⟨.hbm, 228, rfl⟩
abbrev main_call8_v3 : Ref sig .tc := ⟨.hbm, 229, rfl⟩
abbrev main_call8_v4 : Ref sig .tc := ⟨.hbm, 230, rfl⟩
abbrev main_v141 : Ref sig .tc := ⟨.hbm, 231, rfl⟩
abbrev main_c_42 : Ref sig .tc := ⟨.hbm, 232, rfl⟩
abbrev main_v142 : Ref sig .tc := ⟨.hbm, 233, rfl⟩
abbrev main_v143 : Ref sig .tc := ⟨.hbm, 234, rfl⟩
abbrev main_c_43 : Ref sig .tc := ⟨.hbm, 235, rfl⟩
abbrev main_c_44 : Ref sig .tc := ⟨.hbm, 236, rfl⟩
abbrev main_call9_v0 : Ref sig .tc := ⟨.hbm, 237, rfl⟩
abbrev main_call9_v1 : Ref sig .tc := ⟨.hbm, 238, rfl⟩
abbrev main_call9_v2 : Ref sig .tc := ⟨.hbm, 239, rfl⟩
abbrev main_call9_v3 : Ref sig .tc := ⟨.hbm, 240, rfl⟩
abbrev main_call9_v4 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_c_45 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_c_46 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_c_47 : Ref sig .tc := ⟨.hbm, 270, rfl⟩
abbrev main_v170 : Ref sig .tc := ⟨.hbm, 271, rfl⟩
abbrev main_v171 : Ref sig .tc := ⟨.hbm, 272, rfl⟩
abbrev main_c_48 : Ref sig .tc := ⟨.hbm, 273, rfl⟩
abbrev main_v172 : Ref sig .tc := ⟨.hbm, 274, rfl⟩
abbrev main_v173 : Ref sig .tc := ⟨.hbm, 275, rfl⟩
abbrev main_c_49 : Ref sig .tc := ⟨.hbm, 276, rfl⟩
abbrev main_c_50 : Ref sig .tc := ⟨.hbm, 277, rfl⟩
abbrev main_call10_v0 : Ref sig .tc := ⟨.hbm, 278, rfl⟩
abbrev main_call10_v1 : Ref sig .tc := ⟨.hbm, 279, rfl⟩
abbrev main_call10_v2 : Ref sig .tc := ⟨.hbm, 280, rfl⟩
abbrev main_call10_v3 : Ref sig .tc := ⟨.hbm, 281, rfl⟩
abbrev main_call10_v4 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_v177 : Ref sig .tc := ⟨.hbm, 286, rfl⟩
abbrev main_c_51 : Ref sig .tc := ⟨.hbm, 287, rfl⟩
abbrev main_v178 : Ref sig .tc := ⟨.hbm, 288, rfl⟩
abbrev main_v179 : Ref sig .tc := ⟨.hbm, 289, rfl⟩
abbrev main_c_52 : Ref sig .tc := ⟨.hbm, 290, rfl⟩
abbrev main_v180 : Ref sig .tc := ⟨.hbm, 291, rfl⟩
abbrev main_v181 : Ref sig .tc := ⟨.hbm, 292, rfl⟩
abbrev main_c_53 : Ref sig .tc := ⟨.hbm, 293, rfl⟩
abbrev main_c_54 : Ref sig .tc := ⟨.hbm, 294, rfl⟩
abbrev main_call11_v0 : Ref sig .tc := ⟨.hbm, 295, rfl⟩
abbrev main_call11_v1 : Ref sig .tc := ⟨.hbm, 296, rfl⟩
abbrev main_call11_v2 : Ref sig .tc := ⟨.hbm, 297, rfl⟩
abbrev main_call11_v3 : Ref sig .tc := ⟨.hbm, 298, rfl⟩
abbrev main_call11_v4 : Ref sig .tc := ⟨.hbm, 299, rfl⟩
abbrev main_v182 : Ref sig .tc := ⟨.hbm, 300, rfl⟩
abbrev main_c_55 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_v197 : Ref sig .tc := ⟨.hbm, 316, rfl⟩
abbrev main_v198 : Ref sig .tc := ⟨.hbm, 317, rfl⟩
abbrev main_call12_c : Ref sig .tc := ⟨.hbm, 318, rfl⟩
abbrev main_call12_v0 : Ref sig .tc := ⟨.hbm, 319, rfl⟩
abbrev main_call12_v1 : Ref sig .tc := ⟨.hbm, 320, rfl⟩
abbrev main_call12_c_0 : Ref sig .tc := ⟨.hbm, 321, rfl⟩
abbrev main_call12_v2 : Ref sig .tc := ⟨.hbm, 322, rfl⟩
abbrev main_call12_v3 : Ref sig .tc := ⟨.hbm, 323, rfl⟩
abbrev main_call12_v4 : Ref sig .tc := ⟨.hbm, 324, rfl⟩
abbrev main_call12_v5 : Ref sig .tc := ⟨.hbm, 325, rfl⟩
abbrev main_call12_c_1 : Ref sig .tc := ⟨.hbm, 326, rfl⟩
abbrev main_call12_c_2 : Ref sig .tc := ⟨.hbm, 327, rfl⟩
abbrev main_call12_v6 : Ref sig .tc := ⟨.hbm, 328, rfl⟩
abbrev main_call12_v7 : Ref sig .tc := ⟨.hbm, 329, rfl⟩
abbrev main_call12_v8 : Ref sig .tc := ⟨.hbm, 330, rfl⟩
abbrev main_call12_v9 : Ref sig .tc := ⟨.hbm, 331, rfl⟩
abbrev main_call12_v10 : Ref sig .tc := ⟨.hbm, 332, rfl⟩
abbrev main_call12_v11 : Ref sig .tc := ⟨.hbm, 333, rfl⟩
abbrev main_call12_c_3 : Ref sig .tc := ⟨.hbm, 334, rfl⟩
abbrev main_call12_v12 : Ref sig .tc := ⟨.hbm, 335, rfl⟩
abbrev main_call12_v13 : Ref sig .tc := ⟨.hbm, 336, rfl⟩
abbrev main_call12_v14 : Ref sig .tc := ⟨.hbm, 337, rfl⟩
abbrev main_call12_cst : Ref sig .tc := ⟨.hbm, 338, rfl⟩
abbrev main_call12_v15 : Ref sig .tc := ⟨.hbm, 339, rfl⟩
abbrev main_v199 : Ref sig .tc := ⟨.hbm, 340, rfl⟩
abbrev main_v200 : Ref sig .tc := ⟨.hbm, 341, rfl⟩
abbrev main_cst : Ref sig .tc := ⟨.hbm, 342, rfl⟩
abbrev main_call13_v0 : Ref sig .tc := ⟨.hbm, 343, rfl⟩
abbrev main_call13_v1 : Ref sig .tc := ⟨.hbm, 344, rfl⟩
abbrev main_call13_v2 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def k0_mult1 (i : grid0.Coords) : BitVec 32 :=
  let c52_i32 : BitVec 32 := 52#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c52_i32 v2
  let c64_i32 : BitVec 32 := 64#32
  let v4 : BitVec 32 := Scalar.muli v3 c64_i32
  v4
def k0_off1 (i : grid0.Coords) : Fin 3 → Nat :=
  let c0 : Index := 0#32
  let c52_i32 : BitVec 32 := 52#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c52_i32 v2
  let c64_i32 : BitVec 32 := 64#32
  let v4 : BitVec 32 := Scalar.muli v3 c64_i32
  let v5 : BitVec 32 := v4
  let v6 : Index := Scalar.indexCast v5
  let c0_1 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c15_i32 : BitVec 32 := 15#32
  let v1 : BitVec 1 := Scalar.cmpi .eq arg2 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg1.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== NaReferenceIdeal.lean ====
abbrev S8x4096x3840 : Shape := ⟨3, ![8, 4096, 3840]⟩
abbrev S1x8x15x31 : Shape := ⟨4, ![1, 8, 15, 31]⟩
abbrev S8x4096x512 : Shape := ⟨3, ![8, 4096, 512]⟩
abbrev S8x4096x8x64 : Shape := ⟨4, ![8, 4096, 8, 64]⟩
abbrev S64x64 : Shape := ⟨2, ![64, 64]⟩
abbrev S4096 : Shape := ⟨1, ![4096]⟩
abbrev S4096x1 : Shape := ⟨2, ![4096, 1]⟩
abbrev S1x4096 : Shape := ⟨2, ![1, 4096]⟩
abbrev S_ : Shape := ⟨0, ![]⟩
abbrev S4096x4096 : Shape := ⟨2, ![4096, 4096]⟩
abbrev S8x15x31 : Shape := ⟨3, ![8, 15, 31]⟩
abbrev S4096x4096x1 : Shape := ⟨3, ![4096, 4096, 1]⟩
abbrev S4096x4096x2 : Shape := ⟨3, ![4096, 4096, 2]⟩
abbrev S8x4096x4096 : Shape := ⟨3, ![8, 4096, 4096]⟩
abbrev S8x8x4096x4096 : Shape := ⟨4, ![8, 8, 4096, 4096]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩

abbrev nBuf : Space → Nat
  | .hbm => 136
  | .vmem => 0
  | .smem => 0
  | _ => 0

abbrev hbmTy0_0 (i : Nat) : BufTy := match i % 128 with
  | 0 => ⟨S8x4096x3840, .bf16⟩
  | 1 => ⟨S1x8x15x31, .f32⟩
  | 2 => ⟨S8x4096x512, .bf16⟩
  | 3 => ⟨S8x4096x512, .f32⟩
  | 4 => ⟨S8x4096x8x64, .f32⟩
  | 5 => ⟨S8x4096x512, .bf16⟩
  | 6 => ⟨S8x4096x512, .f32⟩
  | 7 => ⟨S8x4096x8x64, .f32⟩
  | 8 => ⟨S8x4096x512, .bf16⟩
  | 9 => ⟨S8x4096x512, .f32⟩
  | 10 => ⟨S8x4096x8x64, .f32⟩
  | 11 => ⟨S64x64, .i32⟩
  | 12 => ⟨S4096, .i32⟩
  | 13 => ⟨S64x64, .i32⟩
  | 14 => ⟨S4096, .i32⟩
  | 15 => ⟨S4096x1, .i32⟩
  | 16 => ⟨S4096x1, .i32⟩
  | 17 => ⟨S1x4096, .i32⟩
  | 18 => ⟨S1x4096, .i32⟩
  | 19 => ⟨S_, .i32⟩
  | 20 => ⟨S4096x1, .i32⟩
  | 21 => ⟨S4096x1, .i32⟩
  | 22 => ⟨S_, .i32⟩
  | 23 => ⟨S_, .i32⟩
  | 24 => ⟨S_, .i32⟩
  | 25 => ⟨S4096x1, .i32⟩
  | 26 => ⟨S4096x1, .i32⟩
  | 27 => ⟨S_, .i32⟩
  | 28 => ⟨S4096x1, .i32⟩
  | 29 => ⟨S4096x1, .i32⟩
  | 30 => ⟨S_, .i32⟩
  | 31 => ⟨S4096x1, .i32⟩
  | 32 => ⟨S4096x1, .i32⟩
  | 33 => ⟨S_, .i32⟩
  | 34 => ⟨S_, .i32⟩
  | 35 => ⟨S_, .i32⟩
  | 36 => ⟨S4096x1, .i32⟩
  | 37 => ⟨S4096x1, .i32⟩
  | 38 => ⟨S_, .i32⟩
  | 39 => ⟨S4096x1, .i32⟩
  | 40 => ⟨S4096x1, .i32⟩
  | 41 => ⟨S4096x4096, .i32⟩
  | 42 => ⟨S4096x4096, .i32⟩
  | 43 => ⟨S4096x4096, .i1⟩
  | 44 => ⟨S_, .i32⟩
  | 45 => ⟨S4096x1, .i32⟩
  | 46 => ⟨S4096x1, .i32⟩
  | 47 => ⟨S4096x4096, .i32⟩
  | 48 => ⟨S4096x4096, .i32⟩
  | 49 => ⟨S4096x4096, .i1⟩
  | 50 => ⟨S4096x4096, .i1⟩
  | 51 => ⟨S4096x4096, .i32⟩
  | 52 => ⟨S4096x4096, .i32⟩
  | 53 => ⟨S4096x4096, .i1⟩
  | 54 => ⟨S4096x4096, .i1⟩
  | 55 => ⟨S_, .i32⟩
  | 56 => ⟨S4096x1, .i32⟩
  | 57 => ⟨S4096x1, .i32⟩
  | 58 => ⟨S4096x4096, .i32⟩
  | 59 => ⟨S4096x4096, .i32⟩
  | 60 => ⟨S4096x4096, .i1⟩
  | 61 => ⟨S4096x4096, .i1⟩
  | 62 => ⟨S4096x4096, .i32⟩
  | 63 => ⟨S4096x4096, .i32⟩
  | 64 => ⟨S4096x4096, .i32⟩
  | 65 => ⟨S_, .i32⟩
  | 66 => ⟨S_, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S4096x4096, .i32⟩
  | 77 => ⟨S4096x4096, .i32⟩
  | 78 => ⟨S4096x4096, .i32⟩
  | 79 => ⟨S_, .i32⟩
  | 80 => ⟨S_, .i32⟩
  | 81 => ⟨S_, .i32⟩
  | 82 => ⟨S4096x4096, .i32⟩
  | 83 => ⟨S4096x4096, .i32⟩
  | 84 => ⟨S_, .i32⟩
  | 85 => ⟨S4096x4096, .i32⟩
  | 86 => ⟨S4096x4096, .i32⟩
  | 87 => ⟨S_, .i32⟩
  | 88 => ⟨S4096x4096, .i32⟩
  | 89 => ⟨S4096x4096, .i32⟩
  | 90 => ⟨S8x15x31, .f32⟩
  | 91 => ⟨S_, .i32⟩
  | 92 => ⟨S4096x4096, .i32⟩
  | 93 => ⟨S4096x4096, .i1⟩
  | 94 => ⟨S_, .i32⟩
  | 95 => ⟨S4096x4096, .i32⟩
  | 96 => ⟨S4096x4096, .i32⟩
  | 97 => ⟨S4096x4096, .i32⟩
  | 98 => ⟨S_, .i32⟩
  | 99 => ⟨S4096x4096, .i32⟩
  | 100 => ⟨S4096x4096, .i1⟩
  | 101 => ⟨S_, .i32⟩
  | 102 => ⟨S4096x4096, .i32⟩
  | 103 => ⟨S4096x4096, .i32⟩
  | 104 => ⟨S4096x4096, .i32⟩
  | 105 => ⟨S4096x4096x1, .i32⟩
  | 106 => ⟨S4096x4096x1, .i32⟩
  | 107 => ⟨S4096x4096x2, .i32⟩
  | 108 => ⟨S8x4096x4096, .f32⟩
  | 109 => ⟨S8x8x4096x4096, .f32⟩
  | 110 => ⟨S1x8x4096x4096, .f32⟩
  | 111 => ⟨S8x8x4096x4096, .f32⟩
  | 112 => ⟨S8x8x4096x4096, .f32⟩
  | 113 => ⟨S_, .f32⟩
  | 114 => ⟨S_, .f32⟩
  | 115 => ⟨S8x8x4096x4096, .i1⟩
  | 116 => ⟨S8x8x4096x4096, .f32⟩
  | 117 => ⟨S8x8x4096x4096, .f32⟩
  | 118 => ⟨S_, .f32⟩
  | 119 => ⟨S8x8x4096, .f32⟩
  | 120 => ⟨S_, .f32⟩
  | 121 => ⟨S8x8x4096, .f32⟩
  | 122 => ⟨S8x8x4096, .f32⟩
  | 123 => ⟨S8x8x4096x1, .f32⟩
  | 124 => ⟨S8x8x4096x4096, .f32⟩
  | 125 => ⟨S8x8x4096x4096, .f32⟩
  | 126 => ⟨S8x8x4096x4096, .f32⟩
  | 127 => ⟨S_, .f32⟩
  | _ => ⟨S8x4096x3840, .bf16⟩

abbrev hbmTy0_1 (i : Nat) : BufTy := match i % 128 with
  | 0 => ⟨S8x8x4096, .f32⟩
  | 1 => ⟨S8x8x4096x1, .f32⟩
  | 2 => ⟨S8x8x4096x4096, .f32⟩
  | 3 => ⟨S8x8x4096x4096, .f32⟩
  | 4 => ⟨S8x8x64x4096, .f32⟩
  | 5 => ⟨S8x4096x8x64, .f32⟩
  | 6 => ⟨S8x4096x512, .f32⟩
  | 7 => ⟨S8x4096x512, .bf16⟩
  | _ => ⟨S8x4096x3840, .bf16⟩

abbrev hbmTy (i : Nat) : BufTy := match i / 128 with
  | 0 => hbmTy0_0 i
  | 1 => hbmTy0_1 i
  | _ => ⟨S8x4096x3840, .bf16⟩

abbrev bufTy : (tb : Table) → Fin (tcTables nBuf tb) → BufTy
  | .hbm, ⟨i, _⟩ => hbmTy i
  | _, _ => ⟨S8x4096x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_c_8 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_c_11 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_v51 : Ref sig .tc := ⟨.hbm, 86, rfl⟩
abbrev main_c_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_c_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_c_15 : Ref sig .tc := ⟨.hbm, 98, rfl⟩
abbrev main_v60 : Ref sig .tc := ⟨.hbm, 99, rfl⟩
abbrev main_v61 : Ref sig .tc := ⟨.hbm, 100, rfl⟩
abbrev main_c_16 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst : Ref sig .tc := ⟨.hbm, 113, rfl⟩
abbrev main_call4_v0 : Ref sig .tc := ⟨.hbm, 114, rfl⟩
abbrev main_call4_v1 : Ref sig .tc := ⟨.hbm, 115, rfl⟩
abbrev main_call4_v2 : Ref sig .tc := ⟨.hbm, 116, rfl⟩
abbrev main_v73 : Ref sig .tc := ⟨.hbm, 117, rfl⟩
abbrev main_cst_17 : Ref sig .tc := ⟨.hbm, 118, rfl⟩
abbrev main_v74 : Ref sig .tc := ⟨.hbm, 119, rfl⟩
abbrev main_cst_18 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_19 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩

abbrev nD : Nat := 1
abbrev τ : Topo := Topo.v7x

variable {F : FTy → Type} [FloatOps F]
-- ==== Proof.Finite.lean ====
module

public import proofs.«01_k».proof.Defs
public import Idealize.ShloMosaic.Lib.Pointwise

@[expose] public section

set_option maxRecDepth 16384

noncomputable section

open Idealize.ShloMosaic

/-! What the preconditions say of their arrays: every entry is a real number. -/

namespace Cert.Finite

/-- A conjunction of bits that is one has every bit one. -/
theorem all_and {α : Type} (s : Finset α) (f : α → BitVec 1) (h : s.fold IntOp.andi 1#1 f = 1#1) :
    ∀ i ∈ s, f i = 1#1 := by
  classical
  induction s using Finset.induction_on with
  | empty => simp
  | insert a s ha ih =>
    rw [Finset.fold_insert ha] at h
    have key : ∀ x y : BitVec 1, IntOp.andi x y = 1#1 → x = 1#1 ∧ y = 1#1 := by decide
    obtain ⟨h1, h2⟩ := key _ _ h
    intro i hi
    rcases Finset.mem_insert.mp hi with rfl | hi
    · exact h1
    · exact ih h2 i hi

theorem all_and_univ {α : Type} [Fintype α] (f : α → BitVec 1) (h : Finset.univ.fold IntOp.andi 1#1 f = 1#1)
    (i : α) : f i = 1#1 := all_and _ f h i (Finset.mem_univ i)

/-- A magnitude below infinity is that of a real. -/
theorem real_of_word (x : EReal)
    (h : BitVec.ofBool (decide (FloatOps.absf (F := Ideal) (φ := .f32) x < Ideal.ofBits FTy.f32 0x7F800000#32)) = 1#1) :
    ∃ r : ℝ, x = r := by
  have htop : Ideal.ofBits FTy.f32 0x7F800000#32 = ⊤ := by simp [Ideal.ofBits, Ideal.ieee]
  rw [htop] at h
  have hlt : FloatOps.absf (F := Ideal) (φ := .f32) x < (⊤ : EReal) := by
    by_contra hn
    rw [decide_eq_false hn] at h
    exact absurd h (by decide)
  induction x using EReal.rec with
  | bot => exact absurd hlt (by simp [FloatOps.absf])
  | top => exact absurd hlt (by simp [FloatOps.absf])
  | coe x => exact ⟨x, rfl⟩

/-- Under the precondition of the dilated attention every entry is real. -/
theorem real [Cert.Pre_finite.Facts] (X : FVec Ideal Cert.Pre_finite.S8x4096x3840 .bf16) (h : Cert.Pre_finite.fn (F := Ideal) X = fun _ => 1#1) :
    ∀ i, ∃ x : ℝ, X i = x := by
  have h0 := congrFun h ix0
  revert h0
  pointwise [Cert.Pre_finite.fn]
  intro hf i
  obtain ⟨a, b, c, rfl⟩ : ∃ (a : Fin 8) (b : Fin 4096) (c : Fin 3840), i = ix3 a b c :=
    ⟨i 0, i 1, i 2, by funext a; fin_cases a <;> rfl⟩
  exact real_of_word _ (all_and_univ _ hf (a, b, c))

/-- A conjunction of two bits that is one has both bits one. -/
theorem both_and (x y : BitVec 1) (h : IntOp.andi x y = 1#1) : x = 1#1 ∧ y = 1#1 := by
  revert x y
  decide

/-- Under the precondition of the block after the attention the three arrays of scores are real. -/
theorem real_lse [Cert.Pre_finite_lse.Facts] (a0 a1 a2 a3 a4 l1 l2 l3 a8 a9 a10 a11 a12 a13 a14 a15 a16 a17 a18 a19 a20)
    (h : Cert.Pre_finite_lse.fn (F := Ideal) a0 a1 a2 a3 a4 l1 l2 l3 a8 a9 a10 a11 a12 a13 a14 a15 a16 a17 a18 a19 a20 = fun _ => 1#1)
    (r : Fin 32768) (k : Fin 256) :
    (∃ x : ℝ, l1 (ix2 r k) = x) ∧ (∃ x : ℝ, l2 (ix2 r k) = x) ∧ (∃ x : ℝ, l3 (ix2 r k) = x) := by
  have h0 := congrFun h ix0
  revert h0
  pointwise [Cert.Pre_finite_lse.fn]
  intro hf
  obtain ⟨h12, h3⟩ := both_and _ _ hf
  obtain ⟨h1, h2⟩ := both_and _ _ h12
  exact ⟨real_of_word _ (all_and_univ _ h1 (r, k)), real_of_word _ (all_and_univ _ h2 (r, k)), real_of_word _ (all_and_univ _ h3 (r, k))⟩

/-- Under the precondition of the neighbourhood attention every entry of both arrays is real. -/
theorem real_na [Cert.Pre_finite_na.Facts] (X : FVec Ideal Cert.Pre_finite_na.S8x4096x3840 .bf16) (R : FVec Ideal Cert.Pre_finite_na.S1x8x15x31 .f32)
    (h : Cert.Pre_finite_na.fn (F := Ideal) X R = fun _ => 1#1) :
    (∀ i, ∃ x : ℝ, X i = x) ∧ ∀ i, ∃ x : ℝ, R i = x := by
  have h0 := congrFun h ix0
  revert h0
  pointwise [Cert.Pre_finite_na.fn]
  intro hf
  obtain ⟨h1, h2⟩ := both_and _ _ hf
  refine ⟨fun i => ?_, fun i => ?_⟩
  · obtain ⟨a, b, c, rfl⟩ : ∃ (a : Fin 8) (b : Fin 4096) (c : Fin 3840), i = ix3 a b c :=
      ⟨i 0, i 1, i 2, by funext a; fin_cases a <;> rfl⟩
    exact real_of_word _ (all_and_univ _ h1 (a, b, c))
  · obtain ⟨a, b, c, d, rfl⟩ : ∃ (a : Fin 1) (b : Fin 8) (c : Fin 15) (d : Fin 31), i = ix4 a b c d :=
      ⟨i 0, i 1, i 2, i 3, by funext a; fin_cases a <;> rfl⟩
    obtain rfl : a = 0 := Subsingleton.elim _ _
    exact real_of_word _ (all_and_univ _ h2 (ix4 0 b c d))

end Cert.Finite
-- ==== Proof.Attn.lean ====
module

public import Idealize.ShloMosaic.PureOps.Ideal
public import Idealize.ShloMosaic.Lib.IdealHost

@[expose] public section

noncomputable section

open Idealize.ShloMosaic

/-! Softmax attention of one query over a list of scores, on the extended reals. -/

namespace Cert.Attn

/-- The greatest score. -/
def mx {n : ℕ} (f : Fin n → EReal) : EReal := Finset.univ.fold max ⊥ f

/-- The softmax denominator, relative to the greatest score. -/
def den {n : ℕ} (f : Fin n → EReal) : EReal := ∑ k, Ideal.exp (f k - mx f)

/-- The attention output as a kernel computes it: the weighted sum first, the division last. -/
def out {n : ℕ} (f v : Fin n → EReal) : EReal :=
  (∑ k, Ideal.exp (f k - mx f) * v k) * Ideal.div 1 (den f)

/-- The logarithm of the softmax denominator. -/
def lse {n : ℕ} (f : Fin n → EReal) : EReal := mx f + Ideal.log (den f)

theorem ofBits_negInf : Ideal.ofBits .f32 0xFF800000#32 = ⊥ := by
  simp [Ideal.ofBits, Ideal.ieee]

theorem mx_eq_sup {n : ℕ} (f : Fin n → EReal) : mx f = Finset.univ.sup f := rfl

/-- Scores of which none is `⊤` and one is not `⊥` have a real greatest score, and the exponentials
    relative to it are real, not negative, with a positive sum. -/
theorem real_form {n : ℕ} (f : Fin n → EReal) (ht : ∀ j, f j ≠ ⊤) (hb : ∃ j, f j ≠ ⊥) :
    ∃ (M D : ℝ) (e : Fin n → ℝ), mx f = M ∧ den f = D ∧ 0 < D ∧
      (∀ j, Ideal.exp (f j - M) = (e j : EReal)) ∧ (∀ j, 0 ≤ e j) ∧
      ∀ j (x : ℝ), Ideal.exp (f j - ((Real.log D + M : ℝ) : EReal)) = ((e j * D⁻¹ : ℝ) : EReal) := by
  obtain ⟨j0, hj0⟩ := hb
  haveI : Nonempty (Fin n) := ⟨j0⟩
  obtain ⟨j1, -, hj1⟩ := Finset.exists_mem_eq_sup (Finset.univ : Finset (Fin n)) Finset.univ_nonempty f
  have hle : ∀ j, f j ≤ mx f := fun j => by rw [mx_eq_sup]; exact Finset.le_sup (Finset.mem_univ j)
  have hMt : mx f ≠ ⊤ := by rw [mx_eq_sup, hj1]; exact ht j1
  have hMb : mx f ≠ ⊥ := fun h => hj0 (le_bot_iff.mp (h ▸ hle j0))
  obtain ⟨M, hM⟩ : ∃ M : ℝ, mx f = M := ⟨(mx f).toReal, (EReal.coe_toReal hMt hMb).symm⟩
  have hf : ∀ j, f j = ⊥ ∨ ∃ x : ℝ, f j = x := fun j => by
    by_cases h : f j = ⊥
    · exact .inl h
    · exact .inr ⟨_, (EReal.coe_toReal (ht j) h).symm⟩
  let e : Fin n → ℝ := fun j => if f j = ⊥ then 0 else Real.exp ((f j).toReal - M)
  have he : ∀ j, Ideal.exp (f j - M) = (e j : EReal) := fun j => by
    rcases hf j with h | ⟨x, h⟩
    · simp only [e, h, if_true, EReal.bot_sub, EReal.coe_zero]; rfl
    · simp only [e, h, EReal.coe_ne_bot, if_false, EReal.toReal_coe, ← EReal.coe_sub]; rfl
  have he0 : ∀ j, 0 ≤ e j := fun j => by
    by_cases h : f j = ⊥
    · simp [e, h]
    · simp only [e, h, if_false]; exact (Real.exp_pos _).le
  have hD : 0 < ∑ j, e j := by
    refine Finset.sum_pos' (fun j _ => he0 j) ⟨j0, Finset.mem_univ _, ?_⟩
    simp only [e, hj0, if_false]; exact Real.exp_pos _
  have hden : den f = ((∑ j, e j : ℝ) : EReal) := by
    rw [den, hM]
    simp only [he]
    induction (Finset.univ : Finset (Fin n)) using Finset.induction_on with
    | empty => simp
    | insert a s ha ih => rw [Finset.sum_insert ha, Finset.sum_insert ha, ih, EReal.coe_add]
  refine ⟨M, ∑ j, e j, e, hM, hden, hD, he, he0, fun j _ => ?_⟩
  rcases hf j with h | ⟨x, h⟩
  · simp only [e, h, if_true, EReal.bot_sub, zero_mul, EReal.coe_zero]; rfl
  · simp only [e, h, EReal.coe_ne_bot, if_false, EReal.toReal_coe, ← EReal.coe_sub]
    show ((Real.exp _ : ℝ) : EReal) = _
    rw [← sub_sub, sub_right_comm, Real.exp_sub, Real.exp_log hD, div_eq_mul_inv]

theorem sum_mul_real {ι : Type} (s : Finset ι) (a : ι → EReal) (c : ℝ) (hc : 0 ≤ c) :
    (∑ k ∈ s, a k) * (c : EReal) = ∑ k ∈ s, a k * c := by
  classical
  induction s using Finset.induction_on with
  | empty => simp
  | insert b s hb ih =>
    rw [Finset.sum_insert hb, Finset.sum_insert hb, ← ih,
      EReal.right_distrib_of_nonneg_of_ne_top (by exact_mod_cast hc) (EReal.coe_ne_top c)]

theorem div_one_real (D : ℝ) (hD : 0 < D) : Ideal.div 1 (D : EReal) = ((D⁻¹ : ℝ) : EReal) := by
  have : (D : EReal) ≠ 0 := by exact_mod_cast hD.ne'
  rw [Ideal.div, if_neg this, one_mul, EReal.coe_inv]

theorem log_real (D : ℝ) (hD : 0 < D) : Ideal.log (D : EReal) = ((Real.log D : ℝ) : EReal) := by
  show (if D ≤ 0 then (⊥ : EReal) else (Real.log D : EReal)) = _
  rw [if_neg (not_le.mpr hD)]

/-- The attention output with the weights normalised first, `exp (s - lse)`, is the output with the
    division last. -/
theorem out_eq_normalised {n : ℕ} (f v : Fin n → EReal) (ht : ∀ j, f j ≠ ⊤) (hb : ∃ j, f j ≠ ⊥) :
    ∑ j, Ideal.exp (f j - (Ideal.log (den f) + mx f)) * v j = out f v := by
  obtain ⟨M, D, e, hM, hD, hpos, he, he0, hn⟩ := real_form f ht hb
  rw [out, hM, hD, div_one_real D hpos, log_real D hpos, ← EReal.coe_add,
    sum_mul_real _ _ _ (inv_nonneg.mpr hpos.le)]
  refine Finset.sum_congr rfl fun j _ => ?_
  rw [hn j 0, he j, EReal.coe_mul, mul_right_comm]

/-! A window: scores that are `⊥` outside the image of `w` may be left out. -/

variable {n K : ℕ} (w : Fin K → Fin n) (hw : Function.Injective w) (f : Fin n → EReal)
  (g : Fin K → EReal) (hg : ∀ k, f (w k) = g k) (ho : ∀ j, (∀ k, w k ≠ j) → f j = ⊥)

include hg ho in
theorem mx_window : mx f = mx g := by
  rw [mx_eq_sup, mx_eq_sup]
  refine le_antisymm (Finset.sup_le fun j _ => ?_) (Finset.sup_le fun k _ => ?_)
  · by_cases h : ∃ k, w k = j
    · obtain ⟨k, rfl⟩ := h
      rw [hg]; exact Finset.le_sup (Finset.mem_univ k)
    · rw [ho j (fun k hk => h ⟨k, hk⟩)]; exact bot_le
  · rw [← hg]; exact Finset.le_sup (Finset.mem_univ (w k))

include hw hg ho in
theorem sum_window (v : Fin n → EReal) (M : EReal) :
    ∑ j, Ideal.exp (f j - M) * v j = ∑ k, Ideal.exp (g k - M) * v (w k) := by
  rw [← Finset.sum_subset (Finset.subset_univ (Finset.univ.map ⟨w, hw⟩)), Finset.sum_map]
  · simp only [Function.Embedding.coeFn_mk, hg]
  · intro j _ hj
    have : f j = ⊥ := ho j fun k hk => hj (Finset.mem_map.mpr ⟨k, Finset.mem_univ _, hk⟩)
    have hz : Ideal.exp (⊥ - M) = 0 := by rw [EReal.bot_sub]; rfl
    rw [this, hz, zero_mul]

include hw hg ho in
theorem den_window : den f = den g := by
  have := sum_window w hw f g hg ho (fun _ => 1) (mx f)
  simp only [mul_one] at this
  rw [den, den, this, mx_window w f g hg ho]

include hw hg ho in
theorem out_window (v : Fin n → EReal) : out f v = out g fun k => v (w k) := by
  rw [out, out, sum_window w hw f g hg ho, den_window w hw f g hg ho, mx_window w f g hg ho]

include hw hg ho in
theorem lse_window : lse f = lse g := by
  rw [lse, lse, den_window w hw f g hg ho, mx_window w f g hg ho]

end Cert.Attn
-- ==== Proof.Band.lean ====
module

public import Idealize.ShloMosaic.PureOps.Ideal
public import Idealize.ShloMosaic.Lib.IdealHost
public import proofs.«01_k».proof.Proof.Attn

@[expose] public section

noncomputable section

open Idealize.ShloMosaic

/-! The band `|i - j| ≤ 64` of the dilated attention, as words and as windows of 256 keys. -/

namespace Cert.Band

/-- The signed value of a difference of two small words. -/
theorem toInt_sub_small (a b : ℕ) (ha : a < 65536) (hb : b < 65536) :
    (BitVec.ofNat 32 a - BitVec.ofNat 32 b).toInt = (a : ℤ) - b := by
  have e : ∀ x : ℕ, x < 65536 → (BitVec.ofNat 32 x).toInt = x := fun x hx => by
    rw [BitVec.toInt_eq_toNat_of_lt (by rw [BitVec.toNat_ofNat]; omega), BitVec.toNat_ofNat]; omega
  rw [BitVec.toInt_sub, e a ha, e b hb]
  simp only [Int.bmod_def]
  omega

/-- The programs' test `|a - b| ≤ 64` on words is the test on numbers. -/
theorem band_word (a b : ℕ) (ha : a < 65536) (hb : b < 65536) :
    IntOp.cmpi CmpIPredicate.sle (IntOp.absi (IntOp.subi (BitVec.ofNat 32 a) (BitVec.ofNat 32 b))) 64#32
      = BitVec.ofBool (decide (a ≤ b + 64 ∧ b ≤ a + 64)) := by
  have h := toInt_sub_small a b ha hb
  show BitVec.ofBool (BitVec.sle (if (BitVec.ofNat 32 a - BitVec.ofNat 32 b).msb then _ else _) 64#32) = _
  congr 1
  rw [BitVec.sle_eq_decide, BitVec.msb_eq_toInt, h]
  refine decide_eq_decide.mpr ?_
  split_ifs with hn
  · have hn' : (a : ℤ) - b < 0 := by simpa using hn
    have h2 : (-(BitVec.ofNat 32 a - BitVec.ofNat 32 b)).toInt = (b : ℤ) - a := by
      rw [BitVec.toInt_neg, h, Int.bmod_def]; omega
    show (-(BitVec.ofNat 32 a - BitVec.ofNat 32 b)).toInt ≤ (64#32 : BitVec 32).toInt ↔ _
    rw [h2]
    have : (64#32 : BitVec 32).toInt = 64 := by decide
    omega
  · have hn' : ¬ (a : ℤ) - b < 0 := by simpa using hn
    show (BitVec.ofNat 32 a - BitVec.ofNat 32 b).toInt ≤ (64#32 : BitVec 32).toInt ↔ _
    rw [h]
    have : (64#32 : BitVec 32).toInt = 64 := by decide
    omega

/-- A select on a test's bit is the test's `if`. -/
theorem select_decide {α : Type} (p : Prop) [Decidable p] (a b : α) :
    Scalar.select (BitVec.ofBool (decide p)) a b = if p then a else b := by
  by_cases h : p <;> simp [h, Scalar.select]

/-- The first key of the window of query block `n` among `N` blocks. -/
def win (N n : ℕ) : ℕ := min (128 * n - 64) (128 * N - 256)

/-- The mask that query block `n` takes: the first, the last, or the middle one. -/
def variant (N n : ℕ) : ℕ := if n = 0 then 0 else if n = N - 1 then 2 else 1

theorem win_le (N n : ℕ) (hN : 2 ≤ N) : win N n + 256 ≤ 128 * N := by
  unfold win; omega

/-- The mask's band at window position `k` is the band at key `win + k`. -/
theorem band_window (N n y k : ℕ) (hN : 2 ≤ N) (hn : n < N) (hy : y < 128) (hk : k < 256) :
    (k ≤ 64 * variant N n + y + 64 ∧ 64 * variant N n + y ≤ k + 64)
      ↔ (128 * n + y ≤ win N n + k + 64 ∧ win N n + k ≤ 128 * n + y + 64) := by
  unfold win variant
  split_ifs <;> omega

/-- Every key of the band lies in the window. -/
theorem band_in_window (N n y j : ℕ) (hN : 2 ≤ N) (hn : n < N) (hy : y < 128) (hj : j < 128 * N)
    (h : 128 * n + y ≤ j + 64 ∧ j ≤ 128 * n + y + 64) : win N n ≤ j ∧ j < win N n + 256 := by
  unfold win
  omega

/-- The key at window position `k`. -/
def key {L : ℕ} (w : ℕ) (hw : w + 256 ≤ L) (k : Fin 256) : Fin L := ⟨w + k, by omega⟩

theorem key_inj {L : ℕ} (w : ℕ) (hw : w + 256 ≤ L) : Function.Injective (key (L := L) w hw) := fun a b h => by
  have := congrArg Fin.val h
  simp only [key] at this
  exact Fin.ext (by omega)

/-- The banded scores of one query: its products with the keys of the band, `⊥` elsewhere. -/
def scores {L : ℕ} (i : ℕ) (q : Fin 64 → EReal) (k : Fin L → Fin 64 → EReal) (j : Fin L) : EReal :=
  if i ≤ j + 64 ∧ j ≤ i + 64 then ∑ e, q e * k j e else ⊥

variable {L : ℕ} (N n y : ℕ) (hN : 2 ≤ N) (hL : L = 128 * N) (hn : n < N) (hy : y < 128)
  (q : Fin 64 → EReal) (K : Fin L → Fin 64 → EReal) (hw : win N n + 256 ≤ L) (g : Fin 256 → EReal)
  (hg : ∀ k : Fin 256, g k = (∑ e, q e * K (key (win N n) hw k) e)
    + (if k.val ≤ 64 * variant N n + y + 64 ∧ 64 * variant N n + y ≤ k.val + 64 then 0 else ⊥))

include hN hn hy hg in
theorem scores_key (k : Fin 256) : scores (128 * n + y) q K (key (win N n) hw k) = g k := by
  rw [hg, scores]
  by_cases h : k.val ≤ 64 * variant N n + y + 64 ∧ 64 * variant N n + y ≤ k.val + 64
  · rw [if_pos h, if_pos (by simpa only [key] using (band_window N n y k hN hn hy k.isLt).mp h), add_zero]
  · rw [if_neg h, if_neg (fun h' => h ((band_window N n y k hN hn hy k.isLt).mpr (by simpa only [key] using h'))),
      EReal.add_bot]

include hN hL hn hy in
theorem scores_off (j : Fin L) (h : ∀ k, key (win N n) hw k ≠ j) : scores (128 * n + y) q K j = ⊥ := by
  rw [scores, if_neg]
  intro hb
  have := band_in_window N n y j hN hn hy (by omega) hb
  exact h ⟨j - win N n, by omega⟩ (Fin.ext (by simp only [key]; omega))

include hN hL hn hy hg in
/-- The windowed attention output is the banded one. -/
theorem out_eq (V : Fin L → EReal) : Attn.out g (fun k => V (key (win N n) hw k)) = Attn.out (scores (128 * n + y) q K) V :=
  (Attn.out_window _ (key_inj _ hw) _ g (scores_key N n y hN hn hy q K hw g hg)
    (scores_off N n y hN hL hn hy q K hw) V).symm

include hN hL hn hy hg in
/-- The windowed logarithm of the denominator is the banded one. -/
theorem lse_eq : Attn.lse g = Attn.lse (scores (128 * n + y) q K) :=
  (Attn.lse_window _ (key_inj _ hw) _ g (scores_key N n y hN hn hy q K hw g hg)
    (scores_off N n y hN hL hn hy q K hw)).symm

/-- Real queries and keys give scores that are never `⊤` and, on the diagonal, not `⊥`. -/
theorem scores_real (i : Fin L) (q : Fin 64 → ℝ) (k : Fin L → Fin 64 → ℝ) :
    (∀ j, scores i (fun e => (q e : EReal)) (fun j e => (k j e : EReal)) j ≠ ⊤)
      ∧ ∃ j, scores i (fun e => (q e : EReal)) (fun j e => (k j e : EReal)) j ≠ ⊥ := by
  have hs : ∀ j, (∑ e, (q e : EReal) * (k j e : EReal)) = ((∑ e, q e * k j e : ℝ) : EReal) := fun j => by
    induction (Finset.univ : Finset (Fin 64)) using Finset.induction_on with
    | empty => simp
    | insert a s ha ih => rw [Finset.sum_insert ha, Finset.sum_insert ha, ih, EReal.coe_add, EReal.coe_mul]
  refine ⟨fun j => ?_, i, ?_⟩
  · rw [scores, hs]
    split_ifs
    · exact EReal.coe_ne_top _
    · exact bot_ne_top
  · rw [scores, hs, if_pos (by omega)]
    exact EReal.coe_ne_bot _

end Cert.Band
-- ==== Proof.Dil.Body.lean ====
module

public import proofs.«01_k».proof.Proof.Gen.DilKernel4Ideal.Skeleton
public import Idealize.ShloMosaic.Lib.Pointwise
public import proofs.«01_k».proof.Proof.Band

@[expose] public section

set_option maxRecDepth 16384

noncomputable section

open Idealize.ShloMosaic Idealize.SL.Sem

namespace Cert.Dil

/-- The program's word for the head of a lane, `lane // 64` as the floor division prints it. -/
abbrev headWord (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

/-- The word of a lane's head compared with the word of `h` is the test `lane / 64 = h`. -/
theorem headWord_eq : ∀ (x : Fin 256) (h : Fin 4),
    IntOp.cmpi CmpIPredicate.eq (headWord (BitVec.ofNat 32 ↑x)) (BitVec.ofNat 32 ↑h)
      = BitVec.ofBool (decide ((x : ℕ) / 64 = h)) := by
  decide +kernel

theorem headWord_eq0 (x : Fin 256) : IntOp.cmpi CmpIPredicate.eq (headWord (BitVec.ofNat 32 ↑x)) 0#32
    = BitVec.ofBool (decide ((x : ℕ) / 64 = 0)) := headWord_eq x 0
theorem headWord_eq1 (x : Fin 256) : IntOp.cmpi CmpIPredicate.eq (headWord (BitVec.ofNat 32 ↑x)) 1#32
    = BitVec.ofBool (decide ((x : ℕ) / 64 = 1)) := headWord_eq x 1
theorem headWord_eq2 (x : Fin 256) : IntOp.cmpi CmpIPredicate.eq (headWord (BitVec.ofNat 32 ↑x)) 2#32
    = BitVec.ofBool (decide ((x : ℕ) / 64 = 2)) := headWord_eq x 2
theorem headWord_eq3 (x : Fin 256) : IntOp.cmpi CmpIPredicate.eq (headWord (BitVec.ofNat 32 ↑x)) 3#32
    = BitVec.ofBool (decide ((x : ℕ) / 64 = 3)) := headWord_eq x 3

/-- Lane `e` of head `h`. -/
def headLane (h : Fin 4) (e : Fin 64) : Fin 256 := ⟨64 * h + e, by omega⟩

theorem headLane_inj (h : Fin 4) : Function.Injective (headLane h) := fun a b hab => by
  have := congrArg Fin.val hab
  simp only [headLane] at this
  exact Fin.ext (by omega)

/-- A sum over the lanes of a row that is kept only on the 64 lanes of head `h` is the sum over
    those lanes. -/
theorem sum_head (h : Fin 4) (q k : Fin 256 → EReal) :
    ∑ x : Fin 256, (if (x : ℕ) / 64 = (h : ℕ) then q x else 0) * k x
      = ∑ e : Fin 64, q (headLane h e) * k (headLane h e) := by
  rw [← Finset.sum_subset (Finset.subset_univ (Finset.univ.map ⟨headLane h, headLane_inj h⟩)), Finset.sum_map]
  · refine Finset.sum_congr rfl fun e _ => ?_
    have : ((headLane h e : Fin 256) : ℕ) / 64 = h := by simp only [headLane]; omega
    simp only [Function.Embedding.coeFn_mk, this, if_true]
  · intro x _ hx
    have : ¬ (x : ℕ) / 64 = h := fun hx' => hx (by
      rw [Finset.mem_map]
      exact ⟨⟨x % 64, by omega⟩, Finset.mem_univ _, Fin.ext (by
        simp only [Function.Embedding.coeFn_mk, headLane]; omega)⟩)
    rw [if_neg this, zero_mul]

open Cert.DilKernel4Ideal Cert.DilKernel4Ideal.Gen

/-- The scores of one block: stacked query rows against the window's keys, plus the mask. -/
abbrev scores (kw : FVec Ideal S256x256 .bf16) (mask : FVec Ideal S128x256 .f32)
    (q : FVec Ideal S128x256 .bf16) : FVec Ideal S512x256 .f32 :=
  k0_pay8 kw mask q (iota .tc S128x256 32 [1] iota_S128x256_d1_w32) 64#32 k0_pay6 k0_pay7
    (Scalar.extui (Scalar.cmpi .sgt 64#32 0#32)) (Scalar.extui (Scalar.cmpi .slt 64#32 0#32))

/-- Row `128 h + y` of the stacked scores is query row `y` of head `h`. -/
theorem scores_apply (kw : FVec Ideal S256x256 .bf16) (mask : FVec Ideal S128x256 .f32)
    (q : FVec Ideal S128x256 .bf16) (h : Fin 4) (y : Fin 128) (r : Fin 512) (hr : (r : ℕ) = 128 * h + y)
    (k : Fin 256) :
    scores kw mask q (ix2 r k)
      = (∑ e : Fin 64, q (ix2 y (headLane h e)) * kw (ix2 k (headLane h e)))
        + mask (ix2 y k) := by
  rw [← sum_head h (fun x => q (ix2 y x)) (fun x => kw (ix2 k x))]
  pointwise [scores, k0_pay8, k0_pay6, k0_pay7]
  simp only [headWord_eq0, headWord_eq1, headWord_eq2, headWord_eq3, Band.select_decide]
  have hy := y.isLt
  fin_vals h with hh
  all_goals
    simp only [hh] at hr
    simp only [hr, hh]
    congr 1
    · refine Finset.sum_congr rfl fun x _ => ?_
      congr 1
      split_ifs <;> first | omega | rfl | exact congrArg (fun i => q (ix2 i x)) (Fin.ext (by dsimp only; omega))
    · split_ifs <;> first | omega | rfl | exact congrArg (fun i => mask (ix2 i k)) (Fin.ext (by dsimp only; omega))

/-- The four heads' rows put back side by side: lane `x` of row `y` comes from row `128 (x / 64) + y`. -/
theorem unstack_o (z : FVec Ideal S512x256 .f32) (y : Fin 128) (x : Fin 256) (r : Fin 512)
    (hr : (r : ℕ) = 128 * (x / 64) + y) :
    k0_pay15 z (iota .tc S128x256 32 [1] iota_S128x256_d1_w32) 64#32 k0_pay13 k0_pay14 (ix3 0 y x)
      = z (ix2 r x) := by
  pointwise [k0_pay15, k0_pay13, k0_pay14]
  simp only [headWord_eq1, headWord_eq2, headWord_eq3, Band.select_decide]
  have hx := x.isLt
  split_ifs with h3 h2 h1
  all_goals exact congrArg (fun i => z (ix2 i x)) (Fin.ext (by dsimp only; omega))

/-- The same for the second output. -/
theorem unstack_lse (z : FVec Ideal S512x256 .f32) (y : Fin 128) (x : Fin 256) (r : Fin 512)
    (hr : (r : ℕ) = 128 * (x / 64) + y) :
    k0_pay1 z (iota .tc S128x256 32 [1] iota_S128x256_d1_w32) 64#32 k0_pay17 k0_pay18 (ix3 0 y x)
      = z (ix2 r x) := by
  pointwise [k0_pay1, k0_pay17, k0_pay18]
  simp only [headWord_eq1, headWord_eq2, headWord_eq3, Band.select_decide]
  have hx := x.isLt
  split_ifs with h3 h2 h1
  all_goals exact congrArg (fun i => z (ix2 i x)) (Fin.ext (by dsimp only; omega))

variable (kw vw : FVec Ideal S256x256 .bf16) (mask : FVec Ideal S128x256 .f32) (q : FVec Ideal S128x256 .bf16)

/-- The attention outputs of the stacked rows. -/
abbrev outRows : FVec Ideal S512x256 .f32 :=
  k0_pay12 kw vw mask q (iota .tc S128x256 32 [1] iota_S128x256_d1_w32) 64#32 k0_pay6 k0_pay7
    (Scalar.extui (Scalar.cmpi .sgt 64#32 0#32)) (Scalar.extui (Scalar.cmpi .slt 64#32 0#32))

/-- Each stacked row is the attention output of its scores. -/
theorem outRows_apply (r : Fin 512) (x : Fin 256) :
    outRows kw vw mask q (ix2 r x)
      = Attn.out (fun k => scores kw mask q (ix2 r k)) (fun k => vw (ix2 k x)) := by
  pointwise [outRows, k0_pay12, k0_pay11, k0_pay10, k0_pay9]
  rw [Attn.ofBits_negInf]
  rfl

/-- The logarithms of the denominators of the stacked rows, spread over the lanes. -/
abbrev lseRows : FVec Ideal S512x256 .f32 :=
  k0_pay16 (k0_pay9 kw mask q (iota .tc S128x256 32 [1] iota_S128x256_d1_w32) 64#32 k0_pay6 k0_pay7
    (Scalar.extui (Scalar.cmpi .sgt 64#32 0#32)) (Scalar.extui (Scalar.cmpi .slt 64#32 0#32)))
    (k0_pay11 kw mask q (iota .tc S128x256 32 [1] iota_S128x256_d1_w32) 64#32 k0_pay6 k0_pay7
    (Scalar.extui (Scalar.cmpi .sgt 64#32 0#32)) (Scalar.extui (Scalar.cmpi .slt 64#32 0#32)))

/-- Each stacked row holds the logarithm of its denominator. -/
theorem lseRows_apply (r : Fin 512) (x : Fin 256) :
    lseRows kw mask q (ix2 r x) = Attn.lse (fun k => scores kw mask q (ix2 r k)) := by
  pointwise [lseRows, k0_pay16, k0_pay11, k0_pay10, k0_pay9]
  rw [Attn.ofBits_negInf]
  rfl

end Cert.Dil
-- ==== Proof.Dil.Spec.lean ====
module

public import proofs.«01_k».proof.Proof.Band
public import Idealize.ShloMosaic.Lib.Pointwise

@[expose] public section

noncomputable section

open Idealize.ShloMosaic

/-! The dilated attention of one group of heads, as a function of the projected array. -/

namespace Cert.Dil

/-- The entry of the projected array at batch `b`, token `t`, column `l`. -/
def rd (X : Shape.Idx ⟨3, ![8, 4096, 3840]⟩ → EReal) (b : Fin 8) (t l : ℕ) : EReal :=
  if h : t < 4096 ∧ l < 3840 then X (ix3 b ⟨t, h.1⟩ ⟨l, h.2⟩) else 0

/-- Head `h`'s scores of group `g`: query `i` against the keys of residue `r` modulo `d`. -/
def sc (d g : ℕ) {L : ℕ} (X : Shape.Idx ⟨3, ![8, 4096, 3840]⟩ → EReal) (b : Fin 8) (r i h : ℕ) : Fin L → EReal :=
  Band.scores i (fun e => rd X b (d * i + r) (1536 + 256 * g + 64 * h + e))
    (fun j e => rd X b (d * j + r) (2304 + 256 * g + 64 * h + e))

/-- The attention output at lane `x` of group `g`. -/
def oAt (d g L : ℕ) (X : Shape.Idx ⟨3, ![8, 4096, 3840]⟩ → EReal) (b : Fin 8) (i r x : ℕ) : EReal :=
  Attn.out (sc d g (L := L) X b r i (x / 64)) (fun j => rd X b (d * j + r) (3072 + 256 * g + x))

/-- The logarithm of the denominator at lane `x` of group `g`. -/
def lseAt (d g L : ℕ) (X : Shape.Idx ⟨3, ![8, 4096, 3840]⟩ → EReal) (b : Fin 8) (i r x : ℕ) : EReal :=
  Attn.lse (sc d g (L := L) X b r i (x / 64))

theorem rd_eq (X : Shape.Idx ⟨3, ![8, 4096, 3840]⟩ → EReal) (b : Fin 8) (t l t' l' : ℕ) (ht : t < 4096) (hl : l < 3840)
    (h1 : t = t') (h2 : l = l') : X (ix3 b ⟨t, ht⟩ ⟨l, hl⟩) = rd X b t' l' := by
  subst h1 h2
  rw [rd, dif_pos ⟨ht, hl⟩]

/-- The mask's entry: `0` on the band, `⊥` off it. -/
def maskAt (a y k : ℕ) : EReal :=
  if k ≤ 64 * a + y + 64 ∧ 64 * a + y ≤ k + 64 then 0 else ⊥

/-- A projected array of reals is read as reals. -/
theorem rd_real (X : Shape.Idx ⟨3, ![8, 4096, 3840]⟩ → EReal) (hX : ∀ i, ∃ x : ℝ, X i = x) (b : Fin 8) (t l : ℕ) :
    ∃ x : ℝ, rd X b t l = x := by
  unfold rd
  split_ifs with h
  · exact hX _
  · exact ⟨0, EReal.coe_zero.symm⟩

/-- The scores of a projected array of reals: none is `⊤`, the query's own is not `⊥`. -/
theorem sc_real (d g : ℕ) {L : ℕ} (X : Shape.Idx ⟨3, ![8, 4096, 3840]⟩ → EReal) (hX : ∀ i, ∃ x : ℝ, X i = x)
    (b : Fin 8) (r : ℕ) (i : Fin L) (h : ℕ) :
    (∀ j, sc d g (L := L) X b r i h j ≠ ⊤) ∧ ∃ j, sc d g (L := L) X b r i h j ≠ ⊥ := by
  choose f hf using fun t l => rd_real X hX b t l
  simp only [sc, hf]
  exact Band.scores_real i (fun e => f (d * i + r) (1536 + 256 * g + 64 * h + e))
    (fun j e => f (d * j + r) (2304 + 256 * g + 64 * h + e))

end Cert.Dil
-- ==== Proof.Dil.Point.lean ====
module

public import proofs.«01_k».proof.Proof.Dil.Body
public import proofs.«01_k».proof.Proof.Dil.Spec

@[expose] public section

set_option maxRecDepth 16384

noncomputable section

open Idealize.ShloMosaic

/-! One block of the dilated attention equals the attention of its rows over the whole residue class. -/

namespace Cert.Dil

open Cert.DilKernel4Ideal Cert.DilKernel4Ideal.Gen

variable (d g N n r : ℕ) {L : ℕ} (hN : 2 ≤ N) (hL : L = 128 * N) (hn : n < N)
  (X : Shape.Idx ⟨3, ![8, 4096, 3840]⟩ → EReal) (b : Fin 8)
  (kw vw : FVec Ideal S256x256 .bf16) (mask : FVec Ideal S128x256 .f32) (q : FVec Ideal S128x256 .bf16)
  (hq : ∀ (y : Fin 128) (e : Fin 256), q (ix2 y e) = rd X b (d * (128 * n + y) + r) (1536 + 256 * g + e))
  (hk : ∀ (k : Fin 256) (e : Fin 256), kw (ix2 k e) = rd X b (d * (Band.win N n + k) + r) (2304 + 256 * g + e))
  (hv : ∀ (k : Fin 256) (e : Fin 256), vw (ix2 k e) = rd X b (d * (Band.win N n + k) + r) (3072 + 256 * g + e))
  (hm : ∀ (y : Fin 128) (k : Fin 256), mask (ix2 y k) = maskAt (Band.variant N n) y k)

include hN hL hn hq hk hm in
/-- The block's scores in the form the band lemmas take. -/
theorem scores_form (y : Fin 128) (h : Fin 4) (rr : Fin 512) (hr : (rr : ℕ) = 128 * h + y)
    (hw : Band.win N n + 256 ≤ L) (k : Fin 256) :
    scores kw mask q (ix2 rr k)
      = (∑ e : Fin 64, rd X b (d * (128 * n + y) + r) (1536 + 256 * g + 64 * h + e)
          * rd X b (d * (Band.key (L := L) (Band.win N n) hw k : ℕ) + r) (2304 + 256 * g + 64 * h + e))
        + (if k.val ≤ 64 * Band.variant N n + y + 64 ∧ 64 * Band.variant N n + y ≤ k + 64 then 0 else ⊥) := by
  rw [scores_apply kw mask q h y rr hr k, hm]
  congr 1
  refine Finset.sum_congr rfl fun e _ => ?_
  rw [hq, hk]
  congr 2 <;> simp only [headLane] <;> omega

include hN hL hn hq hk hv hm in
/-- The row of head `x / 64` gives the attention output at lane `x`. -/
theorem o_row (y : Fin 128) (x : Fin 256) (rr : Fin 512) (hr : (rr : ℕ) = 128 * (x / 64) + y) :
    outRows kw vw mask q (ix2 rr x) = oAt d g L X b (128 * n + y) r x := by
  have hw : Band.win N n + 256 ≤ L := by have := Band.win_le N n hN; omega
  have hh : x.val / 64 < 4 := by omega
  have hg := scores_form d g N n r hN hL hn X b kw mask q hq hk hm y ⟨x.val / 64, hh⟩ rr hr hw
  have ho := Band.out_eq N n y hN hL hn y.isLt
    (fun e => rd X b (d * (128 * n + y) + r) (1536 + 256 * g + 64 * (x.val / 64) + e))
    (fun j e => rd X b (d * j + r) (2304 + 256 * g + 64 * (x.val / 64) + e)) hw
    (fun k => scores kw mask q (ix2 rr k)) hg (fun j : Fin L => rd X b (d * j + r) (3072 + 256 * g + x))
  refine (outRows_apply kw vw mask q rr x).trans (Eq.trans (congrArg (Attn.out _) (funext fun k => ?_)) ho)
  exact hv k x

include hN hL hn hq hk hm in
/-- The row of head `x / 64` gives the logarithm at lane `x`. -/
theorem lse_row (y : Fin 128) (x : Fin 256) (rr : Fin 512) (hr : (rr : ℕ) = 128 * (x / 64) + y) :
    lseRows kw mask q (ix2 rr x) = lseAt d g L X b (128 * n + y) r x := by
  have hw : Band.win N n + 256 ≤ L := by have := Band.win_le N n hN; omega
  have hh : x.val / 64 < 4 := by omega
  rw [lseRows_apply, lseAt, sc]
  exact Band.lse_eq N n y hN hL hn y.isLt _ _ hw _
    (scores_form d g N n r hN hL hn X b kw mask q hq hk hm y ⟨x.val / 64, hh⟩ rr hr hw)

include hN hL hn hq hk hv hm in
/-- The block of outputs. -/
theorem o_point (y : Fin 128) (x : Fin 256) :
    k0_pay15 (outRows kw vw mask q) (iota .tc S128x256 32 [1] iota_S128x256_d1_w32) 64#32 k0_pay13 k0_pay14 (ix3 0 y x)
      = oAt d g L X b (128 * n + y) r x :=
  (unstack_o _ y x ⟨128 * (x.val / 64) + y, by omega⟩ (by dsimp only)).trans
    (o_row d g N n r hN hL hn X b kw vw mask q hq hk hv hm y x _ (by dsimp only))

include hN hL hn hq hk hm in
/-- The block of logarithms. -/
theorem lse_point (y : Fin 128) (x : Fin 256) :
    k0_pay1 (lseRows kw mask q) (iota .tc S128x256 32 [1] iota_S128x256_d1_w32) 64#32 k0_pay17 k0_pay18 (ix3 0 y x)
      = lseAt d g L X b (128 * n + y) r x :=
  (unstack_lse _ y x ⟨128 * (x.val / 64) + y, by omega⟩ (by dsimp only)).trans
    (lse_row d g N n r hN hL hn X b kw mask q hq hk hm y x _ (by dsimp only))

end Cert.Dil
-- ==== Proof.Dil.Array.lean ====
module

public import proofs.«01_k».proof.Proof.Dil.Point
public import proofs.«01_k».proof.Proof.Gen.DilKernel4Ideal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Dil

open Cert.DilKernel4Ideal Cert.DilKernel4Ideal.Gen

variable (m : (ℓ : Loc nD τ sig) → Buf (Elt Ideal) ℓ)

theorem idx : ∀ t : Fin cfg0.N,
    win0_0.index t = ![t.val / 32, t.val % 8, (t.val / 8 % 4) * 15 + 7]
    ∧ win0_1.index t = ![t.val / 32, 0, (t.val / 8 % 4) * 15 + 10]
    ∧ win0_2.index t = ![t.val / 32, 0, (t.val / 8 % 4) * 15 + 13]
    ∧ win0_3.index t = ![0, 0, 0]
    ∧ win0_4.index t = ![t.val / 32, t.val % 8, t.val / 8 % 4]
    ∧ win0_5.index t = ![t.val / 32, t.val % 8, t.val / 8 % 4] :=
  (by decide +kernel : ∀ t : Fin grid0.N, _)

theorem view_apply (c : Dev nD) (b : Fin 8) (i : Fin 1024) (l : Fin 15360) :
    V m c main_v35 (ix3 b i l)
      = m ((c : Thread nD τ).loc main_arg0)
          (ix3 b (⟨4 * i + l / 3840, by omega⟩ : Fin 4096) (⟨l % 3840, by omega⟩ : Fin 3840)) := by
  unfold_abbrev_sides
  simp only [List.flatten_cons, List.flatten_nil, List.cons_append, List.nil_append, List.append_nil]
  after_reads_simp
  pointwise
  exact congrArg (fun i => m ((c : Thread nD τ).loc main_arg0) (ix3 b i _)) (Fin.ext (by dsimp only; omega))

theorem mask_word (a y k : ℕ) (ha : a < 3) (hy : y < 128) (hk : k < 256) :
    Scalar.select (IntOp.cmpi CmpIPredicate.sle
      (IntOp.absi (IntOp.subi (IntOp.addi (BitVec.ofNat 32 (64 * a)) (BitVec.ofNat 32 y)) (BitVec.ofNat 32 k))) 64#32)
      (0 : EReal) ⊥ = maskAt a y k := by
  have : IntOp.addi (BitVec.ofNat 32 (64 * a)) (BitVec.ofNat 32 y) = BitVec.ofNat 32 (64 * a + y) :=
    (BitVec.ofNat_add ..).symm
  rw [this, Band.band_word _ _ (by omega) (by omega), Band.select_decide, maskAt]
  simp only [and_comm]

theorem mask_apply (c : Dev nD) (a : Fin 3) (y : Fin 128) (k : Fin 256) :
    V m c main_v34 (ix3 a y k) = maskAt a y k := by
  unfold_abbrev_sides
  simp only [List.flatten_cons, List.flatten_nil, List.cons_append, List.nil_append, List.append_nil]
  after_reads_simp
  pointwise
  after_reads_simp
  simp only [StableHlo.TRef.toBuf, StableHlo.TRef.ofBuf, cast_eq]
  pointwise
  simp only [Attn.ofBits_negInf]
  split_ifs with h h'
  · rw [show a.val = 0 by omega]; exact mask_word 0 y k (by omega) y.isLt k.isLt
  · rw [show a.val = 1 by omega]; exact mask_word 1 y k (by omega) y.isLt k.isLt
  · rw [show a.val = 2 by omega]; exact mask_word 2 y k (by omega) y.isLt k.isLt

theorem off1_eq : ∀ i : grid0.Coords,
    k0_off1 i = ![0, min (128 * (i 2).val - 64) 768, 0] := by
  have h : ∀ n : Fin 8, (Scalar.minsi 768#32 (Scalar.maxsi 0#32 (Scalar.subi (Scalar.muli (BitVec.ofNat 32 n.val) 128#32) 64#32)) : BitVec 32).toNat = min (128 * n.val - 64) 768 := by
    decide +kernel
  intro i
  funext a
  fin_cases a
  · rfl
  · exact h (i 2)
  · rfl

theorem coords : ∀ t : Fin cfg0.N, (grid0.coords t 2).val = t.val % 8 :=
  (by decide +kernel : ∀ t : Fin grid0.N, _)

abbrev X (c : Dev nD) : FVec Ideal S8x4096x3840 .bf16 := m ((c : Thread nD τ).loc main_arg0)

theorem q_read (c : Dev nD) (t : Fin cfg0.N) (b : Fin 8) (hb : b.val = t.val / 32) (y : Fin 128) (e : Fin 256) :
    k0_pay5 (iblk m c 0 t) (ix2 y e) = rd (X m c) b (4 * (128 * (t.val % 8) + y) + t.val / 8 % 4) (1792 + e) := by
  pointwise [k0_pay5]
  have h : (win0_0.blk t).view.emb (ix3 0 y e)
      = ix3 b (⟨128 * (t.val % 8) + y, by omega⟩ : Fin 1024) (⟨256 * (t.val / 8 % 4 * 15 + 7) + e, by omega⟩ : Fin 15360) := by
    blk_ext [iblk, idx t]
  refine (congrArg (V m c main_v35) h).trans ((view_apply m c _ _ _).trans (rd_eq _ _ _ _ _ _ _ _ ?_ ?_)) <;> (dsimp only; omega)

theorem k_read (c : Dev nD) (t : Fin cfg0.N) (b : Fin 8) (hb : b.val = t.val / 32) (k : Fin 256) (e : Fin 256) :
    k0_pay2 (View.ld (iblk m c 1 t) (Rect.unit (s := S1x1024x256) (k0_off1 (grid0.coords t)) ![1, 256, 256] (k0_off1_inb (grid0.coords t)))) (ix2 k e)
      = rd (X m c) b (4 * (Band.win 8 (t.val % 8) + k) + t.val / 8 % 4) (2560 + e) := by
  pointwise [k0_pay2]
  have hw : Band.win 8 (t.val % 8) = min (128 * (t.val % 8) - 64) 768 := rfl
  simp only [off1_eq, coords]
  have h : (win0_1.blk t).view.emb (ix3 ⟨0, by omega⟩ ⟨min (128 * (t.val % 8) - 64) 768 + k, by omega⟩ ⟨0 + e, by omega⟩)
      = ix3 b (⟨Band.win 8 (t.val % 8) + k, by omega⟩ : Fin 1024) (⟨256 * (t.val / 8 % 4 * 15 + 10) + e, by omega⟩ : Fin 15360) := by
    blk_ext [iblk, idx t]
  refine (congrArg (V m c main_v35) h).trans ((view_apply m c _ _ _).trans (rd_eq _ _ _ _ _ _ _ _ ?_ ?_)) <;> (dsimp only; omega)

theorem v_read (c : Dev nD) (t : Fin cfg0.N) (b : Fin 8) (hb : b.val = t.val / 32) (k : Fin 256) (e : Fin 256) :
    k0_pay3 (View.ld (iblk m c 2 t) (Rect.unit (s := S1x1024x256) (k0_off1 (grid0.coords t)) ![1, 256, 256] (k0_off1_inb (grid0.coords t)))) (ix2 k e)
      = rd (X m c) b (4 * (Band.win 8 (t.val % 8) + k) + t.val / 8 % 4) (3328 + e) := by
  pointwise [k0_pay3]
  have hw : Band.win 8 (t.val % 8) = min (128 * (t.val % 8) - 64) 768 := rfl
  simp only [off1_eq, coords]
  have h : (win0_2.blk t).view.emb (ix3 ⟨0, by omega⟩ ⟨min (128 * (t.val % 8) - 64) 768 + k, by omega⟩ ⟨0 + e, by omega⟩)
      = ix3 b (⟨Band.win 8 (t.val % 8) + k, by omega⟩ : Fin 1024) (⟨256 * (t.val / 8 % 4 * 15 + 13) + e, by omega⟩ : Fin 15360) := by
    blk_ext [iblk, idx t]
  refine (congrArg (V m c main_v35) h).trans ((view_apply m c _ _ _).trans (rd_eq _ _ _ _ _ _ _ _ ?_ ?_)) <;> (dsimp only; omega)

theorem mask_read (c : Dev nD) (t : Fin cfg0.N) (y : Fin 128) (k : Fin 256) :
    k0_pay4 (View.ld (iblk m c 3 t) (Rect.unit (s := S3x128x256) (k0_off2 (grid0.coords t)) ![1, 128, 256] (k0_off2_inb (grid0.coords t)))) (ix2 y k)
      = maskAt (Band.variant 8 (t.val % 8)) y k := by
  pointwise [k0_pay4]
  have hv : Band.variant 8 (t.val % 8) < 3 := by unfold Band.variant; split_ifs <;> omega
  have hv' : Band.variant 8 (t.val % 8) = if t.val % 8 = 0 then 0 else if t.val % 8 = 7 then 2 else 1 := rfl
  simp only [k0_off2_eq, coords]
  have h : (win0_3.blk t).view.emb (ix3 ⟨(if t.val % 8 = 0 then 0 else if t.val % 8 = 7 then 2 else 1) + 0, by omega⟩ ⟨0 + y, by omega⟩ ⟨0 + k, by omega⟩)
      = ix3 (⟨Band.variant 8 (t.val % 8), hv⟩ : Fin 3) y k := by
    blk_ext [iblk, idx t]
  exact (congrArg (V m c main_v34) h).trans (mask_apply m c _ _ _)

/-- The attention output, entry by entry. -/
def oArr (c : Dev nD) : S8x1024x1024.Idx → EReal := fun i =>
  oAt 4 1 1024 (X m c) (i 0) (i 1).val ((i 2).val / 256) ((i 2).val % 256)

/-- The logarithms of the denominators, entry by entry. -/
def lseArr (c : Dev nD) : S8x1024x1024.Idx → EReal := fun i =>
  lseAt 4 1 1024 (X m c) (i 0) (i 1).val ((i 2).val / 256) ((i 2).val % 256)

/-- The bounds of a block's index, as numbers. -/
theorem blk_lt (y : S1x128x256.Idx) : (y 0).val < 1 ∧ (y 1).val < 128 ∧ (y 2).val < 256 :=
  ⟨(y 0).isLt, (y 1).isLt, (y 2).isLt⟩

theorem oArr_at (c : Dev nD) (t : Fin cfg0.N) (y : S1x128x256.Idx) (i : S8x1024x1024.Idx)
    (h0 : (i 0).val = t.val / 32) (h1 : (i 1).val = 128 * (t.val % 8) + (y 1).val)
    (h2 : (i 2).val = 256 * (t.val / 8 % 4) + (y 2).val) :
    k0_pay15 (outRows (k0_pay2 (View.ld (iblk m c 1 t) (Rect.unit (s := S1x1024x256) (k0_off1 (grid0.coords t)) ![1, 256, 256] (k0_off1_inb (grid0.coords t)))))
        (k0_pay3 (View.ld (iblk m c 2 t) (Rect.unit (s := S1x1024x256) (k0_off1 (grid0.coords t)) ![1, 256, 256] (k0_off1_inb (grid0.coords t)))))
        (k0_pay4 (View.ld (iblk m c 3 t) (Rect.unit (s := S3x128x256) (k0_off2 (grid0.coords t)) ![1, 128, 256] (k0_off2_inb (grid0.coords t)))))
        (k0_pay5 (iblk m c 0 t)))
      (iota .tc S128x256 32 [1] iota_S128x256_d1_w32) 64#32 k0_pay13 k0_pay14 y = oArr m c i := by
  obtain ⟨y0, y1, y2⟩ := blk_lt y
  have hy : y = ix3 0 (⟨(y 1).val, y1⟩ : Fin 128) (⟨(y 2).val, y2⟩ : Fin 256) := by blk_ext
  have hb : (i 0).val = t.val / 32 := h0
  rw [hy]
  refine (o_point 4 1 8 (t.val % 8) (t.val / 8 % 4) (L := 1024) (by omega) rfl (by omega) (X m c) (i 0) _ _ _ _
    (fun y e => q_read m c t (i 0) hb y e) (fun k e => k_read m c t (i 0) hb k e) (fun k e => v_read m c t (i 0) hb k e)
    (fun y k => mask_read m c t y k) _ _).trans ?_
  unfold oArr
  have e1 : (i 2).val / 256 = t.val / 8 % 4 := by omega
  have e2 : (i 2).val % 256 = (y 2).val := by omega
  rw [e1, e2, h1]

theorem lseArr_at (c : Dev nD) (t : Fin cfg0.N) (y : S1x128x256.Idx) (i : S8x1024x1024.Idx)
    (h0 : (i 0).val = t.val / 32) (h1 : (i 1).val = 128 * (t.val % 8) + (y 1).val)
    (h2 : (i 2).val = 256 * (t.val / 8 % 4) + (y 2).val) :
    k0_pay1 (lseRows (k0_pay2 (View.ld (iblk m c 1 t) (Rect.unit (s := S1x1024x256) (k0_off1 (grid0.coords t)) ![1, 256, 256] (k0_off1_inb (grid0.coords t)))))
        (k0_pay4 (View.ld (iblk m c 3 t) (Rect.unit (s := S3x128x256) (k0_off2 (grid0.coords t)) ![1, 128, 256] (k0_off2_inb (grid0.coords t)))))
        (k0_pay5 (iblk m c 0 t)))
      (iota .tc S128x256 32 [1] iota_S128x256_d1_w32) 64#32 k0_pay17 k0_pay18 y = lseArr m c i := by
  obtain ⟨y0, y1, y2⟩ := blk_lt y
  have hy : y = ix3 0 (⟨(y 1).val, y1⟩ : Fin 128) (⟨(y 2).val, y2⟩ : Fin 256) := by blk_ext
  have hb : (i 0).val = t.val / 32 := h0
  rw [hy]
  refine (lse_point 4 1 8 (t.val % 8) (t.val / 8 % 4) (L := 1024) (by omega) rfl (by omega) (X m c) (i 0) _ _ _
    (fun y e => q_read m c t (i 0) hb y e) (fun k e => k_read m c t (i 0) hb k e)
    (fun y k => mask_read m c t y k) _ _).trans ?_
  unfold lseArr
  have e1 : (i 2).val / 256 = t.val / 8 % 4 := by omega
  have e2 : (i 2).val % 256 = (y 2).val := by omega
  rw [e1, e2, h1]

theorem final4 (c : Dev nD) : (dats m 0 c).arrAt 4 cfg0.N = oArr m c := by
  refine (dats m 0 c).arrAt_eq_of_covers 4 _ (by decide +kernel) fun t _ y => ?_
  blk_simp
  rw [after0_4]
  unfold outsAt0
  dsimp only
  frame_out
  refine oArr_at m c t y _ ?_ ?_ ?_
  all_goals blk_simp [idx t]
  all_goals omega

theorem final5 (c : Dev nD) : (dats m 0 c).arrAt 5 cfg0.N = lseArr m c := by
  refine (dats m 0 c).arrAt_eq_of_covers 5 _ (by decide +kernel) fun t _ y => ?_
  blk_simp
  rw [after0_5]
  unfold outsAt0
  dsimp only
  frame_out
  refine lseArr_at m c t y _ ?_ ?_ ?_
  all_goals blk_simp [idx t]
  all_goals omega

end Cert.Dil
-- ==== Proof.Dil.Ref.lean ====
module

public import proofs.«01_k».proof.Proof.Gen.DilReference4Ideal.Run
public import proofs.«01_k».proof.Proof.Dil.Spec

@[expose] public section

set_option maxRecDepth 16384

noncomputable section

open Idealize.ShloMosaic

/-! What the dilated attention's reference computes, entry by entry. -/

namespace Cert.Dil.Ref

open Cert.DilReference4Ideal Cert.DilReference4Ideal.Gen Cert.DilReference4Ideal.Facts

variable (X : FVec Ideal S8x4096x3840 .bf16) (S : FVec Ideal S8x4x4x1024x1024 .f32)

/-- The masked scores. -/
def scoresR : FVec Ideal S8x4x4x1024x1024 .f32 :=
  select (broadcastInDim S8x4x4x1024x1024 ![3, 4] bcast_S1024x1024_S8x4x4x1024x1024_3_4 (cmpi .sle (absi (subi (iotaInDim S1024x1024 32 0) (iotaInDim S1024x1024 32 1))) (broadcastInDim S1024x1024 ![] bcast_S_S1024x1024 (constantI S_ 32 64#32)))) (Host.dotGeneral dot_S8x1024x4x4x64_S8x1024x4x4x64_S8x4x4x1024x1024_4_4_1_1_023_023 none (shapeCast _ (extf .f32 (extractStridedSlice S8x4096x256 ![0, 0, 1792] X slices_S8x4096x3840_S8x4096x256_0_0_1792) bitsLt_bf16_f32) shapeCasts_S8x4096x256_S8x1024x4x4x64) (shapeCast _ (extf .f32 (extractStridedSlice S8x4096x256 ![0, 0, 2560] X slices_S8x4096x3840_S8x4096x256_0_0_2560) bitsLt_bf16_f32) shapeCasts_S8x4096x256_S8x1024x4x4x64)) (broadcastInDim S8x4x4x1024x1024 ![] bcast_S_S8x4x4x1024x1024 (id (constant S_ .f32 0xFF800000#32)))

/-- The rows' maxima. -/
def maxR : FVec Ideal S8x4x4x1024 .f32 :=
  Host.reduce FloatOps.maximumf S (constant S_ .f32 0xFF800000#32) reducesTo_S8x4x4x1024x1024_S8x4x4x1024_d4 h_S_

/-- The logarithms of the rows' denominators. -/
def lseR : FVec Ideal S8x4x4x1024 .f32 :=
  addf (Host.log (Host.reduceAdd (Host.exp (subf S (broadcastInDim S8x4x4x1024x1024 ![0, 1, 2, 3, 4] bcast_S8x4x4x1024x1_S8x4x4x1024x1024_0_1_2_3_4 (broadcastInDim S8x4x4x1024x1 ![0, 1, 2, 3] bcast_S8x4x4x1024_S8x4x4x1024x1_0_1_2_3 (maxR S))))) (constant S_ .f32 0x00000000#32) reducesTo_S8x4x4x1024x1024_S8x4x4x1024_d4 h_S_)) (maxR S)

/-- The outputs. -/
def outR : FVec Ideal S8x1024x1024 .bf16 :=
  truncf .bf16 (shapeCast _ (transpose S8x1024x4x4x64 [0, 4, 1, 2, 3] (Host.dotGeneral dot_S8x1024x4x4x64_S8x4x4x1024x1024_S8x4x4x64x1024_1_4_4_3_023_012 none (shapeCast _ (extf .f32 (extractStridedSlice S8x4096x256 ![0, 0, 3328] X slices_S8x4096x3840_S8x4096x256_0_0_3328) bitsLt_bf16_f32) shapeCasts_S8x4096x256_S8x1024x4x4x64) (Host.exp (subf S (broadcastInDim S8x4x4x1024x1024 ![0, 1, 2, 3, 4] bcast_S8x4x4x1024x1_S8x4x4x1024x1024_0_1_2_3_4 (broadcastInDim S8x4x4x1024x1 ![0, 1, 2, 3] bcast_S8x4x4x1024_S8x4x4x1024x1_0_1_2_3 (lseR S)))))) transposes_S8x4x4x64x1024_S8x1024x4x4x64_0_4_1_2_3) shapeCasts_S8x1024x4x4x64_S8x1024x1024) bitsLt_bf16_f32

/-- The logarithms spread over the lanes. -/
def lseOutR (Lr : FVec Ideal S8x4x4x1024 .f32) : FVec Ideal S8x1024x1024 .f32 :=
  shapeCast _ (broadcastInDim S8x1024x4x4x64 ![0, 1, 2, 3, 4] bcast_S8x1024x4x4x1_S8x1024x4x4x64_0_1_2_3_4 (broadcastInDim S8x1024x4x4x1 ![0, 1, 2, 3] bcast_S8x1024x4x4_S8x1024x4x4x1_0_1_2_3 (transpose S8x1024x4x4 [0, 3, 1, 2] Lr transposes_S8x4x4x1024_S8x1024x4x4_0_3_1_2))) shapeCasts_S8x1024x4x4x64_S8x1024x1024

theorem res_eq (m : (ℓ : Loc nD τ sig) → Buf (Elt Ideal) ℓ) (c : Dev nD) :
    Value.res_main_v32 m c = outR (m ((c.tc : Thread nD τ).loc main_arg0)) (scoresR (m ((c.tc : Thread nD τ).loc main_arg0))) := rfl

theorem scoresR_apply (b : Fin 8) (r h : Fin 4) (i j : Fin 1024) :
    scoresR X (ix5 b r h i j) = sc 4 1 X b r i h j := by
  have hc : (id (constant (F := Ideal) S_ FTy.f32 4286578688#32) : FVec Ideal S_ .f32) ix0 = ⊥ := Attn.ofBits_negInf
  pointwise [scoresR]
  rw [Band.band_word _ _ (by omega) (by omega), Band.select_decide, hc, sc, Band.scores]
  congr 1
  refine Finset.sum_congr rfl fun x _ => ?_
  congr 1 <;> (refine rd_eq _ _ _ _ _ _ _ _ ?_ ?_ <;> omega)

theorem lseR_apply (b : Fin 8) (r h : Fin 4) (i : Fin 1024) :
    lseR S (ix4 b r h i) = Ideal.log (Attn.den fun j => S (ix5 b r h i j)) + Attn.mx fun j => S (ix5 b r h i j) := by
  pointwise [lseR, maxR]
  rw [Attn.ofBits_negInf]
  rfl

theorem outR_apply (b : Fin 8) (i : Fin 1024) (l : Fin 1024) :
    outR X S (ix3 b i l)
      = ∑ j : Fin 1024, Ideal.exp (S (ix5 b (⟨l / 256, by omega⟩ : Fin 4) (⟨l / 64 % 4, by omega⟩ : Fin 4) i j)
          - lseR S (ix4 b (⟨l / 256, by omega⟩ : Fin 4) (⟨l / 64 % 4, by omega⟩ : Fin 4) i))
        * rd X b (4 * j + l / 256) (3328 + l % 256) := by
  pointwise [outR]
  refine Finset.sum_congr rfl fun j _ => ?_
  rw [mul_comm]
  congr 1
  refine rd_eq _ _ _ _ _ _ _ _ ?_ ?_ <;> omega

theorem lseOutR_apply (Lr : FVec Ideal S8x4x4x1024 .f32) (b : Fin 8) (i : Fin 1024) (l : Fin 1024) :
    lseOutR Lr (ix3 b i l) = Lr (ix4 b (⟨l / 256, by omega⟩ : Fin 4) (⟨l / 64 % 4, by omega⟩ : Fin 4) i) := by
  pointwise [lseOutR]

/-- The reference's output is the attention output. -/
theorem out_eq (hX : ∀ i, ∃ x : ℝ, X i = x) (b : Fin 8) (i : Fin 1024) (l : Fin 1024) :
    outR X (scoresR X) (ix3 b i l) = oAt 4 1 1024 X b i (l / 256) (l % 256) := by
  obtain ⟨ht, hb⟩ := sc_real 4 1 X hX b (l / 256) i (l % 256 / 64)
  have e : l.val / 64 % 4 = l % 256 / 64 := by omega
  rw [outR_apply, lseR_apply]
  simp only [scoresR_apply, e]
  exact Attn.out_eq_normalised _ _ ht hb

/-- The reference's second result is the logarithm of the denominator. -/
theorem lse_eq (b : Fin 8) (i : Fin 1024) (l : Fin 1024) :
    lseOutR (lseR (scoresR X)) (ix3 b i l) = lseAt 4 1 1024 X b i (l / 256) (l % 256) := by
  have e : l.val / 64 % 4 = l % 256 / 64 := by omega
  rw [lseOutR_apply, lseR_apply]
  simp only [scoresR_apply, e]
  exact add_comm _ _

/-- The array of attention outputs. -/
theorem out_arr (hX : ∀ i, ∃ x : ℝ, X i = x) :
    outR X (scoresR X) = fun i => oAt 4 1 1024 X (i 0) (i 1).val ((i 2).val / 256) ((i 2).val % 256) := by
  funext i
  obtain ⟨b, j, l, rfl⟩ : ∃ (b : Fin 8) (j : Fin 1024) (l : Fin 1024), i = ix3 b j l :=
    ⟨i 0, i 1, i 2, by funext a; fin_cases a <;> rfl⟩
  exact out_eq X hX b j l

/-- The array of logarithms. -/
theorem lse_arr :
    lseOutR (lseR (scoresR X)) = fun i => lseAt 4 1 1024 X (i 0) (i 1).val ((i 2).val / 256) ((i 2).val % 256) := by
  funext i
  obtain ⟨b, j, l, rfl⟩ : ∃ (b : Fin 8) (j : Fin 1024) (l : Fin 1024), i = ix3 b j l :=
    ⟨i 0, i 1, i 2, by funext a; fin_cases a <;> rfl⟩
  exact lse_eq X b j l

end Cert.Dil.Ref
-- ==== Proof.Dil.Array1.lean ====
module

public import proofs.«01_k».proof.Proof.Dil.Array
public import proofs.«01_k».proof.Proof.Gen.DilKernel1Ideal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Dil.D1

open Cert.DilKernel1Ideal Cert.DilKernel1Ideal.Gen

variable (m : (ℓ : Loc nD τ sig) → Buf (Elt Ideal) ℓ)

theorem idx : ∀ t : Fin cfg0.N,
    win0_0.index t = ![t.val / 32, t.val % 32, 6]
    ∧ win0_1.index t = ![t.val / 32, 0, 9]
    ∧ win0_2.index t = ![t.val / 32, 0, 12]
    ∧ win0_3.index t = ![0, 0, 0]
    ∧ win0_4.index t = ![t.val / 32, t.val % 32, 0]
    ∧ win0_5.index t = ![t.val / 32, t.val % 32, 0] :=
  (by decide +kernel : ∀ t : Fin grid0.N, _)

theorem view_apply (c : Dev nD) (b : Fin 8) (i : Fin 4096) (l : Fin 3840) :
    V m c main_arg0 (ix3 b i l) = m ((c : Thread nD τ).loc main_arg0) (ix3 b i l) := by
  unfold_abbrev_sides
  simp only [List.flatten_cons, List.flatten_nil, List.cons_append, List.nil_append, List.append_nil]
  after_reads_simp

theorem mask_apply (c : Dev nD) (a : Fin 3) (y : Fin 128) (k : Fin 256) :
    V m c main_v34 (ix3 a y k) = maskAt a y k := by
  unfold_abbrev_sides
  simp only [List.flatten_cons, List.flatten_nil, List.cons_append, List.nil_append, List.append_nil]
  after_reads_simp
  pointwise
  after_reads_simp
  simp only [StableHlo.TRef.toBuf, StableHlo.TRef.ofBuf, cast_eq]
  pointwise
  simp only [Attn.ofBits_negInf]
  split_ifs with h h'
  · rw [show a.val = 0 by omega]; exact mask_word 0 y k (by omega) y.isLt k.isLt
  · rw [show a.val = 1 by omega]; exact mask_word 1 y k (by omega) y.isLt k.isLt
  · rw [show a.val = 2 by omega]; exact mask_word 2 y k (by omega) y.isLt k.isLt

theorem off1_eq : ∀ i : grid0.Coords,
    k0_off1 i = ![0, min (128 * (i 2).val - 64) 3840, 0] := by
  have h : ∀ n : Fin 32, (Scalar.minsi 3840#32 (Scalar.maxsi 0#32 (Scalar.subi (Scalar.muli (BitVec.ofNat 32 n.val) 128#32) 64#32)) : BitVec 32).toNat = min (128 * n.val - 64) 3840 := by
    decide +kernel
  intro i
  funext a
  fin_cases a
  · rfl
  · exact h (i 2)
  · rfl

theorem coords : ∀ t : Fin cfg0.N, (grid0.coords t 2).val = t.val % 32 :=
  (by decide +kernel : ∀ t : Fin grid0.N, _)

abbrev X (c : Dev nD) : FVec Ideal S8x4096x3840 .bf16 := m ((c : Thread nD τ).loc main_arg0)

theorem q_read (c : Dev nD) (t : Fin cfg0.N) (b : Fin 8) (hb : b.val = t.val / 32) (y : Fin 128) (e : Fin 256) :
    k0_pay5 (iblk m c 0 t) (ix2 y e) = rd (X m c) b (1 * (128 * (t.val % 32) + y) + 0) (1536 + e) := by
  pointwise [k0_pay5]
  have h : (win0_0.blk t).view.emb (ix3 0 y e)
      = ix3 b (⟨128 * (t.val % 32) + y, by omega⟩ : Fin 4096) (⟨1536 + e, by omega⟩ : Fin 3840) := by
    blk_ext [iblk, idx t]
  refine (congrArg (V m c main_arg0) h).trans ((view_apply m c _ _ _).trans (rd_eq _ _ _ _ _ _ _ _ ?_ ?_)) <;> omega

theorem k_read (c : Dev nD) (t : Fin cfg0.N) (b : Fin 8) (hb : b.val = t.val / 32) (k : Fin 256) (e : Fin 256) :
    k0_pay2 (View.ld (iblk m c 1 t) (Rect.unit (s := S1x4096x256) (k0_off1 (grid0.coords t)) ![1, 256, 256] (k0_off1_inb (grid0.coords t)))) (ix2 k e)
      = rd (X m c) b (1 * (Band.win 32 (t.val % 32) + k) + 0) (2304 + e) := by
  pointwise [k0_pay2]
  have hw : Band.win 32 (t.val % 32) = min (128 * (t.val % 32) - 64) 3840 := rfl
  simp only [off1_eq, coords]
  have h : (win0_1.blk t).view.emb (ix3 ⟨0, by omega⟩ ⟨min (128 * (t.val % 32) - 64) 3840 + k, by omega⟩ ⟨0 + e, by omega⟩)
      = ix3 b (⟨Band.win 32 (t.val % 32) + k, by omega⟩ : Fin 4096) (⟨2304 + e, by omega⟩ : Fin 3840) := by
    blk_ext [iblk, idx t]
  refine (congrArg (V m c main_arg0) h).trans ((view_apply m c _ _ _).trans (rd_eq _ _ _ _ _ _ _ _ ?_ ?_)) <;> omega

theorem v_read (c : Dev nD) (t : Fin cfg0.N) (b : Fin 8) (hb : b.val = t.val / 32) (k : Fin 256) (e : Fin 256) :
    k0_pay3 (View.ld (iblk m c 2 t) (Rect.unit (s := S1x4096x256) (k0_off1 (grid0.coords t)) ![1, 256, 256] (k0_off1_inb (grid0.coords t)))) (ix2 k e)
      = rd (X m c) b (1 * (Band.win 32 (t.val % 32) + k) + 0) (3072 + e) := by
  pointwise [k0_pay3]
  have hw : Band.win 32 (t.val % 32) = min (128 * (t.val % 32) - 64) 3840 := rfl
  simp only [off1_eq, coords]
  have h : (win0_2.blk t).view.emb (ix3 ⟨0, by omega⟩ ⟨min (128 * (t.val % 32) - 64) 3840 + k, by omega⟩ ⟨0 + e, by omega⟩)
      = ix3 b (⟨Band.win 32 (t.val % 32) + k, by omega⟩ : Fin 4096) (⟨3072 + e, by omega⟩ : Fin 3840) := by
    blk_ext [iblk, idx t]
  refine (congrArg (V m c main_arg0) h).trans ((view_apply m c _ _ _).trans (rd_eq _ _ _ _ _ _ _ _ ?_ ?_)) <;> omega

theorem mask_read (c : Dev nD) (t : Fin cfg0.N) (y : Fin 128) (k : Fin 256) :
    k0_pay4 (View.ld (iblk m c 3 t) (Rect.unit (s := S3x128x256) (k0_off2 (grid0.coords t)) ![1, 128, 256] (k0_off2_inb (grid0.coords t)))) (ix2 y k)
      = maskAt (Band.variant 32 (t.val % 32)) y k := by
  pointwise [k0_pay4]
  have hv : Band.variant 32 (t.val % 32) < 3 := by unfold Band.variant; split_ifs <;> omega
  have hv' : Band.variant 32 (t.val % 32) = if t.val % 32 = 0 then 0 else if t.val % 32 = 31 then 2 else 1 := rfl
  simp only [k0_off2_eq, coords]
  have h : (win0_3.blk t).view.emb (ix3 ⟨(if t.val % 32 = 0 then 0 else if t.val % 32 = 31 then 2 else 1) + 0, by omega⟩ ⟨0 + y, by omega⟩ ⟨0 + k, by omega⟩)
      = ix3 (⟨Band.variant 32 (t.val % 32), hv⟩ : Fin 3) y k := by
    blk_ext [iblk, idx t]
  exact (congrArg (V m c main_v34) h).trans (mask_apply m c _ _ _)

/-- The attention output, entry by entry. -/
def oArr (c : Dev nD) : S8x4096x256.Idx → EReal := fun i =>
  oAt 1 0 4096 (X m c) (i 0) (i 1).val ((i 2).val / 256) ((i 2).val % 256)

/-- The logarithms of the denominators, entry by entry. -/
def lseArr (c : Dev nD) : S8x4096x256.Idx → EReal := fun i =>
  lseAt 1 0 4096 (X m c) (i 0) (i 1).val ((i 2).val / 256) ((i 2).val % 256)

theorem oArr_at (c : Dev nD) (t : Fin cfg0.N) (y : S1x128x256.Idx) (i : S8x4096x256.Idx)
    (h0 : (i 0).val = t.val / 32) (h1 : (i 1).val = 128 * (t.val % 32) + (y 1).val)
    (h2 : (i 2).val = (y 2).val) :
    k0_pay15 (outRows (k0_pay2 (View.ld (iblk m c 1 t) (Rect.unit (s := S1x4096x256) (k0_off1 (grid0.coords t)) ![1, 256, 256] (k0_off1_inb (grid0.coords t)))))
        (k0_pay3 (View.ld (iblk m c 2 t) (Rect.unit (s := S1x4096x256) (k0_off1 (grid0.coords t)) ![1, 256, 256] (k0_off1_inb (grid0.coords t)))))
        (k0_pay4 (View.ld (iblk m c 3 t) (Rect.unit (s := S3x128x256) (k0_off2 (grid0.coords t)) ![1, 128, 256] (k0_off2_inb (grid0.coords t)))))
        (k0_pay5 (iblk m c 0 t)))
      (iota .tc S128x256 32 [1] iota_S128x256_d1_w32) 64#32 k0_pay13 k0_pay14 y = oArr m c i := by
  obtain ⟨y0, y1, y2⟩ := blk_lt y
  have hy : y = ix3 0 (⟨(y 1).val, y1⟩ : Fin 128) (⟨(y 2).val, y2⟩ : Fin 256) := by blk_ext
  have hb : (i 0).val = t.val / 32 := h0
  rw [hy]
  refine (o_point 1 0 32 (t.val % 32) 0 (L := 4096) (by omega) rfl (by omega) (X m c) (i 0) _ _ _ _
    (fun y e => q_read m c t (i 0) hb y e) (fun k e => k_read m c t (i 0) hb k e) (fun k e => v_read m c t (i 0) hb k e)
    (fun y k => mask_read m c t y k) _ _).trans ?_
  unfold oArr
  have e1 : (i 2).val / 256 = 0 := by omega
  have e2 : (i 2).val % 256 = (y 2).val := by omega
  rw [e1, e2, h1]

theorem lseArr_at (c : Dev nD) (t : Fin cfg0.N) (y : S1x128x256.Idx) (i : S8x4096x256.Idx)
    (h0 : (i 0).val = t.val / 32) (h1 : (i 1).val = 128 * (t.val % 32) + (y 1).val)
    (h2 : (i 2).val = (y 2).val) :
    k0_pay1 (lseRows (k0_pay2 (View.ld (iblk m c 1 t) (Rect.unit (s := S1x4096x256) (k0_off1 (grid0.coords t)) ![1, 256, 256] (k0_off1_inb (grid0.coords t)))))
        (k0_pay4 (View.ld (iblk m c 3 t) (Rect.unit (s := S3x128x256) (k0_off2 (grid0.coords t)) ![1, 128, 256] (k0_off2_inb (grid0.coords t)))))
        (k0_pay5 (iblk m c 0 t)))
      (iota .tc S128x256 32 [1] iota_S128x256_d1_w32) 64#32 k0_pay17 k0_pay18 y = lseArr m c i := by
  obtain ⟨y0, y1, y2⟩ := blk_lt y
  have hy : y = ix3 0 (⟨(y 1).val, y1⟩ : Fin 128) (⟨(y 2).val, y2⟩ : Fin 256) := by blk_ext
  have hb : (i 0).val = t.val / 32 := h0
  rw [hy]
  refine (lse_point 1 0 32 (t.val % 32) 0 (L := 4096) (by omega) rfl (by omega) (X m c) (i 0) _ _ _
    (fun y e => q_read m c t (i 0) hb y e) (fun k e => k_read m c t (i 0) hb k e)
    (fun y k => mask_read m c t y k) _ _).trans ?_
  unfold lseArr
  have e1 : (i 2).val / 256 = 0 := by omega
  have e2 : (i 2).val % 256 = (y 2).val := by omega
  rw [e1, e2, h1]

theorem final4 (c : Dev nD) : (dats m 0 c).arrAt 4 cfg0.N = oArr m c := by
  refine (dats m 0 c).arrAt_eq_of_covers 4 _ (by decide +kernel) fun t _ y => ?_
  blk_simp
  rw [after0_4]
  unfold outsAt0
  dsimp only
  frame_out
  refine oArr_at m c t y _ ?_ ?_ ?_
  all_goals blk_simp [idx t]
  all_goals omega

theorem final5 (c : Dev nD) : (dats m 0 c).arrAt 5 cfg0.N = lseArr m c := by
  refine (dats m 0 c).arrAt_eq_of_covers 5 _ (by decide +kernel) fun t _ y => ?_
  blk_simp
  rw [after0_5]
  unfold outsAt0
  dsimp only
  frame_out
  refine lseArr_at m c t y _ ?_ ?_ ?_
  all_goals blk_simp [idx t]
  all_goals omega

end Cert.Dil.D1
-- ==== Proof.Dil.Ref1.lean ====
module

public import proofs.«01_k».proof.Proof.Gen.DilReference1Ideal.Run
public import proofs.«01_k».proof.Proof.Dil.Spec

@[expose] public section

set_option maxRecDepth 16384

noncomputable section

open Idealize.ShloMosaic

/-! What the reference of the attention with dilation 1 computes, entry by entry. -/

namespace Cert.Dil.Ref1

open Cert.DilReference1Ideal Cert.DilReference1Ideal.Gen Cert.DilReference1Ideal.Facts

variable (X : FVec Ideal S8x4096x3840 .bf16) (S : FVec Ideal S8x1x4x4096x4096 .f32)

/-- The masked scores. -/
def scoresR : FVec Ideal S8x1x4x4096x4096 .f32 :=
  select (broadcastInDim S8x1x4x4096x4096 ![3, 4] bcast_S4096x4096_S8x1x4x4096x4096_3_4 (cmpi .sle (absi (subi (iotaInDim S4096x4096 32 0) (iotaInDim S4096x4096 32 1))) (broadcastInDim S4096x4096 ![] bcast_S_S4096x4096 (constantI S_ 32 64#32)))) (Host.dotGeneral dot_S8x4096x1x4x64_S8x4096x1x4x64_S8x1x4x4096x4096_4_4_1_1_023_023 none (shapeCast _ (extf .f32 (extractStridedSlice S8x4096x256 ![0, 0, 1536] X slices_S8x4096x3840_S8x4096x256_0_0_1536) bitsLt_bf16_f32) shapeCasts_S8x4096x256_S8x4096x1x4x64) (shapeCast _ (extf .f32 (extractStridedSlice S8x4096x256 ![0, 0, 2304] X slices_S8x4096x3840_S8x4096x256_0_0_2304) bitsLt_bf16_f32) shapeCasts_S8x4096x256_S8x4096x1x4x64)) (broadcastInDim S8x1x4x4096x4096 ![] bcast_S_S8x1x4x4096x4096 (id (constant S_ .f32 0xFF800000#32)))

/-- The rows' maxima. -/
def maxR : FVec Ideal S8x1x4x4096 .f32 :=
  Host.reduce FloatOps.maximumf S (constant S_ .f32 0xFF800000#32) reducesTo_S8x1x4x4096x4096_S8x1x4x4096_d4 h_S_

/-- The logarithms of the rows' denominators. -/
def lseR : FVec Ideal S8x1x4x4096 .f32 :=
  addf (Host.log (Host.reduceAdd (Host.exp (subf S (broadcastInDim S8x1x4x4096x4096 ![0, 1, 2, 3, 4] bcast_S8x1x4x4096x1_S8x1x4x4096x4096_0_1_2_3_4 (broadcastInDim S8x1x4x4096x1 ![0, 1, 2, 3] bcast_S8x1x4x4096_S8x1x4x4096x1_0_1_2_3 (maxR S))))) (constant S_ .f32 0x00000000#32) reducesTo_S8x1x4x4096x4096_S8x1x4x4096_d4 h_S_)) (maxR S)

/-- The outputs. -/
def outR : FVec Ideal S8x4096x256 .bf16 :=
  truncf .bf16 (shapeCast _ (transpose S8x4096x1x4x64 [0, 4, 1, 2, 3] (Host.dotGeneral dot_S8x4096x1x4x64_S8x1x4x4096x4096_S8x1x4x64x4096_1_4_4_3_023_012 none (shapeCast _ (extf .f32 (extractStridedSlice S8x4096x256 ![0, 0, 3072] X slices_S8x4096x3840_S8x4096x256_0_0_3072) bitsLt_bf16_f32) shapeCasts_S8x4096x256_S8x4096x1x4x64) (Host.exp (subf S (broadcastInDim S8x1x4x4096x4096 ![0, 1, 2, 3, 4] bcast_S8x1x4x4096x1_S8x1x4x4096x4096_0_1_2_3_4 (broadcastInDim S8x1x4x4096x1 ![0, 1, 2, 3] bcast_S8x1x4x4096_S8x1x4x4096x1_0_1_2_3 (lseR S)))))) transposes_S8x1x4x64x4096_S8x4096x1x4x64_0_4_1_2_3) shapeCasts_S8x4096x1x4x64_S8x4096x256) bitsLt_bf16_f32

/-- The logarithms spread over the lanes. -/
def lseOutR (Lr : FVec Ideal S8x1x4x4096 .f32) : FVec Ideal S8x4096x256 .f32 :=
  shapeCast _ (broadcastInDim S8x4096x1x4x64 ![0, 1, 2, 3, 4] bcast_S8x4096x1x4x1_S8x4096x1x4x64_0_1_2_3_4 (broadcastInDim S8x4096x1x4x1 ![0, 1, 2, 3] bcast_S8x4096x1x4_S8x4096x1x4x1_0_1_2_3 (transpose S8x4096x1x4 [0, 3, 1, 2] Lr transposes_S8x1x4x4096_S8x4096x1x4_0_3_1_2))) shapeCasts_S8x4096x1x4x64_S8x4096x256

theorem res_eq (m : (ℓ : Loc nD τ sig) → Buf (Elt Ideal) ℓ) (c : Dev nD) :
    Value.res_main_v32 m c = outR (m ((c.tc : Thread nD τ).loc main_arg0)) (scoresR (m ((c.tc : Thread nD τ).loc main_arg0))) := rfl

theorem scoresR_apply (b : Fin 8) (h : Fin 4) (i j : Fin 4096) :
    scoresR X (ix5 b 0 h i j) = sc 1 0 X b 0 i h j := by
  have hc : (id (constant (F := Ideal) S_ FTy.f32 4286578688#32) : FVec Ideal S_ .f32) ix0 = ⊥ := Attn.ofBits_negInf
  pointwise [scoresR]
  rw [Band.band_word _ _ (by omega) (by omega), Band.select_decide, hc, sc, Band.scores]
  congr 1
  refine Finset.sum_congr rfl fun x _ => ?_
  congr 1 <;> (refine rd_eq _ _ _ _ _ _ _ _ ?_ ?_ <;> omega)

theorem lseR_apply (b : Fin 8) (h : Fin 4) (i : Fin 4096) :
    lseR S (ix4 b 0 h i) = Ideal.log (Attn.den fun j => S (ix5 b 0 h i j)) + Attn.mx fun j => S (ix5 b 0 h i j) := by
  pointwise [lseR, maxR]
  rw [Attn.ofBits_negInf]
  rfl

theorem outR_apply (b : Fin 8) (i : Fin 4096) (l : Fin 256) :
    outR X S (ix3 b i l)
      = ∑ j : Fin 4096, Ideal.exp (S (ix5 b 0 (⟨l / 64, by omega⟩ : Fin 4) i j)
          - lseR S (ix4 b 0 (⟨l / 64, by omega⟩ : Fin 4) i))
        * rd X b (1 * j + l / 256) (3072 + l % 256) := by
  pointwise [outR]
  refine Finset.sum_congr rfl fun j _ => ?_
  rw [mul_comm]
  congr 1
  refine rd_eq _ _ _ _ _ _ _ _ ?_ ?_ <;> omega

theorem lseOutR_apply (Lr : FVec Ideal S8x1x4x4096 .f32) (b : Fin 8) (i : Fin 4096) (l : Fin 256) :
    lseOutR Lr (ix3 b i l) = Lr (ix4 b 0 (⟨l / 64, by omega⟩ : Fin 4) i) := by
  pointwise [lseOutR]

/-- The reference's output is the attention output. -/
theorem out_eq (hX : ∀ i, ∃ x : ℝ, X i = x) (b : Fin 8) (i : Fin 4096) (l : Fin 256) :
    outR X (scoresR X) (ix3 b i l) = oAt 1 0 4096 X b i (l / 256) (l % 256) := by
  obtain ⟨ht, hb⟩ := sc_real 1 0 X hX b 0 i (l % 256 / 64)
  have e : l.val / 64 = l % 256 / 64 := by omega
  have e0 : l.val / 256 = 0 := by omega
  rw [outR_apply, lseR_apply]
  simp only [scoresR_apply, e, e0]
  exact Attn.out_eq_normalised _ _ ht hb

/-- The reference's second result is the logarithm of the denominator. -/
theorem lse_eq (b : Fin 8) (i : Fin 4096) (l : Fin 256) :
    lseOutR (lseR (scoresR X)) (ix3 b i l) = lseAt 1 0 4096 X b i (l / 256) (l % 256) := by
  have e : l.val / 64 = l % 256 / 64 := by omega
  have e0 : l.val / 256 = 0 := by omega
  rw [lseOutR_apply, lseR_apply]
  simp only [scoresR_apply, e, e0]
  exact add_comm _ _

/-- The array of attention outputs. -/
theorem out_arr (hX : ∀ i, ∃ x : ℝ, X i = x) :
    outR X (scoresR X) = fun i => oAt 1 0 4096 X (i 0) (i 1).val ((i 2).val / 256) ((i 2).val % 256) := by
  funext i
  obtain ⟨b, j, l, rfl⟩ : ∃ (b : Fin 8) (j : Fin 4096) (l : Fin 256), i = ix3 b j l :=
    ⟨i 0, i 1, i 2, by funext a; fin_cases a <;> rfl⟩
  exact out_eq X hX b j l

/-- The array of logarithms. -/
theorem lse_arr :
    lseOutR (lseR (scoresR X)) = fun i => lseAt 1 0 4096 X (i 0) (i 1).val ((i 2).val / 256) ((i 2).val % 256) := by
  funext i
  obtain ⟨b, j, l, rfl⟩ : ∃ (b : Fin 8) (j : Fin 4096) (l : Fin 256), i = ix3 b j l :=
    ⟨i 0, i 1, i 2, by funext a; fin_cases a <;> rfl⟩
  exact lse_eq X b j l

end Cert.Dil.Ref1
-- ==== Proof.Dil.Array16.lean ====
module

public import proofs.«01_k».proof.Proof.Dil.Array
public import proofs.«01_k».proof.Proof.Gen.DilKernel16Ideal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Dil.D16

open Cert.DilKernel16Ideal Cert.DilKernel16Ideal.Gen

variable (m : (ℓ : Loc nD τ sig) → Buf (Elt Ideal) ℓ)

theorem idx : ∀ t : Fin cfg0.N,
    win0_0.index t = ![t.val / 32, t.val % 2, (t.val / 2 % 16) * 15 + 8]
    ∧ win0_1.index t = ![t.val / 32, 0, (t.val / 2 % 16) * 15 + 11]
    ∧ win0_2.index t = ![t.val / 32, 0, (t.val / 2 % 16) * 15 + 14]
    ∧ win0_3.index t = ![0, 0, 0]
    ∧ win0_4.index t = ![t.val / 32, t.val % 2, t.val / 2 % 16]
    ∧ win0_5.index t = ![t.val / 32, t.val % 2, t.val / 2 % 16] :=
  (by decide +kernel : ∀ t : Fin grid0.N, _)

theorem view_apply (c : Dev nD) (b : Fin 8) (i : Fin 256) (l : Fin 61440) :
    V m c main_v35 (ix3 b i l)
      = m ((c : Thread nD τ).loc main_arg0)
          (ix3 b (⟨16 * i + l / 3840, by omega⟩ : Fin 4096) (⟨l % 3840, by omega⟩ : Fin 3840)) := by
  unfold_abbrev_sides
  simp only [List.flatten_cons, List.flatten_nil, List.cons_append, List.nil_append, List.append_nil]
  after_reads_simp
  pointwise
  exact congrArg (fun i => m ((c : Thread nD τ).loc main_arg0) (ix3 b i _)) (Fin.ext (by dsimp only; omega))

theorem mask_apply (c : Dev nD) (a : Fin 3) (y : Fin 128) (k : Fin 256) :
    V m c main_v34 (ix3 a y k) = maskAt a y k := by
  unfold_abbrev_sides
  simp only [List.flatten_cons, List.flatten_nil, List.cons_append, List.nil_append, List.append_nil]
  after_reads_simp
  pointwise
  after_reads_simp
  simp only [StableHlo.TRef.toBuf, StableHlo.TRef.ofBuf, cast_eq]
  pointwise
  simp only [Attn.ofBits_negInf]
  split_ifs with h h'
  · rw [show a.val = 0 by omega]; exact mask_word 0 y k (by omega) y.isLt k.isLt
  · rw [show a.val = 1 by omega]; exact mask_word 1 y k (by omega) y.isLt k.isLt
  · rw [show a.val = 2 by omega]; exact mask_word 2 y k (by omega) y.isLt k.isLt

theorem off1_eq : ∀ i : grid0.Coords,
    k0_off1 i = ![0, min (128 * (i 2).val - 64) 0, 0] := by
  have h : ∀ n : Fin 2, (Scalar.minsi 0#32 (Scalar.maxsi 0#32 (Scalar.subi (Scalar.muli (BitVec.ofNat 32 n.val) 128#32) 64#32)) : BitVec 32).toNat = min (128 * n.val - 64) 0 := by
    decide +kernel
  intro i
  funext a
  fin_cases a
  · rfl
  · exact h (i 2)
  · rfl

theorem coords : ∀ t : Fin cfg0.N, (grid0.coords t 2).val = t.val % 2 :=
  (by decide +kernel : ∀ t : Fin grid0.N, _)

abbrev X (c : Dev nD) : FVec Ideal S8x4096x3840 .bf16 := m ((c : Thread nD τ).loc main_arg0)

theorem q_read (c : Dev nD) (t : Fin cfg0.N) (b : Fin 8) (hb : b.val = t.val / 32) (y : Fin 128) (e : Fin 256) :
    k0_pay5 (iblk m c 0 t) (ix2 y e) = rd (X m c) b (16 * (128 * (t.val % 2) + y) + t.val / 2 % 16) (2048 + e) := by
  pointwise [k0_pay5]
  have h : (win0_0.blk t).view.emb (ix3 0 y e)
      = ix3 b (⟨128 * (t.val % 2) + y, by omega⟩ : Fin 256) (⟨256 * ((t.val / 2 % 16) * 15 + 8) + e, by omega⟩ : Fin 61440) := by
    blk_ext [iblk, idx t]
  refine (congrArg (V m c main_v35) h).trans ((view_apply m c _ _ _).trans (rd_eq _ _ _ _ _ _ _ _ ?_ ?_)) <;> (dsimp only; omega)

theorem k_read (c : Dev nD) (t : Fin cfg0.N) (b : Fin 8) (hb : b.val = t.val / 32) (k : Fin 256) (e : Fin 256) :
    k0_pay2 (View.ld (iblk m c 1 t) (Rect.unit (s := S1x256x256) (k0_off1 (grid0.coords t)) ![1, 256, 256] (k0_off1_inb (grid0.coords t)))) (ix2 k e)
      = rd (X m c) b (16 * (Band.win 2 (t.val % 2) + k) + t.val / 2 % 16) (2816 + e) := by
  pointwise [k0_pay2]
  have hw : Band.win 2 (t.val % 2) = min (128 * (t.val % 2) - 64) 0 := rfl
  simp only [off1_eq, coords]
  have h : (win0_1.blk t).view.emb (ix3 ⟨0, by omega⟩ ⟨min (128 * (t.val % 2) - 64) 0 + k, by omega⟩ ⟨0 + e, by omega⟩)
      = ix3 b (⟨Band.win 2 (t.val % 2) + k, by omega⟩ : Fin 256) (⟨256 * ((t.val / 2 % 16) * 15 + 11) + e, by omega⟩ : Fin 61440) := by
    blk_ext [iblk, idx t]
  refine (congrArg (V m c main_v35) h).trans ((view_apply m c _ _ _).trans (rd_eq _ _ _ _ _ _ _ _ ?_ ?_)) <;> (dsimp only; omega)

theorem v_read (c : Dev nD) (t : Fin cfg0.N) (b : Fin 8) (hb : b.val = t.val / 32) (k : Fin 256) (e : Fin 256) :
    k0_pay3 (View.ld (iblk m c 2 t) (Rect.unit (s := S1x256x256) (k0_off1 (grid0.coords t)) ![1, 256, 256] (k0_off1_inb (grid0.coords t)))) (ix2 k e)
      = rd (X m c) b (16 * (Band.win 2 (t.val % 2) + k) + t.val / 2 % 16) (3584 + e) := by
  pointwise [k0_pay3]
  have hw : Band.win 2 (t.val % 2) = min (128 * (t.val % 2) - 64) 0 := rfl
  simp only [off1_eq, coords]
  have h : (win0_2.blk t).view.emb (ix3 ⟨0, by omega⟩ ⟨min (128 * (t.val % 2) - 64) 0 + k, by omega⟩ ⟨0 + e, by omega⟩)
      = ix3 b (⟨Band.win 2 (t.val % 2) + k, by omega⟩ : Fin 256) (⟨256 * ((t.val / 2 % 16) * 15 + 14) + e, by omega⟩ : Fin 61440) := by
    blk_ext [iblk, idx t]
  refine (congrArg (V m c main_v35) h).trans ((view_apply m c _ _ _).trans (rd_eq _ _ _ _ _ _ _ _ ?_ ?_)) <;> (dsimp only; omega)

theorem mask_read (c : Dev nD) (t : Fin cfg0.N) (y : Fin 128) (k : Fin 256) :
    k0_pay4 (View.ld (iblk m c 3 t) (Rect.unit (s := S3x128x256) (k0_off2 (grid0.coords t)) ![1, 128, 256] (k0_off2_inb (grid0.coords t)))) (ix2 y k)
      = maskAt (Band.variant 2 (t.val % 2)) y k := by
  pointwise [k0_pay4]
  have hv : Band.variant 2 (t.val % 2) < 3 := by unfold Band.variant; split_ifs <;> omega
  have hv' : Band.variant 2 (t.val % 2) = if t.val % 2 = 0 then 0 else if t.val % 2 = 1 then 2 else 1 := rfl
  simp only [k0_off2_eq, coords]
  have h : (win0_3.blk t).view.emb (ix3 ⟨(if t.val % 2 = 0 then 0 else if t.val % 2 = 1 then 2 else 1) + 0, by omega⟩ ⟨0 + y, by omega⟩ ⟨0 + k, by omega⟩)
      = ix3 (⟨Band.variant 2 (t.val % 2), hv⟩ : Fin 3) y k := by
    blk_ext [iblk, idx t]
  exact (congrArg (V m c main_v34) h).trans (mask_apply m c _ _ _)

/-- The attention output, entry by entry. -/
def oArr (c : Dev nD) : S8x256x4096.Idx → EReal := fun i =>
  oAt 16 2 256 (X m c) (i 0) (i 1).val ((i 2).val / 256) ((i 2).val % 256)

/-- The logarithms of the denominators, entry by entry. -/
def lseArr (c : Dev nD) : S8x256x4096.Idx → EReal := fun i =>
  lseAt 16 2 256 (X m c) (i 0) (i 1).val ((i 2).val / 256) ((i 2).val % 256)

theorem oArr_at (c : Dev nD) (t : Fin cfg0.N) (y : S1x128x256.Idx) (i : S8x256x4096.Idx)
    (h0 : (i 0).val = t.val / 32) (h1 : (i 1).val = 128 * (t.val % 2) + (y 1).val)
    (h2 : (i 2).val = 256 * (t.val / 2 % 16) + (y 2).val) :
    k0_pay15 (outRows (k0_pay2 (View.ld (iblk m c 1 t) (Rect.unit (s := S1x256x256) (k0_off1 (grid0.coords t)) ![1, 256, 256] (k0_off1_inb (grid0.coords t)))))
        (k0_pay3 (View.ld (iblk m c 2 t) (Rect.unit (s := S1x256x256) (k0_off1 (grid0.coords t)) ![1, 256, 256] (k0_off1_inb (grid0.coords t)))))
        (k0_pay4 (View.ld (iblk m c 3 t) (Rect.unit (s := S3x128x256) (k0_off2 (grid0.coords t)) ![1, 128, 256] (k0_off2_inb (grid0.coords t)))))
        (k0_pay5 (iblk m c 0 t)))
      (iota .tc S128x256 32 [1] iota_S128x256_d1_w32) 64#32 k0_pay13 k0_pay14 y = oArr m c i := by
  obtain ⟨y0, y1, y2⟩ := blk_lt y
  have hy : y = ix3 0 (⟨(y 1).val, y1⟩ : Fin 128) (⟨(y 2).val, y2⟩ : Fin 256) := by blk_ext
  have hb : (i 0).val = t.val / 32 := h0
  rw [hy]
  refine (o_point 16 2 2 (t.val % 2) (t.val / 2 % 16) (L := 256) (by omega) rfl (by omega) (X m c) (i 0) _ _ _ _
    (fun y e => q_read m c t (i 0) hb y e) (fun k e => k_read m c t (i 0) hb k e) (fun k e => v_read m c t (i 0) hb k e)
    (fun y k => mask_read m c t y k) _ _).trans ?_
  unfold oArr
  have e1 : (i 2).val / 256 = t.val / 2 % 16 := by omega
  have e2 : (i 2).val % 256 = (y 2).val := by omega
  rw [e1, e2, h1]

theorem lseArr_at (c : Dev nD) (t : Fin cfg0.N) (y : S1x128x256.Idx) (i : S8x256x4096.Idx)
    (h0 : (i 0).val = t.val / 32) (h1 : (i 1).val = 128 * (t.val % 2) + (y 1).val)
    (h2 : (i 2).val = 256 * (t.val / 2 % 16) + (y 2).val) :
    k0_pay1 (lseRows (k0_pay2 (View.ld (iblk m c 1 t) (Rect.unit (s := S1x256x256) (k0_off1 (grid0.coords t)) ![1, 256, 256] (k0_off1_inb (grid0.coords t)))))
        (k0_pay4 (View.ld (iblk m c 3 t) (Rect.unit (s := S3x128x256) (k0_off2 (grid0.coords t)) ![1, 128, 256] (k0_off2_inb (grid0.coords t)))))
        (k0_pay5 (iblk m c 0 t)))
      (iota .tc S128x256 32 [1] iota_S128x256_d1_w32) 64#32 k0_pay17 k0_pay18 y = lseArr m c i := by
  obtain ⟨y0, y1, y2⟩ := blk_lt y
  have hy : y = ix3 0 (⟨(y 1).val, y1⟩ : Fin 128) (⟨(y 2).val, y2⟩ : Fin 256) := by blk_ext
  have hb : (i 0).val = t.val / 32 := h0
  rw [hy]
  refine (lse_point 16 2 2 (t.val % 2) (t.val / 2 % 16) (L := 256) (by omega) rfl (by omega) (X m c) (i 0) _ _ _
    (fun y e => q_read m c t (i 0) hb y e) (fun k e => k_read m c t (i 0) hb k e)
    (fun y k => mask_read m c t y k) _ _).trans ?_
  unfold lseArr
  have e1 : (i 2).val / 256 = t.val / 2 % 16 := by omega
  have e2 : (i 2).val % 256 = (y 2).val := by omega
  rw [e1, e2, h1]

theorem final4 (c : Dev nD) : (dats m 0 c).arrAt 4 cfg0.N = oArr m c := by
  refine (dats m 0 c).arrAt_eq_of_covers 4 _ (by decide +kernel) fun t _ y => ?_
  blk_simp
  rw [after0_4]
  unfold outsAt0
  dsimp only
  frame_out
  refine oArr_at m c t y _ ?_ ?_ ?_
  all_goals blk_simp [idx t]
  all_goals omega

theorem final5 (c : Dev nD) : (dats m 0 c).arrAt 5 cfg0.N = lseArr m c := by
  refine (dats m 0 c).arrAt_eq_of_covers 5 _ (by decide +kernel) fun t _ y => ?_
  blk_simp
  rw [after0_5]
  unfold outsAt0
  dsimp only
  frame_out
  refine lseArr_at m c t y _ ?_ ?_ ?_
  all_goals blk_simp [idx t]
  all_goals omega

end Cert.Dil.D16
-- ==== Proof.Dil.Ref16.lean ====
module

public import proofs.«01_k».proof.Proof.Gen.DilReference16Ideal.Run
public import proofs.«01_k».proof.Proof.Dil.Spec

@[expose] public section

set_option maxRecDepth 16384

noncomputable section

open Idealize.ShloMosaic

/-! What the reference of the attention with dilation 16 computes, entry by entry. -/

namespace Cert.Dil.Ref16

open Cert.DilReference16Ideal Cert.DilReference16Ideal.Gen Cert.DilReference16Ideal.Facts

variable (X : FVec Ideal S8x4096x3840 .bf16) (S : FVec Ideal S8x16x4x256x256 .f32)

/-- The masked scores. -/
def scoresR : FVec Ideal S8x16x4x256x256 .f32 :=
  select (broadcastInDim S8x16x4x256x256 ![3, 4] bcast_S256x256_S8x16x4x256x256_3_4 (cmpi .sle (absi (subi (iotaInDim S256x256 32 0) (iotaInDim S256x256 32 1))) (broadcastInDim S256x256 ![] bcast_S_S256x256 (constantI S_ 32 64#32)))) (Host.dotGeneral dot_S8x256x16x4x64_S8x256x16x4x64_S8x16x4x256x256_4_4_1_1_023_023 none (shapeCast _ (extf .f32 (extractStridedSlice S8x4096x256 ![0, 0, 2048] X slices_S8x4096x3840_S8x4096x256_0_0_2048) bitsLt_bf16_f32) shapeCasts_S8x4096x256_S8x256x16x4x64) (shapeCast _ (extf .f32 (extractStridedSlice S8x4096x256 ![0, 0, 2816] X slices_S8x4096x3840_S8x4096x256_0_0_2816) bitsLt_bf16_f32) shapeCasts_S8x4096x256_S8x256x16x4x64)) (broadcastInDim S8x16x4x256x256 ![] bcast_S_S8x16x4x256x256 (id (constant S_ .f32 0xFF800000#32)))

/-- The rows' maxima. -/
def maxR : FVec Ideal S8x16x4x256 .f32 :=
  Host.reduce FloatOps.maximumf S (constant S_ .f32 0xFF800000#32) reducesTo_S8x16x4x256x256_S8x16x4x256_d4 h_S_

/-- The logarithms of the rows' denominators. -/
def lseR : FVec Ideal S8x16x4x256 .f32 :=
  addf (Host.log (Host.reduceAdd (Host.exp (subf S (broadcastInDim S8x16x4x256x256 ![0, 1, 2, 3, 4] bcast_S8x16x4x256x1_S8x16x4x256x256_0_1_2_3_4 (broadcastInDim S8x16x4x256x1 ![0, 1, 2, 3] bcast_S8x16x4x256_S8x16x4x256x1_0_1_2_3 (maxR S))))) (constant S_ .f32 0x00000000#32) reducesTo_S8x16x4x256x256_S8x16x4x256_d4 h_S_)) (maxR S)

/-- The outputs. -/
def outR : FVec Ideal S8x256x4096 .bf16 :=
  truncf .bf16 (shapeCast _ (transpose S8x256x16x4x64 [0, 4, 1, 2, 3] (Host.dotGeneral dot_S8x256x16x4x64_S8x16x4x256x256_S8x16x4x64x256_1_4_4_3_023_012 none (shapeCast _ (extf .f32 (extractStridedSlice S8x4096x256 ![0, 0, 3584] X slices_S8x4096x3840_S8x4096x256_0_0_3584) bitsLt_bf16_f32) shapeCasts_S8x4096x256_S8x256x16x4x64) (Host.exp (subf S (broadcastInDim S8x16x4x256x256 ![0, 1, 2, 3, 4] bcast_S8x16x4x256x1_S8x16x4x256x256_0_1_2_3_4 (broadcastInDim S8x16x4x256x1 ![0, 1, 2, 3] bcast_S8x16x4x256_S8x16x4x256x1_0_1_2_3 (lseR S)))))) transposes_S8x16x4x64x256_S8x256x16x4x64_0_4_1_2_3) shapeCasts_S8x256x16x4x64_S8x256x4096) bitsLt_bf16_f32

/-- The logarithms spread over the lanes. -/
def lseOutR (Lr : FVec Ideal S8x16x4x256 .f32) : FVec Ideal S8x256x4096 .f32 :=
  shapeCast _ (broadcastInDim S8x256x16x4x64 ![0, 1, 2, 3, 4] bcast_S8x256x16x4x1_S8x256x16x4x64_0_1_2_3_4 (broadcastInDim S8x256x16x4x1 ![0, 1, 2, 3] bcast_S8x256x16x4_S8x256x16x4x1_0_1_2_3 (transpose S8x256x16x4 [0, 3, 1, 2] Lr transposes_S8x16x4x256_S8x256x16x4_0_3_1_2))) shapeCasts_S8x256x16x4x64_S8x256x4096

theorem res_eq (m : (ℓ : Loc nD τ sig) → Buf (Elt Ideal) ℓ) (c : Dev nD) :
    Value.res_main_v32 m c = outR (m ((c.tc : Thread nD τ).loc main_arg0)) (scoresR (m ((c.tc : Thread nD τ).loc main_arg0))) := rfl

theorem scoresR_apply (b : Fin 8) (r : Fin 16) (h : Fin 4) (i j : Fin 256) :
    scoresR X (ix5 b r h i j) = sc 16 2 X b r i h j := by
  have hc : (id (constant (F := Ideal) S_ FTy.f32 4286578688#32) : FVec Ideal S_ .f32) ix0 = ⊥ := Attn.ofBits_negInf
  pointwise [scoresR]
  rw [Band.band_word _ _ (by omega) (by omega), Band.select_decide, hc, sc, Band.scores]
  congr 1
  refine Finset.sum_congr rfl fun x _ => ?_
  congr 1 <;> (refine rd_eq _ _ _ _ _ _ _ _ ?_ ?_ <;> omega)

theorem lseR_apply (b : Fin 8) (r : Fin 16) (h : Fin 4) (i : Fin 256) :
    lseR S (ix4 b r h i) = Ideal.log (Attn.den fun j => S (ix5 b r h i j)) + Attn.mx fun j => S (ix5 b r h i j) := by
  pointwise [lseR, maxR]
  rw [Attn.ofBits_negInf]
  rfl

theorem outR_apply (b : Fin 8) (i : Fin 256) (l : Fin 4096) :
    outR X S (ix3 b i l)
      = ∑ j : Fin 256, Ideal.exp (S (ix5 b (⟨l / 256, by omega⟩ : Fin 16) (⟨l / 64 % 4, by omega⟩ : Fin 4) i j)
          - lseR S (ix4 b (⟨l / 256, by omega⟩ : Fin 16) (⟨l / 64 % 4, by omega⟩ : Fin 4) i))
        * rd X b (16 * j + l / 256) (3584 + l % 256) := by
  pointwise [outR]
  refine Finset.sum_congr rfl fun j _ => ?_
  rw [mul_comm]
  congr 1
  refine rd_eq _ _ _ _ _ _ _ _ ?_ ?_ <;> omega

theorem lseOutR_apply (Lr : FVec Ideal S8x16x4x256 .f32) (b : Fin 8) (i : Fin 256) (l : Fin 4096) :
    lseOutR Lr (ix3 b i l) = Lr (ix4 b (⟨l / 256, by omega⟩ : Fin 16) (⟨l / 64 % 4, by omega⟩ : Fin 4) i) := by
  pointwise [lseOutR]

/-- The reference's output is the attention output. -/
theorem out_eq (hX : ∀ i, ∃ x : ℝ, X i = x) (b : Fin 8) (i : Fin 256) (l : Fin 4096) :
    outR X (scoresR X) (ix3 b i l) = oAt 16 2 256 X b i (l / 256) (l % 256) := by
  obtain ⟨ht, hb⟩ := sc_real 16 2 X hX b (l / 256) i (l % 256 / 64)
  have e : l.val / 64 % 4 = l % 256 / 64 := by omega
  rw [outR_apply, lseR_apply]
  simp only [scoresR_apply, e]
  exact Attn.out_eq_normalised _ _ ht hb

/-- The reference's second result is the logarithm of the denominator. -/
theorem lse_eq (b : Fin 8) (i : Fin 256) (l : Fin 4096) :
    lseOutR (lseR (scoresR X)) (ix3 b i l) = lseAt 16 2 256 X b i (l / 256) (l % 256) := by
  have e : l.val / 64 % 4 = l % 256 / 64 := by omega
  rw [lseOutR_apply, lseR_apply]
  simp only [scoresR_apply, e]
  exact add_comm _ _

/-- The array of attention outputs. -/
theorem out_arr (hX : ∀ i, ∃ x : ℝ, X i = x) :
    outR X (scoresR X) = fun i => oAt 16 2 256 X (i 0) (i 1).val ((i 2).val / 256) ((i 2).val % 256) := by
  funext i
  obtain ⟨b, j, l, rfl⟩ : ∃ (b : Fin 8) (j : Fin 256) (l : Fin 4096), i = ix3 b j l :=
    ⟨i 0, i 1, i 2, by funext a; fin_cases a <;> rfl⟩
  exact out_eq X hX b j l

/-- The array of logarithms. -/
theorem lse_arr :
    lseOutR (lseR (scoresR X)) = fun i => lseAt 16 2 256 X (i 0) (i 1).val ((i 2).val / 256) ((i 2).val % 256) := by
  funext i
  obtain ⟨b, j, l, rfl⟩ : ∃ (b : Fin 8) (j : Fin 256) (l : Fin 4096), i = ix3 b j l :=
    ⟨i 0, i 1, i 2, by funext a; fin_cases a <;> rfl⟩
  exact lse_eq X b j l

end Cert.Dil.Ref16
-- ==== Proof.Post.Spec.lean ====
module

public import proofs.«01_k».proof.Proof.Attn

@[expose] public section

noncomputable section

open Idealize.ShloMosaic

/-! The block after the attention, for one row of the activations, on the extended reals: gates, the
    mix of the attention outputs, the feed-forward layer, the per-layer embedding and the last norm. -/

namespace Cert.Post

/-- A row scaled by the reciprocal root of its mean square, times a gain. The two words are the
    number of entries 1024 and the small number added under the root. -/
def rms (x g : Fin 1024 → EReal) (j : Fin 1024) : EReal :=
  x j * Ideal.rsqrt (Ideal.div (∑ k, x k * x k) (Ideal.ofBits .f32 0x44800000#32)
    + Ideal.ofBits .f32 0x358637BD#32) * g j

/-- The logistic function. -/
def logistic (x : EReal) : EReal := Ideal.div 1 (1 + Ideal.exp (-x))

/-- A row times a matrix. -/
def mm {K n : ℕ} (x : Fin K → EReal) (w : Fin K → Fin n → EReal) (j : Fin n) : EReal := ∑ k, x k * w k j

/-- The mix of three values by the softmax of three scores, the division last. -/
def mix (l1 l2 l3 o1 o2 o3 : EReal) : EReal :=
  let mx := max (max l1 l2) l3
  (Ideal.exp (l1 - mx) * o1 + Ideal.exp (l2 - mx) * o2 + Ideal.exp (l3 - mx) * o3)
    * Ideal.div 1 (Ideal.exp (l1 - mx) + Ideal.exp (l2 - mx) + Ideal.exp (l3 - mx))

/-- The two branches, gated and added. -/
def mixed (gna gdil : Fin 1024 → EReal) (yna : Fin 512 → EReal) (ydil : Fin 256 → EReal)
    (wna : Fin 512 → Fin 1024 → EReal) (wdil : Fin 256 → Fin 1024 → EReal) (j : Fin 1024) : EReal :=
  gna j * mm yna wna j + gdil j * mm ydil wdil j

/-- The square of the positive part. -/
def sqRelu (x : EReal) : EReal := max x 0 * max x 0

/-- Column `n` of the first half of 2048 columns. -/
def lo (n : Fin 1024) : Fin 2048 := ⟨n, by omega⟩

/-- Column `n` of the second half of 2048 columns. -/
def hi (n : Fin 1024) : Fin 2048 := ⟨1024 + n, by omega⟩

/-- The activations one row of the block reads. -/
structure Acts where
  x : Fin 1024 → EReal
  yna : Fin 512 → EReal
  (o1 o2 o3 l1 l2 l3 p : Fin 256 → EReal)

/-- The weights. -/
structure Weights where
  (gmix gmlp gple gfin : Fin 1024 → EReal)
  (wgna wgdil wout wpg : Fin 1024 → Fin 1024 → EReal)
  wna : Fin 512 → Fin 1024 → EReal
  (wdil wpp : Fin 256 → Fin 1024 → EReal)
  wup : Fin 1024 → Fin 4096 → EReal
  wdown : Fin 4096 → Fin 1024 → EReal

variable (W : Weights) (A : Acts)

/-- The row after the two attention branches are added. -/
def h1 (j : Fin 1024) : EReal :=
  A.x j + mm (mixed (fun j => logistic (mm (rms A.x W.gmix) W.wgna j)) (fun j => logistic (mm (rms A.x W.gmix) W.wgdil j)) A.yna
    (fun k => mix (A.l1 k) (A.l2 k) (A.l3 k) (A.o1 k) (A.o2 k) (A.o3 k)) W.wna W.wdil) W.wout j

/-- The hidden units of the feed-forward layer. -/
def up (n : Fin 4096) : EReal := sqRelu (mm (rms (h1 W A) W.gmlp) W.wup n)

/-- The row after the feed-forward layer. -/
def h2 (j : Fin 1024) : EReal := h1 W A j + mm (up W A) W.wdown j

/-- The row after the per-layer embedding. -/
def h3 (j : Fin 1024) : EReal :=
  h2 W A j + logistic (mm (rms (h2 W A) W.gple) W.wpg j) * mm A.p W.wpp j

/-- The block's result. -/
def post (j : Fin 1024) : EReal := rms (h3 W A) W.gfin j

/-- A sum over 4096 units, in four runs of 1024. -/
theorem sum_four (g : Fin 4096 → EReal) :
    ∑ n, g n = ((∑ n : Fin 1024, g ⟨n, by omega⟩ + ∑ n : Fin 1024, g ⟨1024 + n, by omega⟩)
      + ∑ n : Fin 1024, g ⟨2048 + n, by omega⟩) + ∑ n : Fin 1024, g ⟨3072 + n, by omega⟩ := by
  refine (Fin.sum_univ_add (a := 3072) (b := 1024) g).trans ?_
  congr 1
  refine (Fin.sum_univ_add (a := 2048) (b := 1024) _).trans ?_
  congr 1
  exact Fin.sum_univ_add (a := 1024) (b := 1024) _

/-- For real scores, normalising the weights before the sum gives the same mix. -/
theorem mix_eq (l1 l2 l3 o1 o2 o3 M : EReal) (hM : M = max (max l1 l2) l3)
    (h1 : ∃ r : ℝ, l1 = r) (h2 : ∃ r : ℝ, l2 = r) (h3 : ∃ r : ℝ, l3 = r) :
    Ideal.div (Ideal.exp (l1 - M)) (Ideal.exp (l1 - M) + Ideal.exp (l2 - M) + Ideal.exp (l3 - M)) * o1
      + Ideal.div (Ideal.exp (l2 - M)) (Ideal.exp (l1 - M) + Ideal.exp (l2 - M) + Ideal.exp (l3 - M)) * o2
      + Ideal.div (Ideal.exp (l3 - M)) (Ideal.exp (l1 - M) + Ideal.exp (l2 - M) + Ideal.exp (l3 - M)) * o3
      = mix l1 l2 l3 o1 o2 o3 := by
  obtain ⟨a, rfl⟩ := h1
  obtain ⟨b, rfl⟩ := h2
  obtain ⟨c, rfl⟩ := h3
  have hm : M = ((max (max a b) c : ℝ) : EReal) := by
    rw [hM, EReal.coe_strictMono.monotone.map_max, EReal.coe_strictMono.monotone.map_max]
  have he : ∀ x : ℝ, Ideal.exp ((x : EReal) - M) = ((Real.exp (x - max (max a b) c) : ℝ) : EReal) := fun x => by
    rw [hm, ← EReal.coe_sub]; rfl
  have hpos : 0 < Real.exp (a - max (max a b) c) + Real.exp (b - max (max a b) c) + Real.exp (c - max (max a b) c) := by
    positivity
  have hne : ((Real.exp (a - max (max a b) c) + Real.exp (b - max (max a b) c) + Real.exp (c - max (max a b) c) : ℝ) : EReal) ≠ 0 := by
    exact_mod_cast hpos.ne'
  unfold mix
  rw [← hM]
  simp only [he, ← EReal.coe_add]
  rw [Attn.div_one_real _ hpos, Ideal.div, if_neg hne, Ideal.div, if_neg hne, Ideal.div, if_neg hne, ← EReal.coe_inv]
  have hn : (0 : EReal) ≤ (((Real.exp (a - max (max a b) c) + Real.exp (b - max (max a b) c) + Real.exp (c - max (max a b) c))⁻¹ : ℝ) : EReal) := by
    exact_mod_cast (inv_nonneg.mpr hpos.le)
  rw [EReal.right_distrib_of_nonneg_of_ne_top hn (EReal.coe_ne_top _),
    EReal.right_distrib_of_nonneg_of_ne_top hn (EReal.coe_ne_top _)]
  simp only [mul_right_comm]

end Cert.Post
-- ==== Proof.Post.Body.lean ====
module

public import proofs.«01_k».proof.Proof.Gen.PostKernelIdeal.Frame
public import Idealize.ShloMosaic.Lib.Pointwise
public import Idealize.ShloMosaic.Lib.Pipeline.ValueKit
public import proofs.«01_k».proof.Proof.Post.Spec

@[expose] public section

set_option maxRecDepth 16384

noncomputable section

open Idealize.ShloMosaic Idealize.SL.Sem

/-! What the kernel body computes in one row of a block, payload by payload. -/

namespace Cert.Post

open Cert.PostKernelIdeal Cert.PostKernelIdeal.Gen

variable (y : Fin 256) (j : Fin 1024)

theorem pay3_apply (v0 : FVec Ideal S256x1024 .f32) (v2 : FVec Ideal S1x1024 .f32) :
    k0_pay3 (F := Ideal) v0 v2 (ix2 y j) = rms (fun k => v0 (ix2 y k)) (fun k => v2 (ix2 0 k)) j := by
  pointwise [k0_pay3, k0_pay2, rms]

theorem pay4_apply (v0 : FVec Ideal S256x1024 .f32) (v2 : FVec Ideal S1x1024 .f32) (w : FVec Ideal S1024x1024 .bf16) :
    k0_pay4 (F := Ideal) v0 v2 w (ix2 y j)
      = logistic (mm (rms (fun k => v0 (ix2 y k)) (fun k => v2 (ix2 0 k))) (fun k n => w (ix2 k n)) j) := by
  pointwise [k0_pay4, logistic, mm]
  rw [zero_sub]
  simp only [pay3_apply]

theorem pay5_apply (v0 : FVec Ideal S256x1024 .f32) (v2 : FVec Ideal S1x1024 .f32) (w : FVec Ideal S1024x1024 .bf16) :
    k0_pay5 (F := Ideal) v0 v2 w (ix2 y j)
      = logistic (mm (rms (fun k => v0 (ix2 y k)) (fun k => v2 (ix2 0 k))) (fun k n => w (ix2 k n)) j) :=
  pay4_apply y j v0 v2 w

theorem pay6_apply (v26 v36 : FVec Ideal S256x1024 .f32) (v37 v38 v39 : FVec Ideal S256x256 .f32)
    (v52 v55 v59 : FVec Ideal S256x256 .bf16) (v64 : FVec Ideal S256x512 .bf16) (v65 : FVec Ideal S512x1024 .bf16)
    (v70 : FVec Ideal S256x1024 .bf16) :
    k0_pay6 (F := Ideal) v26 v36 v37 v38 v39 v52 v55 v59 v64 v65 v70 (ix2 y j)
      = mixed (fun j => v26 (ix2 y j)) (fun j => v36 (ix2 y j)) (fun k => v64 (ix2 y k))
          (fun k => mix (v37 (ix2 y k)) (v38 (ix2 y k)) (v39 (ix2 y k)) (v52 (ix2 y k)) (v55 (ix2 y k)) (v59 (ix2 y k)))
          (fun k n => v65 (ix2 k n)) (fun k n => v70 (ix2 k n)) j := by
  pointwise [k0_pay6, mixed, mm, mix]

theorem pay7_apply (v1 : FVec Ideal S256x1024 .f32) (v75 : FVec Ideal S256x1024 .bf16) (v76 : FVec Ideal S1024x1024 .bf16) :
    k0_pay7 (F := Ideal) v1 v75 v76 (ix2 y j) = v1 (ix2 y j) + mm (fun k => v75 (ix2 y k)) (fun k n => v76 (ix2 k n)) j := by
  pointwise [k0_pay7, mm]

theorem pay8_apply (v1 : FVec Ideal S256x1024 .f32) (v75 : FVec Ideal S256x1024 .bf16) (v76 : FVec Ideal S1024x1024 .bf16)
    (v80 : FVec Ideal S1x1024 .f32) :
    k0_pay8 (F := Ideal) v1 v75 v76 v80 (ix2 y j)
      = rms (fun k => k0_pay7 (F := Ideal) v1 v75 v76 (ix2 y k)) (fun k => v80 (ix2 0 k)) j := by
  pointwise [k0_pay8, rms]

theorem pay9_apply (v1 : FVec Ideal S256x1024 .f32) (v75 : FVec Ideal S256x1024 .bf16) (v76 : FVec Ideal S1024x1024 .bf16)
    (v80 : FVec Ideal S1x1024 .f32) (v96 v103 : FVec Ideal S1024x1024 .bf16) :
    k0_pay9 (F := Ideal) v1 v75 v76 v80 v96 v103 (ix2 y j)
      = ∑ n : Fin 1024, sqRelu (mm (fun k => k0_pay8 (F := Ideal) v1 v75 v76 v80 (ix2 y k)) (fun k n => v96 (ix2 k n)) n)
          * v103 (ix2 n j) := by
  pointwise [k0_pay9, sqRelu, mm]

theorem pay10_apply (v1 : FVec Ideal S256x1024 .f32) (v75 : FVec Ideal S256x1024 .bf16) (v76 : FVec Ideal S1024x1024 .bf16)
    (v80 : FVec Ideal S1x1024 .f32) (v107 : FVec Ideal S1024x1024 .bf16) :
    k0_pay10 (F := Ideal) v1 v75 v76 v80 v107 (ix2 y j)
      = sqRelu (mm (fun k => k0_pay8 (F := Ideal) v1 v75 v76 v80 (ix2 y k)) (fun k n => v107 (ix2 k n)) j) := by
  pointwise [k0_pay10, sqRelu, mm]

theorem pay12_apply (v79 : FVec Ideal S256x1024 .f32) (v94 : FVec Ideal S256x1024 .bf16) (v106 : FVec Ideal S256x1024 .f32)
    (v113 : FVec Ideal S256x1024 .bf16) (v115 v118 v125 v129 v136 : FVec Ideal S1024x1024 .bf16) :
    k0_pay12 (F := Ideal) v79 v94 v106 v113 v115 (constant S256x1024 .f32 0x00000000#32) v118 v125 v129 v136 (ix2 y j)
      = v79 (ix2 y j) + (((v106 (ix2 y j) + ∑ n : Fin 1024, v113 (ix2 y n) * v115 (ix2 n j))
          + ∑ n : Fin 1024, sqRelu (mm (fun k => v94 (ix2 y k)) (fun k n => v118 (ix2 k n)) n) * v125 (ix2 n j))
          + ∑ n : Fin 1024, sqRelu (mm (fun k => v94 (ix2 y k)) (fun k n => v129 (ix2 k n)) n) * v136 (ix2 n j)) := by
  pointwise [k0_pay12, sqRelu, mm]

theorem pay13_apply (v79 : FVec Ideal S256x1024 .f32) (v94 : FVec Ideal S256x1024 .bf16) (v106 : FVec Ideal S256x1024 .f32)
    (v113 : FVec Ideal S256x1024 .bf16) (v115 : FVec Ideal S1024x1024 .bf16) (z : FVec Ideal S256x1024 .f32)
    (v118 v125 v129 v136 : FVec Ideal S1024x1024 .bf16) (v141 : FVec Ideal S1x1024 .f32) :
    k0_pay13 (F := Ideal) v79 v94 v106 v113 v115 z v118 v125 v129 v136 v141 (ix2 y j)
      = rms (fun k => k0_pay12 (F := Ideal) v79 v94 v106 v113 v115 z v118 v125 v129 v136 (ix2 y k)) (fun k => v141 (ix2 0 k)) j := by
  pointwise [k0_pay13, rms]

theorem pay1_apply (v140 : FVec Ideal S256x1024 .f32) (v155 : FVec Ideal S256x1024 .bf16) (v156 : FVec Ideal S1024x1024 .bf16)
    (v166 : FVec Ideal S256x256 .f32) (v169 : FVec Ideal S256x1024 .bf16) (v174 : FVec Ideal S1x1024 .f32) :
    k0_pay1 (F := Ideal) v140 v155 v156 v166 v169 v174 (ix2 y j)
      = rms (fun k => v140 (ix2 y k) + logistic (mm (fun k => v155 (ix2 y k)) (fun k n => v156 (ix2 k n)) k)
          * mm (fun k => v166 (ix2 y k)) (fun k n => v169 (ix2 k n)) k) (fun k => v174 (ix2 0 k)) j := by
  pointwise [k0_pay1, rms, logistic, mm]
  simp only [zero_sub]

end Cert.Post
-- ==== Proof.Post.Point.lean ====
module

public import proofs.«01_k».proof.Proof.Post.Body

@[expose] public section

set_option maxRecDepth 16384

noncomputable section

open Idealize.ShloMosaic Idealize.SL.Sem

/-! The block a grid point writes, row by row, from the blocks it reads. -/

namespace Cert.Post

open Cert.PostKernelIdeal Cert.PostKernelIdeal.Gen

variable (A : Acts) (W : Weights) (y : Fin 256)
  (x0 : FVec Ideal S256x1024 .f32) (x1 : FVec Ideal S256x512 .bf16) (x2 x3 x4 : FVec Ideal S256x256 .bf16)
  (x5 x6 x7 x8 : FVec Ideal S256x256 .f32) (x9 : FVec Ideal S1x1024 .f32) (x10 : FVec Ideal S1024x2048 .bf16)
  (x11 : FVec Ideal S512x1024 .bf16) (x12 : FVec Ideal S256x1024 .bf16) (x13 : FVec Ideal S1024x1024 .bf16)
  (x14 : FVec Ideal S1x1024 .f32) (x15 : FVec Ideal S1024x4096 .bf16) (x16 : FVec Ideal S4096x1024 .bf16)
  (x17 : FVec Ideal S1x1024 .f32) (x18 : FVec Ideal S1024x1024 .bf16) (x19 : FVec Ideal S256x1024 .bf16)
  (x20 : FVec Ideal S1x1024 .f32)
  (hx : ∀ k, x0 (ix2 y k) = A.x k) (hyna : ∀ k, x1 (ix2 y k) = A.yna k)
  (ho1 : ∀ k, x2 (ix2 y k) = A.o1 k) (ho2 : ∀ k, x3 (ix2 y k) = A.o2 k) (ho3 : ∀ k, x4 (ix2 y k) = A.o3 k)
  (hl1 : ∀ k, x5 (ix2 y k) = A.l1 k) (hl2 : ∀ k, x6 (ix2 y k) = A.l2 k) (hl3 : ∀ k, x7 (ix2 y k) = A.l3 k)
  (hp : ∀ k, x8 (ix2 y k) = A.p k) (hgmix : ∀ k, x9 (ix2 0 k) = W.gmix k)
  (hwgna : ∀ (k n : Fin 1024), x10 (ix2 k (lo n)) = W.wgna k n)
  (hwgdil : ∀ (k n : Fin 1024), x10 (ix2 k (hi n)) = W.wgdil k n)
  (hwna : ∀ k n, x11 (ix2 k n) = W.wna k n) (hwdil : ∀ k n, x12 (ix2 k n) = W.wdil k n)
  (hwout : ∀ k n, x13 (ix2 k n) = W.wout k n) (hgmlp : ∀ k, x14 (ix2 0 k) = W.gmlp k)
  (hwup : ∀ k n, x15 (ix2 k n) = W.wup k n) (hwdown : ∀ k n, x16 (ix2 k n) = W.wdown k n)
  (hgple : ∀ k, x17 (ix2 0 k) = W.gple k) (hwpg : ∀ k n, x18 (ix2 k n) = W.wpg k n)
  (hwpp : ∀ k n, x19 (ix2 k n) = W.wpp k n) (hgfin : ∀ k, x20 (ix2 0 k) = W.gfin k)

/-- A run of columns of the gates' weights. -/
theorem gate_cols (o : ℕ) (h : o + 1024 ≤ 2048) (inb) (k n : Fin 1024) :
    View.ld (Val := Elt Ideal) (e' := .bf16) x10 (Rect.unit (s := S1024x2048) ![0, o] S1024x1024.size inb) (ix2 k n) = x10 (ix2 k ⟨o + n, by omega⟩) := by
  pointwise

/-- A run of columns of the first feed-forward weights. -/
theorem up_cols (o : ℕ) (h : o + 1024 ≤ 4096) (inb) (k n : Fin 1024) :
    View.ld (Val := Elt Ideal) (e' := .bf16) x15 (Rect.unit (s := S1024x4096) ![0, o] S1024x1024.size inb) (ix2 k n) = x15 (ix2 k ⟨o + n, by omega⟩) := by
  pointwise

/-- A run of rows of the second feed-forward weights. -/
theorem down_rows (o : ℕ) (h : o + 1024 ≤ 4096) (inb) (k n : Fin 1024) :
    View.ld (Val := Elt Ideal) (e' := .bf16) x16 (Rect.unit (s := S4096x1024) ![o, 0] S1024x1024.size inb) (ix2 k n) = x16 (ix2 ⟨o + k, by omega⟩ n) := by
  pointwise

include hx hyna ho1 ho2 ho3 hl1 hl2 hl3 hp hgmix hwgna hwgdil hwna hwdil hwout hgmlp hwup hwdown hgple hwpg hwpp hgfin in
theorem out_row (j : Fin 1024) :
    out0_21 (F := Ideal) x0 x1 x2 x3 x4 x5 x6 x7 x8 x9 x10 x11 x12 x13 x14 x15 x16 x17 x18 x19 x20 (ix2 y j) = post W A j := by
  have g1 : ∀ k n, View.ld (Val := Elt Ideal) (e' := .bf16) x10 r0_2 (ix2 k n) = W.wgna k n := fun k n =>
    (gate_cols x10 0 (by omega) _ k n).trans ((congrArg (fun n => x10 (ix2 k n)) (Fin.ext (Nat.zero_add _))).trans (hwgna k n))
  have g2 : ∀ k n, View.ld (Val := Elt Ideal) (e' := .bf16) x10 r0_3 (ix2 k n) = W.wgdil k n := fun k n =>
    (gate_cols x10 1024 (by omega) _ k n).trans (hwgdil k n)
  have u0 : ∀ k (n : Fin 1024), View.ld (Val := Elt Ideal) (e' := .bf16) x15 r0_8 (ix2 k n) = W.wup k ⟨n, by omega⟩ := fun k n =>
    (up_cols x15 0 (by omega) _ k n).trans ((hwup _ _).trans (congrArg (W.wup k) (Fin.ext (Nat.zero_add _))))
  have u1 : ∀ k (n : Fin 1024), View.ld (Val := Elt Ideal) (e' := .bf16) x15 r0_10 (ix2 k n) = W.wup k ⟨1024 + n, by omega⟩ := fun k n =>
    (up_cols x15 1024 (by omega) _ k n).trans (hwup _ _)
  have u2 : ∀ k (n : Fin 1024), View.ld (Val := Elt Ideal) (e' := .bf16) x15 r0_12 (ix2 k n) = W.wup k ⟨2048 + n, by omega⟩ := fun k n =>
    (up_cols x15 2048 (by omega) _ k n).trans (hwup _ _)
  have u3 : ∀ k (n : Fin 1024), View.ld (Val := Elt Ideal) (e' := .bf16) x15 r0_14 (ix2 k n) = W.wup k ⟨3072 + n, by omega⟩ := fun k n =>
    (up_cols x15 3072 (by omega) _ k n).trans (hwup _ _)
  have d0 : ∀ (k : Fin 1024) n, View.ld (Val := Elt Ideal) (e' := .bf16) x16 r0_9 (ix2 k n) = W.wdown ⟨k, by omega⟩ n := fun k n =>
    (down_rows x16 0 (by omega) _ k n).trans ((hwdown _ _).trans (congrArg (W.wdown · n) (Fin.ext (Nat.zero_add _))))
  have d1 : ∀ (k : Fin 1024) n, View.ld (Val := Elt Ideal) (e' := .bf16) x16 r0_11 (ix2 k n) = W.wdown ⟨1024 + k, by omega⟩ n := fun k n =>
    (down_rows x16 1024 (by omega) _ k n).trans (hwdown _ _)
  have d2 : ∀ (k : Fin 1024) n, View.ld (Val := Elt Ideal) (e' := .bf16) x16 r0_13 (ix2 k n) = W.wdown ⟨2048 + k, by omega⟩ n := fun k n =>
    (down_rows x16 2048 (by omega) _ k n).trans (hwdown _ _)
  have d3 : ∀ (k : Fin 1024) n, View.ld (Val := Elt Ideal) (e' := .bf16) x16 r0_15 (ix2 k n) = W.wdown ⟨3072 + k, by omega⟩ n := fun k n =>
    (down_rows x16 3072 (by omega) _ k n).trans (hwdown _ _)
  have e14 : ∀ j, k0_pay14 (F := Ideal) x0 x1 x2 x3 x4 x5 x6 x7 x8 x9 x10 x11 x12 x13 x14 x15 x16 x17 x18 x19 x20 (ix2 y j) = A.x j := fun j => by
    unfold k0_pay14
    simp (disch := decide) only [View.ld_unit_lit']
    pointwise [k0_pay2]
    exact hx j
  have e15 : ∀ j, k0_pay15 (F := Ideal) x0 x1 x2 x3 x4 x5 x6 x7 x8 x9 x10 x11 x12 x13 x14 x15 x16 x17 x18 x19 x20 (ix2 y j)
      = mixed (fun j => logistic (mm (rms A.x W.gmix) W.wgna j)) (fun j => logistic (mm (rms A.x W.gmix) W.wgdil j)) A.yna
          (fun k => mix (A.l1 k) (A.l2 k) (A.l3 k) (A.o1 k) (A.o2 k) (A.o3 k)) W.wna W.wdil j := fun j => by
    unfold k0_pay15
    simp (disch := decide) only [View.ld_unit_lit']
    rw [pay6_apply]
    simp only [pay4_apply, pay5_apply, g1, g2, hx, hgmix, hyna, ho1, ho2, ho3, hl1, hl2, hl3, hwna, hwdil]
  have e7 : ∀ j, k0_pay7 (k0_pay14 (F := Ideal) x0 x1 x2 x3 x4 x5 x6 x7 x8 x9 x10 x11 x12 x13 x14 x15 x16 x17 x18 x19 x20) (k0_pay15 (F := Ideal) x0 x1 x2 x3 x4 x5 x6 x7 x8 x9 x10 x11 x12 x13 x14 x15 x16 x17 x18 x19 x20) x13 (ix2 y j)
      = h1 W A j := fun j => by
    rw [pay7_apply]
    simp only [e14, e15, hwout]
    rfl
  have e17 : ∀ j, k0_pay17 (F := Ideal) x0 x1 x2 x3 x4 x5 x6 x7 x8 x9 x10 x11 x12 x13 x14 x15 x16 x17 x18 x19 x20 (ix2 y j) = h1 W A j := fun j => by
    unfold k0_pay17
    simp (disch := decide) only [View.ld_unit_lit']
    exact e7 j
  have e8 : ∀ j, k0_pay8 (k0_pay14 (F := Ideal) x0 x1 x2 x3 x4 x5 x6 x7 x8 x9 x10 x11 x12 x13 x14 x15 x16 x17 x18 x19 x20) (k0_pay15 (F := Ideal) x0 x1 x2 x3 x4 x5 x6 x7 x8 x9 x10 x11 x12 x13 x14 x15 x16 x17 x18 x19 x20) x13 x14 (ix2 y j)
      = rms (h1 W A) W.gmlp j := fun j => by
    rw [pay8_apply]
    simp only [e7, hgmlp]
  have e18 : ∀ j, k0_pay18 (F := Ideal) x0 x1 x2 x3 x4 x5 x6 x7 x8 x9 x10 x11 x12 x13 x14 x15 x16 x17 x18 x19 x20 (ix2 y j) = rms (h1 W A) W.gmlp j := fun j => by
    unfold k0_pay18
    simp (disch := decide) only [View.ld_unit_lit']
    exact e8 j
  have e19 : ∀ j, k0_pay19 (F := Ideal) x0 x1 x2 x3 x4 x5 x6 x7 x8 x9 x10 x11 x12 x13 x14 x15 x16 x17 x18 x19 x20 (ix2 y j)
      = ∑ n : Fin 1024, up W A ⟨n, by omega⟩ * W.wdown ⟨n, by omega⟩ j := fun j => by
    unfold k0_pay19
    simp (disch := decide) only [View.ld_unit_lit']
    rw [pay9_apply]
    simp only [e8, u0, d0]
    rfl
  have e20 : ∀ n : Fin 1024, k0_pay20 (F := Ideal) x0 x1 x2 x3 x4 x5 x6 x7 x8 x9 x10 x11 x12 x13 x14 x15 x16 x17 x18 x19 x20 (ix2 y n) = up W A ⟨1024 + n, by omega⟩ := fun n => by
    unfold k0_pay20
    simp (disch := decide) only [View.ld_unit_lit']
    rw [pay10_apply]
    simp only [e8, u1]
    rfl
  have e21 : ∀ (n : Fin 1024) j, k0_pay21 (F := Ideal) x0 x1 x2 x3 x4 x5 x6 x7 x8 x9 x10 x11 x12 x13 x14 x15 x16 x17 x18 x19 x20 (ix2 n j) = W.wdown ⟨1024 + n, by omega⟩ j := fun n j => by
    unfold k0_pay21
    pointwise [k0_pay11]
    exact hwdown _ _
  have e12 : ∀ j, k0_pay12 (k0_pay17 (F := Ideal) x0 x1 x2 x3 x4 x5 x6 x7 x8 x9 x10 x11 x12 x13 x14 x15 x16 x17 x18 x19 x20) (k0_pay18 x0 x1 x2 x3 x4 x5 x6 x7 x8 x9 x10 x11 x12 x13 x14 x15 x16 x17 x18 x19 x20)
      (k0_pay19 x0 x1 x2 x3 x4 x5 x6 x7 x8 x9 x10 x11 x12 x13 x14 x15 x16 x17 x18 x19 x20) (k0_pay20 x0 x1 x2 x3 x4 x5 x6 x7 x8 x9 x10 x11 x12 x13 x14 x15 x16 x17 x18 x19 x20)
      (k0_pay21 x0 x1 x2 x3 x4 x5 x6 x7 x8 x9 x10 x11 x12 x13 x14 x15 x16 x17 x18 x19 x20) (k0_pay16 x0 x1 x2 x3 x4 x5 x6 x7 x8 x9 x10 x11 x12 x13 x14 x15 x16 x17 x18 x19 x20)
      (View.ld x15 r0_12) (View.ld x16 r0_13) (View.ld x15 r0_14) (View.ld x16 r0_15) (ix2 y j) = h2 W A j := fun j => by
    unfold k0_pay16
    rw [pay12_apply]
    simp only [e17, e18, e19, e20, e21, u2, u3, d2, d3]
    exact congrArg (h1 W A j + ·) (sum_four fun n => up W A n * W.wdown n j).symm
  frame_out
  rw [pay1_apply]
  simp only [pay13_apply, e12, hgple, hwpg, hp, hwpp, hgfin]
  rfl

end Cert.Post
-- ==== Proof.Post.Inputs.lean ====
module

public import proofs.«01_k».proof.Proof.Post.Spec
public import Idealize.ShloMosaic.Lib.Pointwise

@[expose] public section

noncomputable section

open Idealize.ShloMosaic

/-! The activations and weights of a row, taken from the arguments. -/

namespace Cert.Post

abbrev Arr (s : Shape) := s.Idx → EReal

/-- The activations of row `r`; the rows of `x` and `p` run over the batch first. -/
def acts (x : Arr ⟨3, ![8, 4096, 1024]⟩) (yna : Arr ⟨2, ![32768, 512]⟩) (o1 o2 o3 l1 l2 l3 : Arr ⟨2, ![32768, 256]⟩)
    (p : Arr ⟨4, ![1, 8, 4096, 256]⟩) (r : Fin 32768) : Acts where
  x k := x (ix3 ⟨r / 4096, by omega⟩ ⟨r % 4096, by omega⟩ k)
  yna k := yna (ix2 r k)
  o1 k := o1 (ix2 r k)
  o2 k := o2 (ix2 r k)
  o3 k := o3 (ix2 r k)
  l1 k := l1 (ix2 r k)
  l2 k := l2 (ix2 r k)
  l3 k := l3 (ix2 r k)
  p k := p (ix4 0 ⟨r / 4096, by omega⟩ ⟨r % 4096, by omega⟩ k)

/-- The weights. -/
def weights (gmix : Arr ⟨2, ![1, 1024]⟩) (win : Arr ⟨3, ![1, 1024, 5888]⟩) (wna : Arr ⟨3, ![1, 512, 1024]⟩)
    (wdil : Arr ⟨3, ![1, 256, 1024]⟩) (wout : Arr ⟨3, ![1, 1024, 1024]⟩) (gmlp : Arr ⟨2, ![1, 1024]⟩)
    (wup : Arr ⟨3, ![1, 1024, 4096]⟩) (wdown : Arr ⟨3, ![1, 4096, 1024]⟩) (gple : Arr ⟨2, ![1, 1024]⟩)
    (wpg : Arr ⟨3, ![1, 1024, 1024]⟩) (wpp : Arr ⟨3, ![1, 256, 1024]⟩) (gfin : Arr ⟨1, ![1024]⟩) : Weights where
  gmix k := gmix (ix2 0 k)
  gmlp k := gmlp (ix2 0 k)
  gple k := gple (ix2 0 k)
  gfin k := gfin (ix1 k)
  wgna k n := win (ix3 0 k ⟨3840 + n, by omega⟩)
  wgdil k n := win (ix3 0 k ⟨4864 + n, by omega⟩)
  wout k n := wout (ix3 0 k n)
  wpg k n := wpg (ix3 0 k n)
  wna k n := wna (ix3 0 k n)
  wdil k n := wdil (ix3 0 k n)
  wpp k n := wpp (ix3 0 k n)
  wup k n := wup (ix3 0 k n)
  wdown k n := wdown (ix3 0 k n)

end Cert.Post
-- ==== Proof.Post.Array.lean ====
module

public import proofs.«01_k».proof.Proof.Post.Point
public import proofs.«01_k».proof.Proof.Post.Inputs
public import proofs.«01_k».proof.Proof.Gen.PostKernelIdeal.Value
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The array the kernel leaves. -/

namespace Cert.Post

open Cert.PostKernelIdeal Cert.PostKernelIdeal.Gen

variable (m : (ℓ : Loc nD τ sig) → Buf (Elt Ideal) ℓ) (c : Dev nD)

/-! The arrays prepared before the call, read at an entry. -/

theorem v0_apply (r : Fin 32768) (k : Fin 1024) : V m c main_v0 (ix2 r k) = m ((c : Thread nD τ).loc main_arg0) (ix3 ⟨r / 4096, by omega⟩ ⟨r % 4096, by omega⟩ k) := by
  unfold_abbrev_sides
  after_reads_simp
  pointwise

theorem v26_apply (r : Fin 32768) (k : Fin 256) : V m c main_v26 (ix2 r k) = m ((c : Thread nD τ).loc main_arg8) (ix4 0 ⟨r / 4096, by omega⟩ ⟨r % 4096, by omega⟩ k) := by
  unfold_abbrev_sides
  after_reads_simp
  pointwise

theorem v5_apply (k : Fin 1024) : V m c main_v5 (ix2 0 k) = m ((c : Thread nD τ).loc main_arg9) (ix2 0 k) := by
  unfold_abbrev_sides
  after_reads_simp
  pointwise

theorem v3_apply (k : Fin 1024) (n : Fin 2048) : V m c main_v3 (ix2 k n) = m ((c : Thread nD τ).loc main_arg10) (ix3 0 k ⟨3840 + n, by omega⟩) := by
  unfold_abbrev_sides
  after_reads_simp
  pointwise

theorem v7_apply (k : Fin 512) (n : Fin 1024) : V m c main_v7 (ix2 k n) = m ((c : Thread nD τ).loc main_arg11) (ix3 0 k n) := by
  unfold_abbrev_sides
  after_reads_simp
  pointwise

theorem v9_apply (k : Fin 256) (n : Fin 1024) : V m c main_v9 (ix2 k n) = m ((c : Thread nD τ).loc main_arg12) (ix3 0 k n) := by
  unfold_abbrev_sides
  after_reads_simp
  pointwise

theorem v11_apply (k : Fin 1024) (n : Fin 1024) : V m c main_v11 (ix2 k n) = m ((c : Thread nD τ).loc main_arg13) (ix3 0 k n) := by
  unfold_abbrev_sides
  after_reads_simp
  pointwise

theorem v13_apply (k : Fin 1024) : V m c main_v13 (ix2 0 k) = m ((c : Thread nD τ).loc main_arg14) (ix2 0 k) := by
  unfold_abbrev_sides
  after_reads_simp
  pointwise

theorem v15_apply (k : Fin 1024) (n : Fin 4096) : V m c main_v15 (ix2 k n) = m ((c : Thread nD τ).loc main_arg15) (ix3 0 k n) := by
  unfold_abbrev_sides
  after_reads_simp
  pointwise

theorem v17_apply (k : Fin 4096) (n : Fin 1024) : V m c main_v17 (ix2 k n) = m ((c : Thread nD τ).loc main_arg16) (ix3 0 k n) := by
  unfold_abbrev_sides
  after_reads_simp
  pointwise

theorem v19_apply (k : Fin 1024) : V m c main_v19 (ix2 0 k) = m ((c : Thread nD τ).loc main_arg17) (ix2 0 k) := by
  unfold_abbrev_sides
  after_reads_simp
  pointwise

theorem v21_apply (k : Fin 1024) (n : Fin 1024) : V m c main_v21 (ix2 k n) = m ((c : Thread nD τ).loc main_arg18) (ix3 0 k n) := by
  unfold_abbrev_sides
  after_reads_simp
  pointwise

theorem v23_apply (k : Fin 256) (n : Fin 1024) : V m c main_v23 (ix2 k n) = m ((c : Thread nD τ).loc main_arg19) (ix3 0 k n) := by
  unfold_abbrev_sides
  after_reads_simp
  pointwise

theorem v24_apply (k : Fin 1024) : V m c main_v24 (ix2 0 k) = m ((c : Thread nD τ).loc main_arg20) (ix1 k) := by
  unfold_abbrev_sides
  after_reads_simp
  pointwise

/-- The activations of row `r`, from the arguments in memory. -/
abbrev actsM (r : Fin 32768) : Acts :=
  acts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r

/-- The weights, from the arguments in memory. -/
abbrev weightsM : Weights :=
  weights (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- The block's result, entry by entry. -/
def postArr : S32768x1024.Idx → EReal := fun i => post (weightsM m c) (actsM m c (i 0)) (i 1)

theorem idx_rows : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_21.index t = ![t.val, 0] :=
  (by decide +kernel : ∀ t : Fin grid0.N, _)

theorem idx_whole : ∀ t : Fin cfg0.N, win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-! The blocks a grid point reads. -/

variable (t : Fin cfg0.N)

theorem read0 (r : Fin 32768) (y : Fin 256) (hr : r.val = 256 * t.val + y) (k : Fin 1024) :
    iblk m c 0 t (ix2 y k) = (actsM m c r).x k := by
  have h : (win0_0.blk t).view.emb (ix2 y k) = ix2 r k := by
    blk_ext [iblk, idx_rows t]
  exact (congrArg (V m c main_v0) h).trans (v0_apply m c _ _)

theorem read1 (r : Fin 32768) (y : Fin 256) (hr : r.val = 256 * t.val + y) (k : Fin 512) :
    iblk m c 1 t (ix2 y k) = (actsM m c r).yna k := by
  have h : (win0_1.blk t).view.emb (ix2 y k) = ix2 r k := by
    blk_ext [iblk, idx_rows t]
  exact (congrArg (V m c main_arg1) h).trans (congrFun (V_main_arg1 m c) _)

theorem read2 (r : Fin 32768) (y : Fin 256) (hr : r.val = 256 * t.val + y) (k : Fin 256) :
    iblk m c 2 t (ix2 y k) = (actsM m c r).o1 k := by
  have h : (win0_2.blk t).view.emb (ix2 y k) = ix2 r k := by
    blk_ext [iblk, idx_rows t]
  exact (congrArg (V m c main_arg2) h).trans (congrFun (V_main_arg2 m c) _)

theorem read3 (r : Fin 32768) (y : Fin 256) (hr : r.val = 256 * t.val + y) (k : Fin 256) :
    iblk m c 3 t (ix2 y k) = (actsM m c r).o2 k := by
  have h : (win0_3.blk t).view.emb (ix2 y k) = ix2 r k := by
    blk_ext [iblk, idx_rows t]
  exact (congrArg (V m c main_arg3) h).trans (congrFun (V_main_arg3 m c) _)

theorem read4 (r : Fin 32768) (y : Fin 256) (hr : r.val = 256 * t.val + y) (k : Fin 256) :
    iblk m c 4 t (ix2 y k) = (actsM m c r).o3 k := by
  have h : (win0_4.blk t).view.emb (ix2 y k) = ix2 r k := by
    blk_ext [iblk, idx_rows t]
  exact (congrArg (V m c main_arg4) h).trans (congrFun (V_main_arg4 m c) _)

theorem read5 (r : Fin 32768) (y : Fin 256) (hr : r.val = 256 * t.val + y) (k : Fin 256) :
    iblk m c 5 t (ix2 y k) = (actsM m c r).l1 k := by
  have h : (win0_5.blk t).view.emb (ix2 y k) = ix2 r k := by
    blk_ext [iblk, idx_rows t]
  exact (congrArg (V m c main_arg5) h).trans (congrFun (V_main_arg5 m c) _)

theorem read6 (r : Fin 32768) (y : Fin 256) (hr : r.val = 256 * t.val + y) (k : Fin 256) :
    iblk m c 6 t (ix2 y k) = (actsM m c r).l2 k := by
  have h : (win0_6.blk t).view.emb (ix2 y k) = ix2 r k := by
    blk_ext [iblk, idx_rows t]
  exact (congrArg (V m c main_arg6) h).trans (congrFun (V_main_arg6 m c) _)

theorem read7 (r : Fin 32768) (y : Fin 256) (hr : r.val = 256 * t.val + y) (k : Fin 256) :
    iblk m c 7 t (ix2 y k) = (actsM m c r).l3 k := by
  have h : (win0_7.blk t).view.emb (ix2 y k) = ix2 r k := by
    blk_ext [iblk, idx_rows t]
  exact (congrArg (V m c main_arg7) h).trans (congrFun (V_main_arg7 m c) _)

theorem read8 (r : Fin 32768) (y : Fin 256) (hr : r.val = 256 * t.val + y) (k : Fin 256) :
    iblk m c 8 t (ix2 y k) = (actsM m c r).p k := by
  have h : (win0_8.blk t).view.emb (ix2 y k) = ix2 r k := by
    blk_ext [iblk, idx_rows t]
  exact (congrArg (V m c main_v26) h).trans (v26_apply m c _ _)

theorem read9 (k : Fin 1024) : iblk m c 9 t (ix2 0 k) = (weightsM m c).gmix k := by
  have h : (win0_9.blk t).view.emb (ix2 0 k) = ix2 0 k := by
    blk_ext [iblk, idx_whole t]
  exact (congrArg (V m c main_v5) h).trans (v5_apply m c k)

theorem read10 (k : Fin 1024) (n : Fin 2048) :
    iblk m c 10 t (ix2 k n) = m ((c : Thread nD τ).loc main_arg10) (ix3 0 k ⟨3840 + n, by omega⟩) := by
  have h : (win0_10.blk t).view.emb (ix2 k n) = ix2 k n := by
    blk_ext [iblk, idx_whole t]
  exact (congrArg (V m c main_v3) h).trans (v3_apply m c k n)

theorem read11 (k : Fin 512) (n : Fin 1024) : iblk m c 11 t (ix2 k n) = (weightsM m c).wna k n := by
  have h : (win0_11.blk t).view.emb (ix2 k n) = ix2 k n := by
    blk_ext [iblk, idx_whole t]
  exact (congrArg (V m c main_v7) h).trans (v7_apply m c k n)

theorem read12 (k : Fin 256) (n : Fin 1024) : iblk m c 12 t (ix2 k n) = (weightsM m c).wdil k n := by
  have h : (win0_12.blk t).view.emb (ix2 k n) = ix2 k n := by
    blk_ext [iblk, idx_whole t]
  exact (congrArg (V m c main_v9) h).trans (v9_apply m c k n)

theorem read13 (k : Fin 1024) (n : Fin 1024) : iblk m c 13 t (ix2 k n) = (weightsM m c).wout k n := by
  have h : (win0_13.blk t).view.emb (ix2 k n) = ix2 k n := by
    blk_ext [iblk, idx_whole t]
  exact (congrArg (V m c main_v11) h).trans (v11_apply m c k n)

theorem read14 (k : Fin 1024) : iblk m c 14 t (ix2 0 k) = (weightsM m c).gmlp k := by
  have h : (win0_14.blk t).view.emb (ix2 0 k) = ix2 0 k := by
    blk_ext [iblk, idx_whole t]
  exact (congrArg (V m c main_v13) h).trans (v13_apply m c k)

theorem read15 (k : Fin 1024) (n : Fin 4096) : iblk m c 15 t (ix2 k n) = (weightsM m c).wup k n := by
  have h : (win0_15.blk t).view.emb (ix2 k n) = ix2 k n := by
    blk_ext [iblk, idx_whole t]
  exact (congrArg (V m c main_v15) h).trans (v15_apply m c k n)

theorem read16 (k : Fin 4096) (n : Fin 1024) : iblk m c 16 t (ix2 k n) = (weightsM m c).wdown k n := by
  have h : (win0_16.blk t).view.emb (ix2 k n) = ix2 k n := by
    blk_ext [iblk, idx_whole t]
  exact (congrArg (V m c main_v17) h).trans (v17_apply m c k n)

theorem read17 (k : Fin 1024) : iblk m c 17 t (ix2 0 k) = (weightsM m c).gple k := by
  have h : (win0_17.blk t).view.emb (ix2 0 k) = ix2 0 k := by
    blk_ext [iblk, idx_whole t]
  exact (congrArg (V m c main_v19) h).trans (v19_apply m c k)

theorem read18 (k : Fin 1024) (n : Fin 1024) : iblk m c 18 t (ix2 k n) = (weightsM m c).wpg k n := by
  have h : (win0_18.blk t).view.emb (ix2 k n) = ix2 k n := by
    blk_ext [iblk, idx_whole t]
  exact (congrArg (V m c main_v21) h).trans (v21_apply m c k n)

theorem read19 (k : Fin 256) (n : Fin 1024) : iblk m c 19 t (ix2 k n) = (weightsM m c).wpp k n := by
  have h : (win0_19.blk t).view.emb (ix2 k n) = ix2 k n := by
    blk_ext [iblk, idx_whole t]
  exact (congrArg (V m c main_v23) h).trans (v23_apply m c k n)

theorem read20 (k : Fin 1024) : iblk m c 20 t (ix2 0 k) = (weightsM m c).gfin k := by
  have h : (win0_20.blk t).view.emb (ix2 0 k) = ix2 0 k := by
    blk_ext [iblk, idx_whole t]
  exact (congrArg (V m c main_v24) h).trans (v24_apply m c k)

theorem postArr_at (y : S256x1024.Idx) (i : S32768x1024.Idx)
    (h0 : (i 0).val = 256 * t.val + (y 0).val) (h1 : (i 1).val = (y 1).val) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = postArr m c i := by
  obtain ⟨a, j, rfl⟩ : ∃ (a : Fin 256) (j : Fin 1024), y = ix2 a j := ⟨y 0, y 1, by funext a; fin_cases a <;> rfl⟩
  refine (out_row (actsM m c (i 0)) (weightsM m c) a _ _ _ _ _ _ _ _ _ _ _ _ _ _ _ _ _ _ _ _ _
    (read0 m c t _ a h0) (read1 m c t _ a h0) (read2 m c t _ a h0) (read3 m c t _ a h0) (read4 m c t _ a h0) (read5 m c t _ a h0) (read6 m c t _ a h0) (read7 m c t _ a h0) (read8 m c t _ a h0)
    (read9 m c t) (fun k n => read10 m c t k _)
    (fun k n => (read10 m c t k _).trans (congrArg (fun n => m ((c : Thread nD τ).loc main_arg10) (ix3 0 k n)) (Fin.ext (by dsimp only [hi]; omega))))
    (read11 m c t) (read12 m c t) (read13 m c t) (read14 m c t) (read15 m c t) (read16 m c t) (read17 m c t) (read18 m c t) (read19 m c t) (read20 m c t) j).trans ?_
  exact congrArg (post (weightsM m c) (actsM m c (i 0))) (Fin.ext h1.symm)

theorem final21 : (dats m 0 c).arrAt 21 cfg0.N = postArr m c := by
  refine (dats m 0 c).arrAt_eq_of_covers 21 _ (by decide +kernel) fun t _ y => ?_
  blk_simp
  rw [after0_21]
  refine postArr_at m c t y _ ?_ ?_
  all_goals blk_simp [idx_rows t]
  all_goals omega

end Cert.Post
-- ==== Proof.Post.Ref.lean ====
module

public import proofs.«01_k».proof.Proof.Gen.PostReferenceIdeal.Run
public import proofs.«01_k».proof.Proof.Post.Inputs

@[expose] public section

set_option maxRecDepth 16384

noncomputable section

open Idealize.ShloMosaic Idealize.SL.Sem

/-! What the reference of the block after the attention computes, row by row. -/

namespace Cert.Post.Ref

open Cert.PostReferenceIdeal Cert.PostReferenceIdeal.Gen Cert.PostReferenceIdeal.Value Cert.PostReferenceIdeal.Facts

/-- The largest of three, read off a maximum over the first axis. -/
theorem max_first {n m : ℕ} {u : Shape} (S : (⟨3, ![3, n, m]⟩ : Shape).Idx → EReal) (v : u.Idx → EReal) (hv : ∀ i, v i = ⊥)
    (h : (⟨3, ![3, n, m]⟩ : Shape).ReducesTo [0] ⟨2, ![n, m]⟩) (hu : 0 < u.numel) (i : Fin n) (j : Fin m) :
    Host.reduce (FloatOps.maximumf (F := Ideal) (φ := .f32)) S v h hu (ix2 i j)
      = max (max (S (ix3 0 i j)) (S (ix3 1 i j))) (S (ix3 2 i j)) := by
  rw [Host.reduce_eq_fold, Shape.ReducesTo.fold_fiber_r3_a0, hv]
  change (Finset.univ : Finset (Fin 3)).fold (max : EReal → EReal → EReal) ⊥ _ = _
  simp [Fin.univ_succ, max_assoc]

/-- The sum of three, read off a sum over the first axis. -/
theorem sum_first {n m : ℕ} {u : Shape} (S : (⟨3, ![3, n, m]⟩ : Shape).Idx → EReal) (v : u.Idx → EReal) (hv : ∀ i, v i = 0)
    (h : (⟨3, ![3, n, m]⟩ : Shape).ReducesTo [0] ⟨2, ![n, m]⟩) (hu : 0 < u.numel) (i : Fin n) (j : Fin m) :
    Host.reduceAdd (F := Ideal) (φ := .f32) S v h hu (ix2 i j)
      = S (ix3 0 i j) + S (ix3 1 i j) + S (ix3 2 i j) := by
  pointwise
  rw [Fin.sum_univ_three, hv, zero_add]

variable (V0 : Valuation τ sig (Elt Ideal)) (r : Fin 32768)

/-- The activations of row `r`, from the arguments. -/
abbrev actsV : Acts :=
  acts (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) r

/-- The weights, from the arguments. -/
abbrev weightsV : Weights :=
  weights (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))

/-- The rows scaled by their root mean square, as the reference writes it. -/
def rmsR (h : FVec Ideal S32768x1024 .f32) (g : FVec Ideal S1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

theorem rmsR_apply (h : FVec Ideal S32768x1024 .f32) (g : FVec Ideal S1024 .f32) (j : Fin 1024) :
    rmsR h g (ix2 r j) = rms (fun k => h (ix2 r k)) (fun k => g (ix1 k)) j := by
  pointwise [rmsR, rms]

/-- Three arrays, one above the other. -/
def cat3 (a b c : FVec Ideal S32768x256 .f32) : FVec Ideal S3x32768x256 .f32 :=
  concatenate S3x32768x256 0 [⟨S1x32768x256, broadcastInDim S1x32768x256 ![1, 2] bcast_S32768x256_S1x32768x256_1_2 a⟩, ⟨S1x32768x256, broadcastInDim S1x32768x256 ![1, 2] bcast_S32768x256_S1x32768x256_1_2 b⟩, ⟨S1x32768x256, broadcastInDim S1x32768x256 ![1, 2] bcast_S32768x256_S1x32768x256_1_2 c⟩] concatenates_S1x32768x256_S1x32768x256_S1x32768x256_S3x32768x256_d0

/-- The largest of the three. -/
def top3 (S : FVec Ideal S3x32768x256 .f32) : FVec Ideal S32768x256 .f32 :=
  Host.reduce FloatOps.maximumf S (constant S_ .f32 0xFF800000#32) reducesTo_S3x32768x256_S32768x256_d0 h_S_

/-- An array, once more compared with minus infinity. -/
def above (T : FVec Ideal S32768x256 .f32) : FVec Ideal S32768x256 .f32 :=
  maximumf (broadcastInDim S32768x256 ![] bcast_S_S32768x256 (constant S_ .f32 0xFF800000#32)) T

/-- The sum of the three. -/
def sum3 (S : FVec Ideal S3x32768x256 .f32) : FVec Ideal S32768x256 .f32 :=
  Host.reduceAdd S (constant S_ .f32 0x00000000#32) reducesTo_S3x32768x256_S32768x256_d0 h_S_

/-- One array, three times. -/
def rep3 (a : FVec Ideal S32768x256 .f32) : FVec Ideal S3x32768x256 .f32 :=
  broadcastInDim S3x32768x256 ![0, 1, 2] bcast_S1x32768x256_S3x32768x256_0_1_2 (broadcastInDim S1x32768x256 ![1, 2] bcast_S32768x256_S1x32768x256_1_2 a)

variable (k : Fin 256)

theorem cat3_apply (a b c : FVec Ideal S32768x256 .f32) :
    cat3 a b c (ix3 0 r k) = a (ix2 r k) ∧ cat3 a b c (ix3 1 r k) = b (ix2 r k) ∧ cat3 a b c (ix3 2 r k) = c (ix2 r k) := by
  refine ⟨?_, ?_, ?_⟩ <;> pointwise [cat3]

theorem rep3_apply (a : FVec Ideal S32768x256 .f32) (n : Fin 3) : rep3 a (ix3 n r k) = a (ix2 r k) := by
  pointwise [rep3]

theorem sum3_apply (S : FVec Ideal S3x32768x256 .f32) :
    sum3 S (ix2 r k) = S (ix3 0 r k) + S (ix3 1 r k) + S (ix3 2 r k) :=
  sum_first S (constant (F := Ideal) S_ .f32 0x00000000#32) (fun _ => Ideal.ofBits_zero_f32) reducesTo_S3x32768x256_S32768x256_d0 h_S_ r k

theorem top3_apply (S : FVec Ideal S3x32768x256 .f32) :
    top3 S (ix2 r k) = max (max (S (ix3 0 r k)) (S (ix3 1 r k))) (S (ix3 2 r k)) :=
  max_first S (constant (F := Ideal) S_ .f32 0xFF800000#32) (fun _ => Attn.ofBits_negInf) reducesTo_S3x32768x256_S32768x256_d0 h_S_ r k

theorem above_word (T : FVec Ideal S32768x256 .f32) : above T (ix2 r k) = max (Ideal.ofBits .f32 0xFF800000#32) (T (ix2 r k)) := by
  pointwise [above]

theorem above_apply (T : FVec Ideal S32768x256 .f32) : above T (ix2 r k) = T (ix2 r k) := by
  rw [above_word, Attn.ofBits_negInf]
  exact max_eq_right bot_le

theorem v17_apply (n : Fin 2048) :
    res_main_v17 V0 (ix2 r n)
      = ∑ k : Fin 1024, rms (actsV V0 r).x (weightsV V0).gmix k * (V0 (Proc.devRef .tc main_arg10)) (ix3 0 k ⟨3840 + n, by omega⟩) := by
  have h : res_main_v17 V0 = Host.dotGeneral (F := Ideal) dot_S32768x1024_S1024x2048_S32768x2048_1_0_0_1_n_n none
      (rmsR (res_main_v0 V0) (shapeCast _ (V0 (Proc.devRef .tc main_arg9)) shapeCasts_S1x1024_S1024))
      (extractStridedSlice S1024x2048 ![0, 3840] (shapeCast _ (V0 (Proc.devRef .tc main_arg10)) shapeCasts_S1x1024x5888_S1024x5888) slices_S1024x5888_S1024x2048_0_3840) := rfl
  rw [h]
  pointwise [rmsR_apply, res_main_v0, acts, weights]

/-- The exponentials of the scores, shifted. -/
def expR (S : FVec Ideal S3x32768x256 .f32) (T : FVec Ideal S32768x256 .f32) : FVec Ideal S3x32768x256 .f32 :=
  Host.exp (subf S (rep3 T))

theorem expR_apply (S : FVec Ideal S3x32768x256 .f32) (T : FVec Ideal S32768x256 .f32) (n : Fin 3) :
    expR S T (ix3 n r k) = Ideal.exp (S (ix3 n r k) - T (ix2 r k)) := by
  pointwise [expR, rep3_apply]

/-- The sum weighted by normalised weights. -/
def mixR (E O : FVec Ideal S3x32768x256 .f32) : FVec Ideal S32768x256 .f32 :=
  sum3 (mulf (Host.divf E (rep3 (sum3 E))) O)

theorem mixR_apply (E O : FVec Ideal S3x32768x256 .f32) :
    mixR E O (ix2 r k)
      = Ideal.div (E (ix3 0 r k)) (E (ix3 0 r k) + E (ix3 1 r k) + E (ix3 2 r k)) * O (ix3 0 r k)
        + Ideal.div (E (ix3 1 r k)) (E (ix3 0 r k) + E (ix3 1 r k) + E (ix3 2 r k)) * O (ix3 1 r k)
        + Ideal.div (E (ix3 2 r k)) (E (ix3 0 r k) + E (ix3 1 r k) + E (ix3 2 r k)) * O (ix3 2 r k) := by
  unfold mixR
  rw [sum3_apply]
  pointwise [rep3_apply, sum3_apply]

/-- The softmax mix over the three groups is the mix of the row. -/
theorem mixR_eq (l1 l2 l3 o1 o2 o3 : FVec Ideal S32768x256 .f32) (h1 : ∃ x : ℝ, l1 (ix2 r k) = x)
    (h2 : ∃ x : ℝ, l2 (ix2 r k) = x) (h3 : ∃ x : ℝ, l3 (ix2 r k) = x) :
    mixR (expR (cat3 l1 l2 l3) (above (top3 (cat3 l1 l2 l3)))) (cat3 o1 o2 o3) (ix2 r k)
      = mix (l1 (ix2 r k)) (l2 (ix2 r k)) (l3 (ix2 r k)) (o1 (ix2 r k)) (o2 (ix2 r k)) (o3 (ix2 r k)) := by
  have hl := cat3_apply r k l1 l2 l3
  have ho := cat3_apply r k o1 o2 o3
  rw [mixR_apply, expR_apply, expR_apply, expR_apply, above_apply, hl.1, hl.2.1, hl.2.2, ho.1, ho.2.1, ho.2.2]
  refine mix_eq _ _ _ _ _ _ _ ?_ h1 h2 h3
  rw [top3_apply, hl.1, hl.2.1, hl.2.2]

/-- The logistic function of an array. -/
def gateR (G : FVec Ideal S32768x1024 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf G)))

theorem gateR_apply (G : FVec Ideal S32768x1024 .f32) (j : Fin 1024) : gateR G (ix2 r j) = logistic (G (ix2 r j)) := by
  pointwise [gateR, logistic]

theorem v66_eq : res_main_v66 V0 = addf (res_main_v0 V0) (Host.dotGeneral (F := Ideal) (φ₂ := .f32) dot_S32768x1024_S1024x1024_S32768x1024_1_0_0_1_n_n none
    (addf (mulf (gateR (extractStridedSlice S32768x1024 ![0, 0] (res_main_v17 V0) slices_S32768x2048_S32768x1024_0_0)) (Host.dotGeneral (F := Ideal) (φ₂ := .f32) dot_S32768x512_S512x1024_S32768x1024_1_0_0_1_n_n none (extf .f32 (V0 (Proc.devRef .tc main_arg1)) bitsLt_bf16_f32) (shapeCast _ (V0 (Proc.devRef .tc main_arg11)) shapeCasts_S1x512x1024_S512x1024)))
      (mulf (gateR (extractStridedSlice S32768x1024 ![0, 1024] (res_main_v17 V0) slices_S32768x2048_S32768x1024_0_1024)) (Host.dotGeneral (F := Ideal) (φ₂ := .f32) dot_S32768x256_S256x1024_S32768x1024_1_0_0_1_n_n none
        (mixR (expR (cat3 (V0 (Proc.devRef .tc main_arg5)) (V0 (Proc.devRef .tc main_arg6)) (V0 (Proc.devRef .tc main_arg7))) (above (top3 (cat3 (V0 (Proc.devRef .tc main_arg5)) (V0 (Proc.devRef .tc main_arg6)) (V0 (Proc.devRef .tc main_arg7))))))
          (cat3 (extf (F := Ideal) .f32 (V0 (Proc.devRef .tc main_arg2)) bitsLt_bf16_f32) (extf (F := Ideal) .f32 (V0 (Proc.devRef .tc main_arg3)) bitsLt_bf16_f32) (extf (F := Ideal) .f32 (V0 (Proc.devRef .tc main_arg4)) bitsLt_bf16_f32)))
        (shapeCast _ (V0 (Proc.devRef .tc main_arg12)) shapeCasts_S1x256x1024_S256x1024))))
    (shapeCast _ (V0 (Proc.devRef .tc main_arg13)) shapeCasts_S1x1024x1024_S1024x1024)) := rfl

/-- The scores of row `r` are real. -/
def RealRow : Prop :=
  ∀ k, (∃ x : ℝ, (actsV V0 r).l1 k = x) ∧ (∃ x : ℝ, (actsV V0 r).l2 k = x) ∧ (∃ x : ℝ, (actsV V0 r).l3 k = x)

theorem v66_apply (hr : RealRow V0 r) (j : Fin 1024) : res_main_v66 V0 (ix2 r j) = h1 (weightsV V0) (actsV V0 r) j := by
  have hm := fun k => mixR_eq r k (V0 (Proc.devRef .tc main_arg5)) (V0 (Proc.devRef .tc main_arg6)) (V0 (Proc.devRef .tc main_arg7))
    (extf (F := Ideal) .f32 (V0 (Proc.devRef .tc main_arg2)) bitsLt_bf16_f32) (extf (F := Ideal) .f32 (V0 (Proc.devRef .tc main_arg3)) bitsLt_bf16_f32) (extf (F := Ideal) .f32 (V0 (Proc.devRef .tc main_arg4)) bitsLt_bf16_f32)
    (hr k).1 (hr k).2.1 (hr k).2.2
  rw [v66_eq]
  pointwise [gateR_apply, v17_apply, hm, res_main_v0]
  simp only [h1, mm, mixed, show ∀ n : ℕ, 3840 + (1024 + n) = 4864 + n from fun n => by omega]
  rfl

theorem v83_eq : res_main_v83 V0 = maximumf (Host.dotGeneral (F := Ideal) (φ₂ := .f32) dot_S32768x1024_S1024x4096_S32768x4096_1_0_0_1_n_n none
    (rmsR (res_main_v66 V0) (shapeCast _ (V0 (Proc.devRef .tc main_arg14)) shapeCasts_S1x1024_S1024))
    (shapeCast _ (V0 (Proc.devRef .tc main_arg15)) shapeCasts_S1x1024x4096_S1024x4096)) (broadcastInDim S32768x4096 ![] bcast_S_S32768x4096 (constant S_ .f32 0x00000000#32)) := rfl

theorem v83_apply (hr : RealRow V0 r) (n : Fin 4096) :
    res_main_v83 V0 (ix2 r n) = max (mm (rms (h1 (weightsV V0) (actsV V0 r)) (weightsV V0).gmlp) (weightsV V0).wup n) 0 := by
  rw [v83_eq]
  pointwise [rmsR_apply, v66_apply V0 r hr]
  rfl

theorem v87_apply (hr : RealRow V0 r) (j : Fin 1024) : res_main_v87 V0 (ix2 r j) = h2 (weightsV V0) (actsV V0 r) j := by
  pointwise [res_main_v87, v66_apply V0 r hr, v83_apply V0 r hr]
  rfl

theorem v115_eq : res_main_v115 V0 = addf (res_main_v87 V0) (mulf (gateR (Host.dotGeneral (F := Ideal) (φ₂ := .f32) dot_S32768x1024_S1024x1024_S32768x1024_1_0_0_1_n_n none
      (rmsR (res_main_v87 V0) (shapeCast _ (V0 (Proc.devRef .tc main_arg17)) shapeCasts_S1x1024_S1024)) (shapeCast _ (V0 (Proc.devRef .tc main_arg18)) shapeCasts_S1x1024x1024_S1024x1024)))
    (Host.dotGeneral (F := Ideal) (φ₁ := .f32) (φ₂ := .f32) dot_S32768x256_S256x1024_S32768x1024_1_0_0_1_n_n none (shapeCast _ (shapeCast _ (V0 (Proc.devRef .tc main_arg8)) shapeCasts_S1x8x4096x256_S8x4096x256) shapeCasts_S8x4096x256_S32768x256) (shapeCast _ (V0 (Proc.devRef .tc main_arg19)) shapeCasts_S1x256x1024_S256x1024))) := rfl

theorem v115_apply (hr : RealRow V0 r) (j : Fin 1024) : res_main_v115 V0 (ix2 r j) = h3 (weightsV V0) (actsV V0 r) j := by
  rw [v115_eq]
  pointwise [rmsR_apply, gateR_apply, v87_apply V0 r hr]
  rfl

/-- The reference's result, row by row. -/
theorem result_apply (hr : RealRow V0 r) (j : Fin 1024) :
    rmsR (res_main_v115 V0) (V0 (Proc.devRef .tc main_arg20)) (ix2 r j) = post (weightsV V0) (actsV V0 r) j := by
  rw [rmsR_apply]
  simp only [v115_apply V0 r hr]
  rfl

/-- The reference's result. -/
theorem result_arr (hr : ∀ r, RealRow V0 r) :
    rmsR (res_main_v115 V0) (V0 (Proc.devRef .tc main_arg20)) = fun i => post (weightsV V0) (actsV V0 (i 0)) (i 1) := by
  funext i
  obtain ⟨a, b, rfl⟩ : ∃ (a : Fin 32768) (b : Fin 1024), i = ix2 a b := ⟨i 0, i 1, by funext a; fin_cases a <;> rfl⟩
  exact result_apply V0 a (hr a) b

end Cert.Post.Ref
-- ==== Proof.Qkv.Spec.lean ====
module

public import proofs.«01_k».proof.Proof.Post.Spec

@[expose] public section

noncomputable section

open Idealize.ShloMosaic

/-! The projection to queries, keys and values, for one row of the activations, on the extended reals:
    the row is normalised and multiplied by the weights, the queries and keys of the dilated heads are
    turned by the angles of the row, and the queries are scaled by the word of one eighth. -/

namespace Cert.Qkv

/-- What one row reads: the row, the gain, the weights, and the cosines and sines of its angles. -/
structure Row where
  (x g : Fin 1024 → EReal)
  w : Fin 1024 → Fin 3840 → EReal
  (cos sin : Fin 32 → EReal)

variable (R : Row)

/-- Column `n` of the normalised row times the weights. -/
def proj (n : Fin 3840) : EReal := Post.mm (Post.rms R.x R.g) R.w n

/-- The angle of column `n`: a head has 64 columns and 32 angles. -/
def angle (n : ℕ) : Fin 32 := ⟨n % 32, Nat.mod_lt _ (by decide)⟩

/-- Column `n` turned against its partner 32 columns away, in the other half of the head. -/
def turned (n : Fin 3840) : EReal :=
  if h : n.val % 64 < 32 then
    proj R n * R.cos (angle n) - proj R ⟨n + 32, by omega⟩ * R.sin (angle n)
  else proj R n * R.cos (angle n) + proj R ⟨n - 32, by omega⟩ * R.sin (angle n)

/-- The word of one eighth. -/
def eighth : EReal := Ideal.ofBits .f32 0x3E000000#32

/-- The row of queries, keys and values. -/
def qkv (n : Fin 3840) : EReal :=
  if n.val < 512 then proj R n * eighth
  else if n.val < 1536 then proj R n
  else if n.val < 2304 then turned R n * eighth
  else if n.val < 3072 then turned R n
  else proj R n

end Cert.Qkv
-- ==== Proof.Qkv.Body.lean ====
module

public import proofs.«01_k».proof.Proof.Gen.QkvKernelIdeal.Frame
public import Idealize.ShloMosaic.Lib.Pointwise
public import Idealize.ShloMosaic.Lib.Pipeline.ValueKit
public import proofs.«01_k».proof.Proof.Qkv.Spec

@[expose] public section

set_option maxRecDepth 16384

noncomputable section

open Idealize.ShloMosaic Idealize.SL.Sem

/-! What the kernel body computes in one row of a block, payload by payload. -/

namespace Cert.Qkv

open Cert.QkvKernelIdeal Cert.QkvKernelIdeal.Gen
open Cert.Post (rms mm)

variable (y : Fin 512) (k : Fin 256)

theorem pay5_apply (v0 : FVec Ideal S512x1024 .f32) (v2 : FVec Ideal S1x1024 .f32) (j : Fin 1024) :
    k0_pay5 (F := Ideal) v0 v2 (ix2 y j) = rms (fun k => v0 (ix2 y k)) (fun k => v2 (ix2 0 k)) j := by
  pointwise [k0_pay5, rms]

/-- The mask of the lanes in the first half of a head. -/
theorem mask_apply : k0_pay8 (ix2 y k) = 1#1 ↔ k.val % 64 < 32 := by
  pointwise [k0_pay8]
  revert k
  decide +kernel

theorem pay6_apply (v : FVec Ideal S512x128 .f32) :
    k0_pay6 (F := Ideal) v (ix2 y k) = v (ix2 y ⟨k % 128, by omega⟩) := by
  pointwise [k0_pay6]
  split
  all_goals exact congrArg (fun n => v (ix2 y n)) (Fin.ext (by dsimp only; omega))

theorem pay7_apply (v : FVec Ideal S512x128 .f32) :
    k0_pay7 (F := Ideal) v (ix2 y k) = v (ix2 y ⟨k % 128, by omega⟩) := by
  pointwise [k0_pay7]
  split
  all_goals exact congrArg (fun n => v (ix2 y n)) (Fin.ext (by dsimp only; omega))

variable (a : FVec Ideal S512x1024 .bf16) (w : FVec Ideal S1024x256 .bf16) (v18 v21 : FVec Ideal S512x256 .f32)
  (v40 : IVec S512x256 1)

/-- A column of the product. -/
def col (k : Fin 256) : EReal := mm (fun j => a (ix2 y j)) (fun j n => w (ix2 j n)) k

theorem pay9_apply : k0_pay9 (F := Ideal) a w (ix2 y k) = col y a w k * eighth := by
  pointwise [k0_pay9, col, mm, eighth]

theorem pay11_apply : k0_pay11 (F := Ideal) a w (ix2 y k) = col y a w k := by
  pointwise [k0_pay11, col, mm]

/-- A column turned, as the body writes it. -/
def turn (k : Fin 256) : EReal :=
  col y a w k * v18 (ix2 y k)
    + (if v40 (ix2 y k) = 1#1 then col y a w ⟨(k + 256 - 224) % 256, by omega⟩
        else col y a w ⟨(k + 256 - 32) % 256, by omega⟩) * v21 (ix2 y k)

theorem pay19_apply : k0_pay19 (F := Ideal) a v18 v21 v40 w (ix2 y k) = turn y a w v18 v21 v40 k := by
  pointwise [k0_pay19, turn, col, mm]
  rfl

theorem pay15_apply : k0_pay15 (F := Ideal) a v18 v21 v40 w (ix2 y k) = turn y a w v18 v21 v40 k * eighth := by
  pointwise [k0_pay15, turn, col, mm, eighth]
  rfl

end Cert.Qkv
-- ==== Proof.Qkv.Point.lean ====
module

public import proofs.«01_k».proof.Proof.Qkv.Body

@[expose] public section

set_option maxRecDepth 16384

noncomputable section

open Idealize.ShloMosaic Idealize.SL.Sem

/-! The block a grid point writes, row by row, from the blocks it reads. -/

namespace Cert.Qkv

open Cert.QkvKernelIdeal Cert.QkvKernelIdeal.Gen
open Cert.Post (rms mm)

/-- The column 32 further on or 32 back, for the two halves of a head, gives the turned column. -/
theorem turn_eq (R : Row) (y : Fin 512) (a : FVec Ideal S512x1024 .bf16) (w : FVec Ideal S1024x256 .bf16)
    (v18 v21 : FVec Ideal S512x256 .f32) (v40 : IVec S512x256 1) (o : ℕ) (ho : o + 256 ≤ 3840) (h64 : o % 64 = 0)
    (hw : ∀ k : Fin 256, col y a w k = proj R ⟨o + k, by omega⟩)
    (hc : ∀ k : Fin 256, v18 (ix2 y k) = R.cos (angle k))
    (hs : ∀ k : Fin 256, v21 (ix2 y k) = if k.val % 64 < 32 then -R.sin (angle k) else R.sin (angle k))
    (hm : ∀ k : Fin 256, v40 (ix2 y k) = 1#1 ↔ k.val % 64 < 32) (k : Fin 256) :
    turn y a w v18 v21 v40 k = turned R ⟨o + k, by omega⟩ := by
  have ha : angle (o + k) = angle k := Fin.ext (by dsimp only [angle]; omega)
  unfold turn turned
  simp only [hw, hc, hs, hm]
  by_cases h : k.val % 64 < 32
  · have h' : (o + k.val) % 64 < 32 := by omega
    rw [if_pos h, if_pos h, dif_pos h', ha, mul_neg, ← sub_eq_add_neg]
    refine congrArg (fun n => _ - proj R n * _) (Fin.ext ?_)
    dsimp only
    omega
  · have h' : ¬ (o + k.val) % 64 < 32 := by omega
    rw [if_neg h, if_neg h, dif_neg h', ha]
    refine congrArg (fun n => _ + proj R n * _) (Fin.ext ?_)
    dsimp only
    omega

/-- A piece of 256 columns that holds the row's values has them where the piece lies. -/
theorem piece_at (R : Row) (y : Fin 512) (o : ℕ) (ho : o + 256 ≤ 3840) (P : FVec Ideal S512x256 .bf16)
    (hP : ∀ k : Fin 256, P (ix2 y k) = qkv R ⟨o + k, by omega⟩) (n : Fin 3840) :
    View.TileAt (Val := Elt Ideal) (S := S512x3840) (e := .bf16) (ix2 y n) ![0, o] S512x256.size P (qkv R n) := by
  intro x hx
  obtain ⟨a, b, rfl⟩ : ∃ (a : Fin 512) (b : Fin 256), x = ix2 a b := ⟨x 0, x 1, by funext a; fin_cases a <;> rfl⟩
  have h0 : y.val = 0 + a.val := hx 0
  have h1 : n.val = o + b.val := hx 1
  obtain rfl : y = a := Fin.ext (by omega)
  exact (hP b).trans (congrArg (qkv R) (Fin.ext h1.symm))

variable (R : Row) (y : Fin 512)
  (x0 : FVec Ideal S512x1024 .f32) (x1 : FVec Ideal S1x1024 .f32) (x2 : FVec Ideal S1024x3840 .bf16)
  (x3 x4 : FVec Ideal S512x128 .f32)

/-- A run of columns of the weights. -/
theorem cols (o : ℕ) (h : o + 256 ≤ 3840) (inb) (j : Fin 1024) (k : Fin 256) :
    View.ld (Val := Elt Ideal) (e' := .bf16) x2 (Rect.unit (s := S1024x3840) ![0, o] S1024x256.size inb) (ix2 j k)
      = x2 (ix2 j ⟨o + k, by omega⟩) := by
  pointwise

variable (hx : ∀ k, x0 (ix2 y k) = R.x k) (hg : ∀ k, x1 (ix2 0 k) = R.g k) (hw : ∀ k n, x2 (ix2 k n) = R.w k n)
  (hc : ∀ k : Fin 128, x3 (ix2 y k) = R.cos (angle k))
  (hs : ∀ k : Fin 128, x4 (ix2 y k) = if k.val % 64 < 32 then -R.sin (angle k) else R.sin (angle k))

include hx hg hw hc hs in
theorem out_row (n : Fin 3840) : out0_5 (F := Ideal) x0 x1 x2 x3 x4 (ix2 y n) = qkv R n := by
  have ea : ∀ j, k0_pay22 (F := Ideal) x0 x1 x2 x3 x4 (ix2 y j) = rms R.x R.g j := fun j => by
    unfold k0_pay22
    simp (disch := decide) only [View.ld_unit_lit']
    rw [pay5_apply]
    simp only [hx, hg]
  have ec : ∀ k : Fin 256, k0_pay23 (F := Ideal) x0 x1 x2 x3 x4 (ix2 y k) = R.cos (angle k) := fun k => by
    unfold k0_pay23
    simp (disch := decide) only [View.ld_unit_lit']
    rw [pay6_apply, hc]
    exact congrArg R.cos (Fin.ext (by dsimp only [angle]; omega))
  have es : ∀ k : Fin 256, k0_pay24 (F := Ideal) x0 x1 x2 x3 x4 (ix2 y k)
      = if k.val % 64 < 32 then -R.sin (angle k) else R.sin (angle k) := fun k => by
    unfold k0_pay24
    simp (disch := decide) only [View.ld_unit_lit']
    rw [pay7_apply, hs]
    simp only [show k.val % 128 % 64 = k.val % 64 by omega,
      show angle (k.val % 128) = angle k from Fin.ext (by dsimp only [angle]; omega)]
  have em : ∀ k : Fin 256, k0_pay25 (F := Ideal) x0 x1 x2 x3 x4 (ix2 y k) = 1#1 ↔ k.val % 64 < 32 := mask_apply y
  have ew : ∀ (o : ℕ) (ho : o + 256 ≤ 3840) (inb) (k : Fin 256),
      col y (k0_pay22 (F := Ideal) x0 x1 x2 x3 x4) (View.ld (Val := Elt Ideal) (e' := .bf16) x2 (Rect.unit (s := S1024x3840) ![0, o] S1024x256.size inb)) k
        = proj R ⟨o + k, by omega⟩ := fun o ho inb k => by
    unfold col proj mm
    simp only [ea, cols x2 o ho, hw]
  have et : ∀ (o : ℕ) (ho : o + 256 ≤ 3840) (h64 : o % 64 = 0) (inb) (k : Fin 256),
      turn y (k0_pay22 (F := Ideal) x0 x1 x2 x3 x4) (View.ld (Val := Elt Ideal) (e' := .bf16) x2 (Rect.unit (s := S1024x3840) ![0, o] S1024x256.size inb))
          (k0_pay23 (F := Ideal) x0 x1 x2 x3 x4) (k0_pay24 (F := Ideal) x0 x1 x2 x3 x4) (k0_pay25 (F := Ideal) x0 x1 x2 x3 x4) k
        = turned R ⟨o + k, by omega⟩ := fun o ho h64 inb k =>
    turn_eq R y _ _ _ _ _ o ho h64 (ew o ho inb) ec es em k
  have scaled : ∀ (o : ℕ) (ho : o + 256 ≤ 512) (inb) (k : Fin 256),
      k0_pay9 (F := Ideal) (k0_pay22 (F := Ideal) x0 x1 x2 x3 x4) (View.ld (Val := Elt Ideal) (e' := .bf16) x2 (Rect.unit (s := S1024x3840) ![0, o] S1024x256.size inb)) (ix2 y k)
        = qkv R ⟨o + k, by omega⟩ := fun o ho inb k => by
    rw [pay9_apply, ew o (by omega)]
    exact (if_pos (by dsimp only; omega)).symm
  have plain : ∀ (o : ℕ) (ho : 512 ≤ o ∧ o + 256 ≤ 1536 ∨ 3072 ≤ o ∧ o + 256 ≤ 3840) (inb) (k : Fin 256),
      k0_pay11 (F := Ideal) (k0_pay22 (F := Ideal) x0 x1 x2 x3 x4) (View.ld (Val := Elt Ideal) (e' := .bf16) x2 (Rect.unit (s := S1024x3840) ![0, o] S1024x256.size inb)) (ix2 y k)
        = qkv R ⟨o + k, by omega⟩ := fun o ho inb k => by
    rw [pay11_apply, ew o (by omega), qkv]
    have := k.isLt
    split_ifs <;> first | rfl | (dsimp only at *; omega)
  have turnedScaled : ∀ (o : ℕ) (ho : 1536 ≤ o ∧ o + 256 ≤ 2304) (h64 : o % 64 = 0) (inb) (k : Fin 256),
      k0_pay15 (F := Ideal) (k0_pay22 (F := Ideal) x0 x1 x2 x3 x4) (k0_pay23 (F := Ideal) x0 x1 x2 x3 x4) (k0_pay24 (F := Ideal) x0 x1 x2 x3 x4) (k0_pay25 (F := Ideal) x0 x1 x2 x3 x4) (View.ld (Val := Elt Ideal) (e' := .bf16) x2 (Rect.unit (s := S1024x3840) ![0, o] S1024x256.size inb)) (ix2 y k)
        = qkv R ⟨o + k, by omega⟩ := fun o ho h64 inb k => by
    rw [pay15_apply, et o (by omega) h64, qkv]
    have := k.isLt
    split_ifs <;> first | rfl | (dsimp only at *; omega)
  have turnedOnly : ∀ (o : ℕ) (ho : 2304 ≤ o ∧ o + 256 ≤ 3072) (h64 : o % 64 = 0) (inb) (k : Fin 256),
      k0_pay19 (F := Ideal) (k0_pay22 (F := Ideal) x0 x1 x2 x3 x4) (k0_pay23 (F := Ideal) x0 x1 x2 x3 x4) (k0_pay24 (F := Ideal) x0 x1 x2 x3 x4) (k0_pay25 (F := Ideal) x0 x1 x2 x3 x4) (View.ld (Val := Elt Ideal) (e' := .bf16) x2 (Rect.unit (s := S1024x3840) ![0, o] S1024x256.size inb)) (ix2 y k)
        = qkv R ⟨o + k, by omega⟩ := fun o ho h64 inb k => by
    rw [pay19_apply, et o (by omega) h64, qkv]
    have := k.isLt
    split_ifs <;> first | rfl | (dsimp only at *; omega)
  unfold out0_5
  refine View.canon_eq_of_allAt _ _ _ (cover0_5 _ _ _ _ _ _ _ _ _ _ _ _ _ _ _ _) ?_
  refine View.allAt_cons_unit _ _ _ _ _ (piece_at R y 3584 (by omega) _ (plain 3584 (by omega) _) n) ?_
  refine View.allAt_cons_unit _ _ _ _ _ (piece_at R y 3328 (by omega) _ (plain 3328 (by omega) _) n) ?_
  refine View.allAt_cons_unit _ _ _ _ _ (piece_at R y 3072 (by omega) _ (plain 3072 (by omega) _) n) ?_
  refine View.allAt_cons_unit _ _ _ _ _ (piece_at R y 2816 (by omega) _ (turnedOnly 2816 (by omega) (by omega) _) n) ?_
  refine View.allAt_cons_unit _ _ _ _ _ (piece_at R y 2560 (by omega) _ (turnedOnly 2560 (by omega) (by omega) _) n) ?_
  refine View.allAt_cons_unit _ _ _ _ _ (piece_at R y 2304 (by omega) _ (turnedOnly 2304 (by omega) (by omega) _) n) ?_
  refine View.allAt_cons_unit _ _ _ _ _ (piece_at R y 2048 (by omega) _ (turnedScaled 2048 (by omega) (by omega) _) n) ?_
  refine View.allAt_cons_unit _ _ _ _ _ (piece_at R y 1792 (by omega) _ (turnedScaled 1792 (by omega) (by omega) _) n) ?_
  refine View.allAt_cons_unit _ _ _ _ _ (piece_at R y 1536 (by omega) _ (turnedScaled 1536 (by omega) (by omega) _) n) ?_
  refine View.allAt_cons_unit _ _ _ _ _ (piece_at R y 1280 (by omega) _ (plain 1280 (by omega) _) n) ?_
  refine View.allAt_cons_unit _ _ _ _ _ (piece_at R y 1024 (by omega) _ (plain 1024 (by omega) _) n) ?_
  refine View.allAt_cons_unit _ _ _ _ _ (piece_at R y 768 (by omega) _ (plain 768 (by omega) _) n) ?_
  refine View.allAt_cons_unit _ _ _ _ _ (piece_at R y 512 (by omega) _ (plain 512 (by omega) _) n) ?_
  refine View.allAt_cons_unit _ _ _ _ _ (piece_at R y 256 (by omega) _ (scaled 256 (by omega) _) n) ?_
  refine View.allAt_cons_unit _ _ _ _ _ (piece_at R y 0 (by omega) _ (scaled 0 (by omega) _) n) ?_
  exact View.allAt_nil _ _

end Cert.Qkv
-- ==== Proof.Qkv.Inputs.lean ====
module

public import proofs.«01_k».proof.Proof.Qkv.Spec
public import proofs.«01_k».proof.Proof.Post.Inputs

@[expose] public section

noncomputable section

open Idealize.ShloMosaic

/-! What a row reads, taken from the arguments. -/

namespace Cert.Qkv

open Cert.Post (Arr)

/-- The inputs of row `r`; the rows of `x` run over the batch first. -/
def row (x : Arr ⟨3, ![8, 4096, 1024]⟩) (cos sin : Arr ⟨2, ![32768, 32]⟩) (g : Arr ⟨2, ![1, 1024]⟩)
    (w : Arr ⟨3, ![1, 1024, 5888]⟩) (r : Fin 32768) : Row where
  x k := x (ix3 ⟨r / 4096, by omega⟩ ⟨r % 4096, by omega⟩ k)
  g k := g (ix2 0 k)
  w k n := w (ix3 0 k ⟨n, by omega⟩)
  cos k := cos (ix2 r k)
  sin k := sin (ix2 r k)

end Cert.Qkv
-- ==== Proof.Qkv.Array.lean ====
module

public import proofs.«01_k».proof.Proof.Qkv.Point
public import proofs.«01_k».proof.Proof.Qkv.Inputs
public import proofs.«01_k».proof.Proof.Gen.QkvKernelIdeal.Value
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The array the kernel leaves. -/

namespace Cert.Qkv

open Cert.QkvKernelIdeal Cert.QkvKernelIdeal.Gen

variable (m : (ℓ : Loc nD τ sig) → Buf (Elt Ideal) ℓ) (c : Dev nD)

/-! The arrays prepared before the call, read at an entry. -/

theorem v8_apply (r : Fin 32768) (k : Fin 1024) : V m c main_v8 (ix2 r k) = m ((c : Thread nD τ).loc main_arg0) (ix3 ⟨r / 4096, by omega⟩ ⟨r % 4096, by omega⟩ k) := by
  unfold_abbrev_sides
  after_reads_simp
  pointwise

theorem v13_apply (k : Fin 1024) : V m c main_v13 (ix2 0 k) = m ((c : Thread nD τ).loc main_arg3) (ix2 0 k) := by
  unfold_abbrev_sides
  after_reads_simp
  pointwise

theorem v11_apply (k : Fin 1024) (n : Fin 3840) : V m c main_v11 (ix2 k n) = m ((c : Thread nD τ).loc main_arg4) (ix3 0 k ⟨n, by omega⟩) := by
  unfold_abbrev_sides
  after_reads_simp
  pointwise

/-- The cosines, four times along a row. -/
theorem v2_apply (r : Fin 32768) (k : Fin 128) : V m c main_v2 (ix2 r k) = m ((c : Thread nD τ).loc main_arg1) (ix2 r (angle k)) := by
  unfold_abbrev_sides
  after_reads_simp
  pointwise [angle]

/-- An array of 32 columns and another after it, twice along a row. -/
def twice (a b : FVec Ideal S32768x32 .f32) : FVec Ideal S32768x128 .f32 :=
  shapeCast S32768x128 (broadcastInDim S1x32768x2x64 ![0, 1, 2, 3] bcast_S1x32768x1x64_S1x32768x2x64_0_1_2_3
    (shapeCast S1x32768x1x64 (concatenate S32768x64 1 [⟨S32768x32, a⟩, ⟨S32768x32, b⟩] concatenates_S32768x32_S32768x32_S32768x64_d1)
      shapeCasts_S32768x64_S1x32768x1x64)) shapeCasts_S1x32768x2x64_S32768x128

theorem twice_apply (a b : FVec Ideal S32768x32 .f32) (r : Fin 32768) (k : Fin 128) :
    twice a b (ix2 r k) = if k.val % 64 < 32 then a (ix2 r (angle k)) else b (ix2 r (angle k)) := by
  pointwise [twice, angle]
  split
  · exact congrArg (fun n => a (ix2 r n)) (Fin.ext (by dsimp only; omega))
  · exact congrArg (fun n => b (ix2 r n)) (Fin.ext (by dsimp only; omega))

theorem v7_eq : V m c main_v7
    = twice (Host.negf (F := Ideal) (φ := .f32) (m ((c : Thread nD τ).loc main_arg2))) (m ((c : Thread nD τ).loc main_arg2)) := by
  unfold_abbrev_sides
  after_reads_simp
  rfl

/-- The sines, negated and as they are, twice along a row. -/
theorem v7_apply (r : Fin 32768) (k : Fin 128) (s : Fin 32 → EReal)
    (hs : ∀ k, s k = m ((c : Thread nD τ).loc main_arg2) (ix2 r k)) :
    V m c main_v7 (ix2 r k) = if k.val % 64 < 32 then -s (angle k) else s (angle k) := by
  rw [v7_eq, twice_apply, hs]
  rfl

/-- The inputs of row `r`, from the arguments in memory. -/
abbrev rowM (r : Fin 32768) : Row :=
  row (m ((c : Thread nD τ).loc main_arg0)) (m ((c : Thread nD τ).loc main_arg1)) (m ((c : Thread nD τ).loc main_arg2)) (m ((c : Thread nD τ).loc main_arg3)) (m ((c : Thread nD τ).loc main_arg4)) r

/-- The projection, entry by entry. -/
def qkvArr : S32768x3840.Idx → EReal := fun i => qkv (rowM m c (i 0)) (i 1)

theorem idx_rows : ∀ t : Fin cfg0.N, win0_0.index t = ![t.val, 0] ∧ win0_3.index t = ![t.val, 0] ∧ win0_4.index t = ![t.val, 0] ∧ win0_5.index t = ![t.val, 0] :=
  (by decide +kernel : ∀ t : Fin grid0.N, _)

theorem idx_whole : ∀ t : Fin cfg0.N, win0_1.index t = ![0, 0] ∧ win0_2.index t = ![0, 0] :=
  (by decide +kernel : ∀ t : Fin grid0.N, _)

/-! The blocks a grid point reads. -/

variable (t : Fin cfg0.N)

theorem read0 (r : Fin 32768) (y : Fin 512) (hr : r.val = 512 * t.val + y) (k : Fin 1024) :
    iblk m c 0 t (ix2 y k) = (rowM m c r).x k := by
  have h : (win0_0.blk t).view.emb (ix2 y k) = ix2 r k := by
    blk_ext [iblk, idx_rows t]
  exact (congrArg (V m c main_v8) h).trans (v8_apply m c _ _)

theorem read1 (r : Fin 32768) (k : Fin 1024) : iblk m c 1 t (ix2 0 k) = (rowM m c r).g k := by
  have h : (win0_1.blk t).view.emb (ix2 0 k) = ix2 0 k := by
    blk_ext [iblk, idx_whole t]
  exact (congrArg (V m c main_v13) h).trans (v13_apply m c k)

theorem read2 (r : Fin 32768) (k : Fin 1024) (n : Fin 3840) : iblk m c 2 t (ix2 k n) = (rowM m c r).w k n := by
  have h : (win0_2.blk t).view.emb (ix2 k n) = ix2 k n := by
    blk_ext [iblk, idx_whole t]
  exact (congrArg (V m c main_v11) h).trans (v11_apply m c k n)

theorem read3 (r : Fin 32768) (y : Fin 512) (hr : r.val = 512 * t.val + y) (k : Fin 128) :
    iblk m c 3 t (ix2 y k) = (rowM m c r).cos (angle k) := by
  have h : (win0_3.blk t).view.emb (ix2 y k) = ix2 r k := by
    blk_ext [iblk, idx_rows t]
  exact (congrArg (V m c main_v2) h).trans (v2_apply m c _ _)

theorem read4 (r : Fin 32768) (y : Fin 512) (hr : r.val = 512 * t.val + y) (k : Fin 128) :
    iblk m c 4 t (ix2 y k)
      = if k.val % 64 < 32 then -(rowM m c r).sin (angle k) else (rowM m c r).sin (angle k) := by
  have h : (win0_4.blk t).view.emb (ix2 y k) = ix2 r k := by
    blk_ext [iblk, idx_rows t]
  exact (congrArg (V m c main_v7) h).trans (v7_apply m c _ _ _ fun _ => rfl)

theorem qkvArr_at (y : S512x3840.Idx) (i : S32768x3840.Idx)
    (h0 : (i 0).val = 512 * t.val + (y 0).val) (h1 : (i 1).val = (y 1).val) :
    out0_5 (iblk m c 0 t) (iblk m c 1 t) (iblk m c 2 t) (iblk m c 3 t) (iblk m c 4 t) y = qkvArr m c i := by
  obtain ⟨a, j, rfl⟩ : ∃ (a : Fin 512) (j : Fin 3840), y = ix2 a j := ⟨y 0, y 1, by funext a; fin_cases a <;> rfl⟩
  refine (out_row (rowM m c (i 0)) a _ _ _ _ _ (read0 m c t _ a h0) (read1 m c t _) (read2 m c t _)
    (read3 m c t _ a h0) (read4 m c t _ a h0) j).trans ?_
  exact congrArg (qkv (rowM m c (i 0))) (Fin.ext h1.symm)

theorem final5 : (dats m 0 c).arrAt 5 cfg0.N = qkvArr m c := by
  refine (dats m 0 c).arrAt_eq_of_covers 5 _ (by decide +kernel) fun t _ y => ?_
  blk_simp
  rw [after0_5]
  refine qkvArr_at m c t y _ ?_ ?_
  all_goals blk_simp [idx_rows t]
  all_goals omega

end Cert.Qkv
-- ==== Proof.Qkv.Ref.lean ====
module

public import proofs.«01_k».proof.Proof.Gen.QkvReferenceIdeal.Run
public import proofs.«01_k».proof.Proof.Qkv.Inputs
public import proofs.«01_k».proof.Proof.Post.Ref

@[expose] public section

set_option maxRecDepth 16384

noncomputable section

open Idealize.ShloMosaic Idealize.ShloMosaic.TcCoe Idealize.SL.Sem

/-! What the reference of the projection computes, row by row. -/

namespace Cert.Qkv.Ref

open Cert.QkvReferenceIdeal Cert.QkvReferenceIdeal.Gen Cert.QkvReferenceIdeal.Value Cert.QkvReferenceIdeal.Facts
open Cert.Post.Ref (rmsR rmsR_apply)

/-- The normalised rows times the weights. -/
def projR (x : FVec Ideal S8x4096x1024 .f32) (g : FVec Ideal S1x1024 .f32) (w : FVec Ideal S1x1024x5888 .f32) :
    FVec Ideal S32768x3840 .f32 :=
  Host.dotGeneral (F := Ideal) (φ₁ := .f32) (φ₂ := .f32) dot_S32768x1024_S1024x3840_S32768x3840_1_0_0_1_n_n none
    (rmsR (shapeCast S32768x1024 x shapeCasts_S8x4096x1024_S32768x1024) (shapeCast S1024 g shapeCasts_S1x1024_S1024))
    (extractStridedSlice S1024x3840 ![0, 0] (shapeCast S1024x5888 w shapeCasts_S1x1024x5888_S1024x5888) slices_S1024x5888_S1024x3840_0_0)

/-- The rotation of 12 heads of 64 columns. -/
def rotR (z : FVec Ideal S32768x768 .f32) (c s : FVec Ideal S32768x32 .f32) : FVec Ideal S32768x768 .f32 :=
  let h := shapeCast S32768x12x64 z shapeCasts_S32768x768_S32768x12x64
  let x1 := extractStridedSlice S32768x12x32 ![0, 0, 0] h slices_S32768x12x64_S32768x12x32_0_0_0
  let x2 := extractStridedSlice S32768x12x32 ![0, 0, 32] h slices_S32768x12x64_S32768x12x32_0_0_32
  let C := broadcastInDim S32768x12x32 ![0, 1, 2] bcast_S32768x1x32_S32768x12x32_0_1_2 (broadcastInDim S32768x1x32 ![0, 2] bcast_S32768x32_S32768x1x32_0_2 c)
  let S := broadcastInDim S32768x12x32 ![0, 1, 2] bcast_S32768x1x32_S32768x12x32_0_1_2 (broadcastInDim S32768x1x32 ![0, 2] bcast_S32768x32_S32768x1x32_0_2 s)
  shapeCast S32768x768 (concatenate S32768x12x64 2
    [⟨S32768x12x32, subf (F := Ideal) (φ := .f32) (mulf x1 C) (mulf x2 S)⟩, ⟨S32768x12x32, addf (F := Ideal) (φ := .f32) (mulf x2 C) (mulf x1 S)⟩]
    concatenates_S32768x12x32_S32768x12x32_S32768x12x64_d2) shapeCasts_S32768x12x64_S32768x768

/-- The six parts, one after the other. -/
def partsR (z : FVec Ideal S32768x3840 .f32) (a b : FVec Ideal S32768x768 .f32) : FVec Ideal S32768x3840 .bf16 :=
  truncf .bf16 (concatenate S32768x3840 1
    [⟨S32768x512, mulf (F := Ideal) (φ := .f32) (extractStridedSlice S32768x512 ![0, 0] z slices_S32768x3840_S32768x512_0_0) (broadcastInDim S32768x512 ![] bcast_S_S32768x512 (constant S_ .f32 0x3E000000#32))⟩,
      ⟨S32768x512, extractStridedSlice S32768x512 ![0, 512] z slices_S32768x3840_S32768x512_0_512⟩,
      ⟨S32768x512, extractStridedSlice S32768x512 ![0, 1024] z slices_S32768x3840_S32768x512_0_1024⟩,
      ⟨S32768x768, mulf (F := Ideal) (φ := .f32) a (broadcastInDim S32768x768 ![] bcast_S_S32768x768 (constant S_ .f32 0x3E000000#32))⟩,
      ⟨S32768x768, b⟩,
      ⟨S32768x768, extractStridedSlice S32768x768 ![0, 3072] z slices_S32768x3840_S32768x768_0_3072⟩]
    concatenates_S32768x512_S32768x512_S32768x512_S32768x768_S32768x768_S32768x768_S32768x3840_d1) bitsLt_bf16_f32

variable (r : Fin 32768)

theorem projR_apply (x : FVec Ideal S8x4096x1024 .f32) (c s : FVec Ideal S32768x32 .f32) (g : FVec Ideal S1x1024 .f32)
    (w : FVec Ideal S1x1024x5888 .f32) (n : Fin 3840) : projR x g w (ix2 r n) = proj (row x c s g w r) n := by
  pointwise [projR, rmsR_apply, proj, row, Post.mm]

theorem rotR_apply (z : FVec Ideal S32768x768 .f32) (c s : FVec Ideal S32768x32 .f32) (n : Fin 768) :
    rotR z c s (ix2 r n)
      = if h : n.val % 64 < 32 then z (ix2 r n) * c (ix2 r (angle n)) - z (ix2 r ⟨n + 32, by omega⟩) * s (ix2 r (angle n))
        else z (ix2 r n) * c (ix2 r (angle n)) + z (ix2 r ⟨n - 32, by omega⟩) * s (ix2 r (angle n)) := by
  pointwise [rotR, angle]
  split
  · have e1 : (⟨n % 64, by omega⟩ : Fin 32) = ⟨n % 32, by omega⟩ := Fin.ext (by dsimp only; omega)
    have e2 : (⟨n / 64 * 64 + (32 + n % 64), by omega⟩ : Fin 768) = ⟨n + 32, by omega⟩ := Fin.ext (by dsimp only; omega)
    simp only [e1, e2]
  · have e1 : (⟨n % 64 - 32, by omega⟩ : Fin 32) = ⟨n % 32, by omega⟩ := Fin.ext (by dsimp only; omega)
    have e2 : (⟨n / 64 * 64 + (32 + (n % 64 - 32)), by omega⟩ : Fin 768) = n := Fin.ext (by dsimp only; omega)
    have e3 : (⟨n / 64 * 64 + (n % 64 - 32), by omega⟩ : Fin 768) = ⟨n - 32, by omega⟩ := Fin.ext (by dsimp only; omega)
    simp only [e1, e2, e3]

theorem partsR_apply (z : FVec Ideal S32768x3840 .f32) (a b : FVec Ideal S32768x768 .f32) (n : Fin 3840) :
    partsR z a b (ix2 r n)
      = if n.val < 512 then z (ix2 r n) * eighth
        else if n.val < 1536 then z (ix2 r n)
        else if h : n.val < 2304 then a (ix2 r ⟨n - 1536, by omega⟩) * eighth
        else if h : n.val < 3072 then b (ix2 r ⟨n - 2304, by omega⟩)
        else z (ix2 r n) := by
  pointwise [partsR, eighth]
  by_cases h1 : n.val < 512
  · rw [dif_pos h1, if_pos h1]
  rw [dif_neg h1, if_neg h1]
  by_cases h2 : n.val - 512 < 512
  · rw [dif_pos h2, if_pos (show n.val < 1536 by omega)]
    exact congrArg (fun n => z (ix2 r n)) (Fin.ext (by dsimp only; omega))
  rw [dif_neg h2]
  by_cases h3 : n.val - 512 - 512 < 512
  · rw [dif_pos h3, if_pos (show n.val < 1536 by omega)]
    exact congrArg (fun n => z (ix2 r n)) (Fin.ext (by dsimp only; omega))
  rw [dif_neg h3, if_neg (show ¬ n.val < 1536 by omega)]
  by_cases h4 : n.val - 512 - 512 - 512 < 768
  · rw [dif_pos h4, dif_pos (show n.val < 2304 by omega)]
    rfl
  rw [dif_neg h4, dif_neg (show ¬ n.val < 2304 by omega)]
  by_cases h5 : n.val - 512 - 512 - 512 - 768 < 768
  · rw [dif_pos h5, dif_pos (show n.val < 3072 by omega)]
    rfl
  rw [dif_neg h5, dif_neg (show ¬ n.val < 3072 by omega)]
  exact congrArg (fun n => z (ix2 r n)) (Fin.ext (by dsimp only; omega))

/-- The rotation of 768 columns of the projection, from column `o` on, is the turned columns. -/
theorem rotated (x : FVec Ideal S8x4096x1024 .f32) (c s : FVec Ideal S32768x32 .f32) (g : FVec Ideal S1x1024 .f32)
    (w : FVec Ideal S1x1024x5888 .f32) (o : ℕ) (ho : o + 768 ≤ 3840) (h64 : o % 64 = 0)
    (hs : S32768x3840.Slices ![0, o] S32768x768) (n : Fin 768) :
    rotR (extractStridedSlice S32768x768 ![0, o] (projR x g w) hs) c s (ix2 r n)
      = turned (row x c s g w r) ⟨o + n, by omega⟩ := by
  have hz : ∀ n : Fin 768, extractStridedSlice S32768x768 ![0, o] (projR x g w) hs (ix2 r n)
      = proj (row x c s g w r) ⟨o + n, by omega⟩ := fun n =>
    (show _ = projR x g w (ix2 r ⟨o + n, by omega⟩) by pointwise).trans (projR_apply r x c s g w _)
  have ha : angle (o + n) = angle n := Fin.ext (by dsimp only [angle]; omega)
  rw [rotR_apply, turned]
  simp only [hz, ha]
  by_cases h : n.val % 64 < 32
  · have h' : (o + n.val) % 64 < 32 := by omega
    rw [dif_pos h, dif_pos h']
    rfl
  · have h' : ¬ (o + n.val) % 64 < 32 := by omega
    have e : (⟨o + (n.val - 32), by omega⟩ : Fin 3840) = ⟨o + n.val - 32, by omega⟩ := Fin.ext (by dsimp only; omega)
    rw [dif_neg h, dif_neg h', e]
    rfl

/-- The projection as the reference computes it. -/
def qkvR (x : FVec Ideal S8x4096x1024 .f32) (c s : FVec Ideal S32768x32 .f32) (g : FVec Ideal S1x1024 .f32)
    (w : FVec Ideal S1x1024x5888 .f32) : FVec Ideal S32768x3840 .bf16 :=
  partsR (projR x g w)
    (rotR (extractStridedSlice S32768x768 ![0, 1536] (projR x g w) slices_S32768x3840_S32768x768_0_1536) c s)
    (rotR (extractStridedSlice S32768x768 ![0, 2304] (projR x g w) slices_S32768x3840_S32768x768_0_2304) c s)

theorem qkvR_apply (x : FVec Ideal S8x4096x1024 .f32) (c s : FVec Ideal S32768x32 .f32) (g : FVec Ideal S1x1024 .f32)
    (w : FVec Ideal S1x1024x5888 .f32) (n : Fin 3840) :
    qkvR x c s g w (ix2 r n) = qkv (row x c s g w r) n := by
  rw [qkvR, partsR_apply, projR_apply r x c s, qkv]
  by_cases h1 : n.val < 512
  · rw [if_pos h1, if_pos h1]
  rw [if_neg h1, if_neg h1]
  by_cases h2 : n.val < 1536
  · rw [if_pos h2, if_pos h2]
  rw [if_neg h2, if_neg h2]
  by_cases h3 : n.val < 2304
  · rw [dif_pos h3, if_pos h3, rotated r x c s g w 1536 (by omega) (by omega)]
    exact congrArg (fun n => turned _ n * eighth) (Fin.ext (by dsimp only; omega))
  rw [dif_neg h3, if_neg h3]
  by_cases h4 : n.val < 3072
  · rw [dif_pos h4, if_pos h4, rotated r x c s g w 2304 (by omega) (by omega)]
    exact congrArg (turned _) (Fin.ext (by dsimp only; omega))
  · rw [dif_neg h4, if_neg h4]

theorem result_eq (m : (ℓ : Loc nD τ sig) → Buf (Elt Ideal) ℓ) (c : Dev nD) :
    res_main_v63 m c
      = qkvR (m ((c : Thread nD τ).loc main_arg0)) (m ((c : Thread nD τ).loc main_arg1)) (m ((c : Thread nD τ).loc main_arg2))
          (m ((c : Thread nD τ).loc main_arg3)) (m ((c : Thread nD τ).loc main_arg4)) := rfl

theorem result_arr (m : (ℓ : Loc nD τ sig) → Buf (Elt Ideal) ℓ) (c : Dev nD) :
    res_main_v63 m c = fun i => qkv (row (m ((c : Thread nD τ).loc main_arg0)) (m ((c : Thread nD τ).loc main_arg1))
      (m ((c : Thread nD τ).loc main_arg2)) (m ((c : Thread nD τ).loc main_arg3)) (m ((c : Thread nD τ).loc main_arg4)) (i 0)) (i 1) := by
  rw [result_eq]
  funext i
  obtain ⟨a, b, rfl⟩ : ∃ (a : Fin 32768) (b : Fin 3840), i = ix2 a b := ⟨i 0, i 1, by funext a; fin_cases a <;> rfl⟩
  exact qkvR_apply a _ _ _ _ _ b

end Cert.Qkv.Ref
-- ==== Proof.Na.Spec.lean ====
module

public import proofs.«01_k».proof.Proof.Attn
public import proofs.«01_k».proof.Proof.Dil.Spec
public import Idealize.ShloMosaic.Lib.Pointwise

@[expose] public section

noncomputable section

open Idealize.ShloMosaic

/-! The neighbourhood attention of the grid, as a function of the projected array and the table of
    relative biases. -/

namespace Cert.Na

open Cert.Dil (rd)

/-- Grid cell `(kr, kc)` lies in the neighbourhood of `(r, c)`: 8 rows by 16 columns, moved inside the grid. -/
def valid (r c kr kc : ℕ) : Prop :=
  (min (r - 4) 56 ≤ kr ∧ kr < min (r - 4) 56 + 8) ∧ min (c - 8) 48 ≤ kc ∧ kc < min (c - 8) 48 + 16

instance (r c kr kc : ℕ) : Decidable (valid r c kr kc) := inferInstanceAs (Decidable (_ ∧ _))

/-- The entry of the bias table for head `h`, row offset `i`, column offset `j`. -/
def rb (R : Shape.Idx ⟨4, ![1, 8, 15, 31]⟩ → EReal) (h i j : ℕ) : EReal :=
  if H : h < 8 ∧ i < 15 ∧ j < 31 then R (ix4 0 ⟨h, H.1⟩ ⟨i, H.2.1⟩ ⟨j, H.2.2⟩) else 0

theorem rb_eq (R : Shape.Idx ⟨4, ![1, 8, 15, 31]⟩ → EReal) (h i j h' i' j' : ℕ) (hh : h < 8) (hi : i < 15) (hj : j < 31)
    (e1 : h = h') (e2 : i = i') (e3 : j = j') : R (ix4 0 ⟨h, hh⟩ ⟨i, hi⟩ ⟨j, hj⟩) = rb R h' i' j' := by
  subst e1 e2 e3
  rw [rb, dif_pos ⟨hh, hi, hj⟩]

/-- What is added to the score of a query at `(r, c)` against a key at `(kr, kc)`. -/
def bias (R : Shape.Idx ⟨4, ![1, 8, 15, 31]⟩ → EReal) (h r c kr kc : ℕ) : EReal :=
  if valid r c kr kc then rb R h (min (kr + 7 - r) 14) (min (kc + 15 - c) 30) else ⊥

/-- Head `h`'s scores of token `t`. -/
def sc (X : Shape.Idx ⟨3, ![8, 4096, 3840]⟩ → EReal) (R : Shape.Idx ⟨4, ![1, 8, 15, 31]⟩ → EReal) (b : Fin 8) (h t : ℕ) :
    Fin 4096 → EReal := fun u =>
  (∑ e : Fin 64, rd X b t (64 * h + e) * rd X b u (512 + 64 * h + e)) + bias R h (t / 64) (t % 64) (u / 64) (u % 64)

/-- The attention output of token `t` at lane `x`. -/
def oAt (X : Shape.Idx ⟨3, ![8, 4096, 3840]⟩ → EReal) (R : Shape.Idx ⟨4, ![1, 8, 15, 31]⟩ → EReal) (b : Fin 8) (t x : ℕ) : EReal :=
  Attn.out (sc X R b (x / 64) t) fun u => rd X b u (1024 + x)

/-! The windows of 12 rows. -/

/-- The first row of the window of query block `n`. -/
def win (n : ℕ) : ℕ := min (4 * n - 4) 52

/-- The bias table that query block `n` takes. -/
def variant (n : ℕ) : ℕ := if n = 0 then 0 else if n = 15 then 2 else 1

/-- The first query row that bias table `v` stands for. -/
def qrow (v : ℕ) : ℕ := if v = 0 then 0 else if v = 1 then 4 else 60

/-- The first key row of bias table `v`. -/
def krow (v : ℕ) : ℕ := if v = 2 then 52 else 0

theorem win_le (n : ℕ) : win n ≤ 52 := by unfold win; omega

/-- The table of block `n` at query `y`, key `k` is the bias of those tokens. -/
theorem tab_eq (R : Shape.Idx ⟨4, ![1, 8, 15, 31]⟩ → EReal) (h n y k : ℕ) (hn : n < 16) (hy : y < 256) (hk : k < 768) :
    bias R h (qrow (variant n) + y / 64) (y % 64) (krow (variant n) + k / 64) (k % 64)
      = bias R h ((256 * n + y) / 64) ((256 * n + y) % 64) ((64 * win n + k) / 64) ((64 * win n + k) % 64) := by
  have e1 : (256 * n + y) / 64 = 4 * n + y / 64 := by omega
  have e2 : (256 * n + y) % 64 = y % 64 := by omega
  have e3 : (64 * win n + k) / 64 = win n + k / 64 := by omega
  have e4 : (64 * win n + k) % 64 = k % 64 := by omega
  rw [e1, e2, e3, e4]
  have hq : (n = 0 ∧ qrow (variant n) = 0 ∧ krow (variant n) = 0 ∧ win n = 0)
      ∨ (n = 15 ∧ qrow (variant n) = 60 ∧ krow (variant n) = 52 ∧ win n = 52)
      ∨ (1 ≤ n ∧ n ≤ 14 ∧ qrow (variant n) = 4 ∧ krow (variant n) = 0 ∧ win n = 4 * n - 4) := by
    have h1 : win n = min (4 * n - 4) 52 := rfl
    by_cases h0 : n = 0
    · subst h0; exact .inl ⟨rfl, rfl, rfl, rfl⟩
    · by_cases h15 : n = 15
      · subst h15; exact .inr (.inl ⟨rfl, rfl, rfl, rfl⟩)
      · have : variant n = 1 := by rw [variant, if_neg h0, if_neg h15]
        rw [this]
        exact .inr (.inr ⟨by omega, by omega, rfl, rfl, by omega⟩)
  have hv : valid (qrow (variant n) + y / 64) (y % 64) (krow (variant n) + k / 64) (k % 64)
      ↔ valid (4 * n + y / 64) (y % 64) (win n + k / 64) (k % 64) := by
    refine and_congr_left fun _ => ?_
    omega
  have ho : min (krow (variant n) + k / 64 + 7 - (qrow (variant n) + y / 64)) 14
      = min (win n + k / 64 + 7 - (4 * n + y / 64)) 14 := by
    omega
  rw [bias, bias, ho]
  exact if_congr hv rfl rfl

/-- Key `k` of the window of block `n`. -/
def key (n : ℕ) (k : Fin 768) : Fin 4096 := ⟨64 * win n + k, by have := win_le n; omega⟩

theorem key_inj (n : ℕ) : Function.Injective (key n) := fun a b hab => by
  have := congrArg Fin.val hab
  simp only [key] at this
  exact Fin.ext (by omega)

/-- The output over a window is the output over all keys. -/
theorem out_eq (X : Shape.Idx ⟨3, ![8, 4096, 3840]⟩ → EReal) (R : Shape.Idx ⟨4, ![1, 8, 15, 31]⟩ → EReal) (b : Fin 8)
    (h n y : ℕ) (hy : y < 256) (g : Fin 768 → EReal)
    (hg : ∀ k, sc X R b h (256 * n + y) (key n k) = g k) (v : Fin 4096 → EReal) :
    Attn.out (sc X R b h (256 * n + y)) v = Attn.out g fun k => v (key n k) := by
  refine Attn.out_window (key n) (key_inj n) _ g hg (fun j hj => ?_) v
  have hk : ¬ valid ((256 * n + y) / 64) ((256 * n + y) % 64) (j / 64) (j % 64) := by
    rintro ⟨⟨h1, h2⟩, -⟩
    have hw : win n = min (4 * n - 4) 52 := rfl
    refine hj ⟨j - 64 * win n, by omega⟩ (Fin.ext ?_)
    simp only [key]
    omega
  rw [sc, bias, if_neg hk, EReal.add_bot]

/-- The scores of real arrays: none is `⊤`, the token's own is not `⊥`. -/
theorem sc_real (X : Shape.Idx ⟨3, ![8, 4096, 3840]⟩ → EReal) (R : Shape.Idx ⟨4, ![1, 8, 15, 31]⟩ → EReal)
    (hX : ∀ i, ∃ x : ℝ, X i = x) (hR : ∀ i, ∃ x : ℝ, R i = x) (b : Fin 8) (h : ℕ) (t : Fin 4096) :
    (∀ u, sc X R b h t u ≠ ⊤) ∧ ∃ u, sc X R b h t u ≠ ⊥ := by
  choose f hf using fun t l => Dil.rd_real X hX b t l
  have hrb : ∀ i j, ∃ x : ℝ, rb R h i j = x := fun i j => by
    unfold rb
    split_ifs with H
    · exact hR _
    · exact ⟨0, EReal.coe_zero.symm⟩
  have hs : ∀ u : ℕ, ∃ x : ℝ, (∑ e : Fin 64, rd X b t (64 * h + e) * rd X b u (512 + 64 * h + e)) = (x : EReal) := fun u => by
    refine ⟨∑ e : Fin 64, f t (64 * h + e) * f u (512 + 64 * h + e), ?_⟩
    simp only [hf, ← EReal.coe_mul]
    induction (Finset.univ : Finset (Fin 64)) using Finset.induction_on with
    | empty => simp
    | insert a s ha ih => rw [Finset.sum_insert ha, Finset.sum_insert ha, ih, EReal.coe_add]
  have hval : ∀ u : Fin 4096, valid (t / 64) (t % 64) (u / 64) (u % 64) → ∃ x : ℝ, sc X R b h t u = x := fun u hu => by
    obtain ⟨x, hx⟩ := hs u
    obtain ⟨y, hy⟩ := hrb (min (u / 64 + 7 - t / 64) 14) (min (u % 64 + 15 - t % 64) 30)
    exact ⟨x + y, by rw [sc, bias, if_pos hu, hx, hy, EReal.coe_add]⟩
  constructor
  · intro u
    by_cases hu : valid (t / 64) (t % 64) (u / 64) (u % 64)
    · obtain ⟨x, hx⟩ := hval u hu
      rw [hx]; exact EReal.coe_ne_top x
    · rw [sc, bias, if_neg hu, EReal.add_bot]; exact bot_ne_top
  · obtain ⟨x, hx⟩ := hval t (by unfold valid; omega)
    exact ⟨t, by rw [hx]; exact EReal.coe_ne_bot x⟩

/-- Dividing each weight by the denominator first gives the output with the division last. -/
theorem out_eq_softmax {n : ℕ} (f v : Fin n → EReal) (ht : ∀ j, f j ≠ ⊤) (hb : ∃ j, f j ≠ ⊥) :
    ∑ j, Ideal.div (Ideal.exp (f j - Attn.mx f)) (Attn.den f) * v j = Attn.out f v := by
  obtain ⟨M, D, e, hM, hD, hpos, he, he0, -⟩ := Attn.real_form f ht hb
  have hne : (D : EReal) ≠ 0 := by exact_mod_cast hpos.ne'
  rw [Attn.out, hM, hD, Attn.div_one_real D hpos, Attn.sum_mul_real _ _ _ (inv_nonneg.mpr hpos.le)]
  refine Finset.sum_congr rfl fun j _ => ?_
  rw [Ideal.div, if_neg hne, ← EReal.coe_inv, mul_right_comm]

end Cert.Na
-- ==== Proof.Na.Body.lean ====
module

public import proofs.«01_k».proof.Proof.Gen.NaKernelIdeal.Skeleton
public import proofs.«01_k».proof.Proof.Dil.Body
public import proofs.«01_k».proof.Proof.Na.Spec

@[expose] public section

set_option maxRecDepth 16384

noncomputable section

open Idealize.ShloMosaic Idealize.SL.Sem

/-! One block of the neighbourhood attention, entry by entry. -/

namespace Cert.Na

open Cert.Dil (headLane sum_head headWord headWord_eq0 headWord_eq1 headWord_eq2 headWord_eq3 rd)
open Cert.NaKernelIdeal Cert.NaKernelIdeal.Gen

/-- The scores of one block: stacked query rows against the window's keys, plus the bias. -/
def scores (kw : FVec Ideal S768x256 .bf16) (bias : FVec Ideal S1x1x1024x768 .f32)
    (q : FVec Ideal S256x256 .bf16) : FVec Ideal S1024x768 .f32 :=
  have v38 : IVec S256x256 32 := select k0_pay6 k0_pay7 k0_pay5
  have v39 : FVec Ideal S256x256 .bf16 := broadcast S256x256 (Scalar.ofBits .bf16 0x0000#16)
  have v52 : FVec Ideal S1024x256 .bf16 := concatenate S1024x256 0 [⟨S256x256, select (cmpi .eq v38 (broadcast S256x256 0#32)) q v39⟩,
    ⟨S256x256, select (cmpi .eq v38 (broadcast S256x256 1#32)) q v39⟩, ⟨S256x256, select (cmpi .eq v38 (broadcast S256x256 2#32)) q v39⟩,
    ⟨S256x256, select (cmpi .eq v38 (broadcast S256x256 3#32)) q v39⟩] concatenates_S256x256_S256x256_S256x256_S256x256_S1024x256_d0
  addf (matmul dot_S1024x256_S768x256_S1024x768_1_1_0_0_n_n none v52 kw (constant S1024x768 .f32 0x00000000#32))
    (shapeCast S1024x768 bias shapeCasts_S1x1x1024x768_S1024x768)

/-- Row `256 h + y` of the stacked scores is query row `y` of head `h`. -/
theorem scores_apply (kw : FVec Ideal S768x256 .bf16) (bias : FVec Ideal S1x1x1024x768 .f32)
    (q : FVec Ideal S256x256 .bf16) (h : Fin 4) (y : Fin 256) (r : Fin 1024) (hr : (r : ℕ) = 256 * h + y)
    (k : Fin 768) :
    scores kw bias q (ix2 r k)
      = (∑ e : Fin 64, q (ix2 y (headLane h e)) * kw (ix2 k (headLane h e)))
        + bias (ix4 0 0 r k) := by
  rw [← sum_head h (fun x => q (ix2 y x)) (fun x => kw (ix2 k x))]
  pointwise [scores, k0_pay5, k0_pay6, k0_pay7]
  simp only [headWord_eq0, headWord_eq1, headWord_eq2, headWord_eq3, Band.select_decide]
  have hy := y.isLt
  congr 1
  fin_vals h with hh
  all_goals
    simp only [hh] at hr
    simp only [hr, hh]
    refine Finset.sum_congr rfl fun x _ => ?_
    congr 1
    split_ifs <;> first | omega | rfl | exact congrArg (fun i => q (ix2 i x)) (Fin.ext (by dsimp only; omega))

/-- The attention outputs of the stacked rows. -/
abbrev outRows (kw vw : FVec Ideal S768x256 .bf16) (bias : FVec Ideal S1x1x1024x768 .f32) (q : FVec Ideal S256x256 .bf16) :
    FVec Ideal S1024x256 .f32 :=
  k0_pay8 kw vw q k0_pay5 k0_pay6 k0_pay7 bias

/-- The steps after the scores. -/
def rowsOf (s : FVec Ideal S1024x768 .f32) (vw : FVec Ideal S768x256 .bf16) : FVec Ideal S1024x256 .f32 :=
  have v57 : FVec Ideal S1024 .f32 := multiReduction .maximumf [1] S1024 s 0xFF800000#32 reduces_S1024x768_S1024 (.inl rfl) rfl
  have v61 : FVec Ideal S1024x768 .f32 := exp (subf s (broadcastTo S1024x768 (shapeCast S1024x1 v57 shapeCasts_S1024_S1024x1) broadcasts_S1024x1_S1024x768))
  have v62 : FVec Ideal S1024 .f32 := multiReduction .add [1] S1024 v61 0x00000000#32 reduces_S1024x768_S1024 (.inl rfl) rfl
  have v67 : FVec Ideal S1024x1 .f32 := divf (broadcast S1024x1 (Scalar.ofBits .f32 0x3F800000#32)) (shapeCast S1024x1 v62 shapeCasts_S1024_S1024x1)
  mulf (matmul dot_S1024x768_S768x256_S1024x256_1_0_0_1_n_n none (truncf .bf16 v61 bitsLt_bf16_f32) vw (constant S1024x256 .f32 0x00000000#32))
    (broadcastTo S1024x256 v67 broadcasts_S1024x1_S1024x256)

theorem outRows_eq (kw vw : FVec Ideal S768x256 .bf16) (bias : FVec Ideal S1x1x1024x768 .f32) (q : FVec Ideal S256x256 .bf16) :
    outRows kw vw bias q = rowsOf (scores kw bias q) vw := rfl

/-- Each stacked row is the attention output of its scores. -/
theorem rowsOf_apply (s : FVec Ideal S1024x768 .f32) (vw : FVec Ideal S768x256 .bf16) (r : Fin 1024) (x : Fin 256) :
    rowsOf s vw (ix2 r x) = Attn.out (fun k => s (ix2 r k)) (fun k => vw (ix2 k x)) := by
  pointwise [rowsOf]
  rw [Attn.ofBits_negInf]
  rfl

/-- The four heads' rows put back side by side: lane `x` of row `y` comes from row `256 (x / 64) + y`. -/
theorem unstack (z : FVec Ideal S1024x256 .f32) (y : Fin 256) (x : Fin 256) (r : Fin 1024)
    (hr : (r : ℕ) = 256 * (x / 64) + y) :
    k0_pay1 z (iota .tc S256x256 32 [1] iota_S256x256_d1_w32) 64#32 k0_pay9 k0_pay10 0#32 (ix3 0 y x) = z (ix2 r x) := by
  pointwise [k0_pay1, k0_pay9, k0_pay10]
  simp only [headWord_eq1, headWord_eq2, headWord_eq3, Band.select_decide]
  have hx := x.isLt
  split_ifs with h3 h2 h1
  all_goals exact congrArg (fun i => z (ix2 i x)) (Fin.ext (by dsimp only; omega))

variable (g n : ℕ) (hn : n < 16)
  (X : Shape.Idx ⟨3, ![8, 4096, 3840]⟩ → EReal) (R : Shape.Idx ⟨4, ![1, 8, 15, 31]⟩ → EReal) (b : Fin 8)
  (kw vw : FVec Ideal S768x256 .bf16) (bs : FVec Ideal S1x1x1024x768 .f32) (q : FVec Ideal S256x256 .bf16)
  (hq : ∀ (y : Fin 256) (e : Fin 256), q (ix2 y e) = rd X b (256 * n + y) (256 * g + e))
  (hk : ∀ (k : Fin 768) (e : Fin 256), kw (ix2 k e) = rd X b (64 * win n + k) (512 + 256 * g + e))
  (hv : ∀ (k : Fin 768) (e : Fin 256), vw (ix2 k e) = rd X b (64 * win n + k) (1024 + 256 * g + e))
  (hm : ∀ (h : Fin 4) (y : Fin 256) (r : Fin 1024) (k : Fin 768), (r : ℕ) = 256 * h + y →
    bs (ix4 0 0 r k) = bias R (4 * g + h) (qrow (variant n) + y / 64) (y % 64) (krow (variant n) + k / 64) (k % 64))

include hn hq hk hv hm in
/-- The block of outputs. -/
theorem point (y : Fin 256) (x : Fin 256) :
    k0_pay1 (outRows kw vw bs q) (iota .tc S256x256 32 [1] iota_S256x256_d1_w32) 64#32 k0_pay9 k0_pay10 0#32 (ix3 0 y x)
      = oAt X R b (256 * n + y) (256 * g + x) := by
  have hh : x.val / 64 < 4 := by omega
  rw [unstack _ y x ⟨256 * (x.val / 64) + y, by omega⟩ rfl, outRows_eq, rowsOf_apply, oAt,
    show (256 * g + x.val) / 64 = 4 * g + x.val / 64 by omega]
  rw [out_eq X R b (4 * g + x.val / 64) n y y.isLt (fun k => scores kw bs q (ix2 (⟨256 * (x.val / 64) + y, by omega⟩ : Fin 1024) k)) (fun k => ?_)]
  · congr 1
    funext k
    rw [hv]
    congr 1
    omega
  · rw [scores_apply kw bs q ⟨x.val / 64, hh⟩ y _ rfl, hm ⟨x.val / 64, hh⟩ y _ k rfl,
      tab_eq R _ n y k hn y.isLt k.isLt, sc]
    congr 1
    refine Finset.sum_congr rfl fun e _ => ?_
    rw [hq, hk]
    congr 2 <;> simp only [headLane, key] <;> omega

end Cert.Na
-- ==== Proof.Na.Gather.lean ====
module

public import Idealize.ShloMosaic.PureOps.Ideal
public import Idealize.ShloMosaic.Lib.IdealHost
public import Idealize.ShloMosaic.Lib.Pointwise
public import Idealize.ShloMosaic.Lib.ValueIdxCore

@[expose] public section

noncomputable section

open Idealize.ShloMosaic

/-! The two gathers of the neighbourhood attention at one index, where the start index is a small word. -/

namespace Cert.Na

variable {α : Type}

/-- The signed reading of a small word. -/
theorem toNat_word (n : ℕ) (hn : n < 65536) : (BitVec.ofNat 32 n).toInt.toNat = n := by
  rw [BitVec.toInt_eq_toNat_of_lt (by rw [BitVec.toNat_ofNat]; omega), BitVec.toNat_ofNat]
  omega

abbrev colsDims (wf : GatherDims.WF ⟨2, ![8, 465]⟩ ⟨4, ![3, 256, 768, 1]⟩ ⟨4, ![8, 3, 256, 768]⟩ [0] [1] [] [1] [] 3 ![8, 1]) :
    GatherDims ⟨2, ![8, 465]⟩ ⟨4, ![3, 256, 768, 1]⟩ ⟨4, ![8, 3, 256, 768]⟩ where
  offsetDims := [0]
  collapsedSliceDims := [1]
  operandBatchingDims := []
  startIndicesBatchingDims := []
  startIndexMap := [1]
  indexVectorDim := 3
  sliceSizes := ![8, 1]
  wf := wf

/-- The gather along the columns of the flat table. -/
theorem gather_cols (wf) (x : (⟨2, ![8, 465]⟩ : Shape).Idx → α) (idx : IVec ⟨4, ![3, 256, 768, 1]⟩ 32)
    (h : Fin 8) (a : Fin 3) (y : Fin 256) (k : Fin 768) (n : ℕ) (hn : n < 465)
    (he : idx (ix4 a y k 0) = BitVec.ofNat 32 n) :
    Host.gather (colsDims wf) x idx (ix4 h a y k) = x (ix2 h ⟨n, hn⟩) := by
  unfold Host.gather
  congr 1
  funext ax
  refine Fin.ext ?_
  show (colsDims wf).start (ix4 h a y k) idx ax + (colsDims wf).batchCoord (ix4 h a y k) ax
      + (colsDims wf).offCoord (ix4 h a y k) ax = _
  have h01 : ax = 0 ∨ ax = 1 := by
    match ax with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (show (0 : Fin 2) ∉ (colsDims wf).startIndexMap from fun h => absurd (List.mem_singleton.mp h) (by decide))]
    simp only [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims wf).startIndexMap from List.mem_singleton.mpr rfl)]
    have hsi : (colsDims wf).siIdx (ix4 h a y k) ⟨List.idxOf (1 : Fin 2) (colsDims wf).startIndexMap,
        List.idxOf_lt_length_iff.2 (List.mem_singleton.mpr rfl)⟩ = ix4 a y k 0 := by
      funext b; refine Fin.ext ?_
      match b with
      | ⟨0, _⟩ => rfl
      | ⟨1, _⟩ => rfl
      | ⟨2, _⟩ => rfl
      | ⟨3, _⟩ => rfl
    rw [hsi, he, toNat_word n (by omega)]
    show min n 464 = n
    omega

abbrev pairDims (wf : GatherDims.WF ⟨3, ![8, 15, 31]⟩ ⟨3, ![4096, 4096, 2]⟩ ⟨3, ![8, 4096, 4096]⟩ [0] [1, 2] [] [1, 2] [] 2 ![8, 1, 1]) :
    GatherDims ⟨3, ![8, 15, 31]⟩ ⟨3, ![4096, 4096, 2]⟩ ⟨3, ![8, 4096, 4096]⟩ where
  offsetDims := [0]
  collapsedSliceDims := [1, 2]
  operandBatchingDims := []
  startIndicesBatchingDims := []
  startIndexMap := [1, 2]
  indexVectorDim := 2
  sliceSizes := ![8, 1, 1]
  wf := wf

/-- The gather at pairs of offsets. -/
theorem gather_pair (wf) (x : (⟨3, ![8, 15, 31]⟩ : Shape).Idx → α) (idx : IVec ⟨3, ![4096, 4096, 2]⟩ 32)
    (h : Fin 8) (t u : Fin 4096) (i j : ℕ) (hi : i < 15) (hj : j < 31)
    (he : idx (ix3 t u 0) = BitVec.ofNat 32 i) (he' : idx (ix3 t u 1) = BitVec.ofNat 32 j) :
    Host.gather (pairDims wf) x idx (ix3 h t u) = x (ix3 h ⟨i, hi⟩ ⟨j, hj⟩) := by
  unfold Host.gather
  congr 1
  funext ax
  refine Fin.ext ?_
  show (pairDims wf).start (ix3 h t u) idx ax + (pairDims wf).batchCoord (ix3 h t u) ax
      + (pairDims wf).offCoord (ix3 h t u) ax = _
  have h012 : ax = 0 ∨ ax = 1 ∨ ax = 2 := by
    match ax with
    | ⟨0, _⟩ => exact Or.inl rfl
    | ⟨1, _⟩ => exact Or.inr (Or.inl rfl)
    | ⟨2, _⟩ => exact Or.inr (Or.inr rfl)
  have m1 : (1 : Fin 3) ∈ (pairDims wf).startIndexMap := List.mem_cons_self
  have m2 : (2 : Fin 3) ∈ (pairDims wf).startIndexMap := List.mem_cons_of_mem _ (List.mem_singleton.mpr rfl)
  rcases h012 with rfl | rfl | rfl
  · rw [GatherDims.batchCoord_eq_zero _ _ _ List.not_mem_nil]
    unfold GatherDims.start
    rw [dif_neg (show (0 : Fin 3) ∉ (pairDims wf).startIndexMap from (by decide : (0 : Fin 3) ∉ [1, 2]))]
    simp only [Nat.zero_add]
    rfl
  · rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos m1]
    have hsi : (pairDims wf).siIdx (ix3 h t u) ⟨List.idxOf (1 : Fin 3) (pairDims wf).startIndexMap,
        List.idxOf_lt_length_iff.2 m1⟩ = ix3 t u 0 := by
      funext b; refine Fin.ext ?_
      match b with
      | ⟨0, _⟩ => rfl
      | ⟨1, _⟩ => rfl
      | ⟨2, _⟩ => rfl
    rw [hsi, he, toNat_word i (by omega)]
    show min i 14 = i
    omega
  · rw [GatherDims.batchCoord_eq_zero _ _ _ List.not_mem_nil,
      GatherDims.offCoord_eq_zero _ _ _ (fun h => ((GatherDims.mem_sKept _ _).mp h).1 m2)]
    simp only [Nat.add_zero]
    unfold GatherDims.start
    rw [dif_pos m2]
    have hsi : (pairDims wf).siIdx (ix3 h t u) ⟨List.idxOf (2 : Fin 3) (pairDims wf).startIndexMap,
        List.idxOf_lt_length_iff.2 m2⟩ = ix3 t u 1 := by
      funext b; refine Fin.ext ?_
      match b with
      | ⟨0, _⟩ => rfl
      | ⟨1, _⟩ => rfl
      | ⟨2, _⟩ => rfl
    rw [hsi, he', toNat_word j (by omega)]
    show min j 30 = j
    omega

end Cert.Na
-- ==== Proof.Na.Offsets.lean ====
module

public import proofs.«01_k».proof.Proof.Na.Spec
public import proofs.«01_k».proof.Proof.Na.Gather
public import proofs.«01_k».proof.Proof.Band
public import proofs.«01_k».proof.Proof.Gen.NaKernelIdeal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The table of biases that the host prepares, entry by entry. -/

namespace Cert.Na

open Cert.NaKernelIdeal Cert.NaKernelIdeal.Gen

/-! The words of the table's offsets and tests. -/

theorem rowOff0 : ∀ (i : Fin 4) (j : Fin 12),
    IntOp.minsi 14#32 (IntOp.maxsi 0#32 (IntOp.subi (IntOp.addi (IntOp.subi (IntOp.addi 0#32 (BitVec.ofNat 32 j.val)) (IntOp.addi 0#32 (BitVec.ofNat 32 i.val))) 8#32) 1#32))
      = BitVec.ofNat 32 (min (0 + j.val + 7 - (0 + i.val)) 14) := by
  decide +kernel

theorem rowIn0 : ∀ (i : Fin 4) (j : Fin 12),
    IntOp.andi (IntOp.cmpi .sge (IntOp.addi 0#32 (BitVec.ofNat 32 j.val)) (IntOp.minsi 56#32 (IntOp.maxsi 0#32 (IntOp.subi (IntOp.addi 0#32 (BitVec.ofNat 32 i.val)) 4#32))))
      (IntOp.cmpi .slt (IntOp.addi 0#32 (BitVec.ofNat 32 j.val)) (IntOp.addi (IntOp.minsi 56#32 (IntOp.maxsi 0#32 (IntOp.subi (IntOp.addi 0#32 (BitVec.ofNat 32 i.val)) 4#32))) 8#32))
      = BitVec.ofBool (decide (min (0 + i.val - 4) 56 ≤ 0 + j.val ∧ 0 + j.val < min (0 + i.val - 4) 56 + 8)) := by
  decide +kernel

theorem rowOff1 : ∀ (i : Fin 4) (j : Fin 12),
    IntOp.minsi 14#32 (IntOp.maxsi 0#32 (IntOp.subi (IntOp.addi (IntOp.subi (IntOp.addi 0#32 (BitVec.ofNat 32 j.val)) (IntOp.addi 4#32 (BitVec.ofNat 32 i.val))) 8#32) 1#32))
      = BitVec.ofNat 32 (min (0 + j.val + 7 - (4 + i.val)) 14) := by
  decide +kernel

theorem rowIn1 : ∀ (i : Fin 4) (j : Fin 12),
    IntOp.andi (IntOp.cmpi .sge (IntOp.addi 0#32 (BitVec.ofNat 32 j.val)) (IntOp.minsi 56#32 (IntOp.maxsi 0#32 (IntOp.subi (IntOp.addi 4#32 (BitVec.ofNat 32 i.val)) 4#32))))
      (IntOp.cmpi .slt (IntOp.addi 0#32 (BitVec.ofNat 32 j.val)) (IntOp.addi (IntOp.minsi 56#32 (IntOp.maxsi 0#32 (IntOp.subi (IntOp.addi 4#32 (BitVec.ofNat 32 i.val)) 4#32))) 8#32))
      = BitVec.ofBool (decide (min (4 + i.val - 4) 56 ≤ 0 + j.val ∧ 0 + j.val < min (4 + i.val - 4) 56 + 8)) := by
  decide +kernel

theorem rowOff2 : ∀ (i : Fin 4) (j : Fin 12),
    IntOp.minsi 14#32 (IntOp.maxsi 0#32 (IntOp.subi (IntOp.addi (IntOp.subi (IntOp.addi 52#32 (BitVec.ofNat 32 j.val)) (IntOp.addi 60#32 (BitVec.ofNat 32 i.val))) 8#32) 1#32))
      = BitVec.ofNat 32 (min (52 + j.val + 7 - (60 + i.val)) 14) := by
  decide +kernel

theorem rowIn2 : ∀ (i : Fin 4) (j : Fin 12),
    IntOp.andi (IntOp.cmpi .sge (IntOp.addi 52#32 (BitVec.ofNat 32 j.val)) (IntOp.minsi 56#32 (IntOp.maxsi 0#32 (IntOp.subi (IntOp.addi 60#32 (BitVec.ofNat 32 i.val)) 4#32))))
      (IntOp.cmpi .slt (IntOp.addi 52#32 (BitVec.ofNat 32 j.val)) (IntOp.addi (IntOp.minsi 56#32 (IntOp.maxsi 0#32 (IntOp.subi (IntOp.addi 60#32 (BitVec.ofNat 32 i.val)) 4#32))) 8#32))
      = BitVec.ofBool (decide (min (60 + i.val - 4) 56 ≤ 52 + j.val ∧ 52 + j.val < min (60 + i.val - 4) 56 + 8)) := by
  decide +kernel

theorem colOff : ∀ i j : Fin 64,
    IntOp.minsi 30#32 (IntOp.maxsi 0#32 (IntOp.subi (IntOp.addi (IntOp.subi (BitVec.ofNat 32 j.val) (BitVec.ofNat 32 i.val)) 16#32) 1#32))
      = BitVec.ofNat 32 (min (j.val + 15 - i.val) 30) := by
  decide +kernel

theorem colGe : ∀ i j : Fin 64,
    IntOp.cmpi .sge (BitVec.ofNat 32 j.val) (IntOp.minsi 48#32 (IntOp.maxsi 0#32 (IntOp.subi (BitVec.ofNat 32 i.val) 8#32)))
      = BitVec.ofBool (decide (min (i.val - 8) 48 ≤ j.val)) := by
  decide +kernel

theorem colLt : ∀ i j : Fin 64,
    IntOp.cmpi .slt (BitVec.ofNat 32 j.val) (IntOp.addi (IntOp.minsi 48#32 (IntOp.maxsi 0#32 (IntOp.subi (BitVec.ofNat 32 i.val) 8#32))) 16#32)
      = BitVec.ofBool (decide (j.val < min (i.val - 8) 48 + 16)) := by
  decide +kernel

/-- The conjunction of the tests' bits. -/
theorem and_bits (p q r : Prop) [Decidable p] [Decidable q] [Decidable r] :
    IntOp.andi (IntOp.andi (BitVec.ofBool (decide p)) (BitVec.ofBool (decide q))) (BitVec.ofBool (decide r))
      = BitVec.ofBool (decide (p ∧ q ∧ r)) := by
  by_cases hp : p <;> by_cases hq : q <;> by_cases hr : r <;> simp only [hp, hq, hr] <;> decide

theorem flat_word (i j : ℕ) :
    IntOp.addi (IntOp.muli (BitVec.ofNat 32 i) 31#32) (BitVec.ofNat 32 j) = BitVec.ofNat 32 (i * 31 + j) := by
  show BitVec.ofNat 32 i * BitVec.ofNat 32 31 + BitVec.ofNat 32 j = _
  rw [BitVec.ofNat_add, BitVec.ofNat_mul]

/-- A start index inside the table is left as it is. -/
theorem take_idx : ∀ n : Fin 465,
    Scalar.select (IntOp.cmpi .slt (BitVec.ofNat 32 n.val) 0#32) (IntOp.addi (BitVec.ofNat 32 n.val) 465#32) (BitVec.ofNat 32 n.val)
      = BitVec.ofNat 32 n.val := by
  decide +kernel

/-- ... and it passes the test that it is inside. -/
theorem take_in : ∀ n : Fin 465,
    IntOp.andi (IntOp.cmpi .sge (BitVec.ofNat 32 n.val) 0#32) (IntOp.cmpi .sle (BitVec.ofNat 32 n.val) 464#32) = 1#1 := by
  decide +kernel

theorem fold_ones {ι : Type} (s : Finset ι) : s.fold IntOp.andi 1#1 (fun _ => 1#1) = 1#1 := by
  classical
  induction s using Finset.induction_on with
  | empty => rfl
  | insert b s hb ih => rw [Finset.fold_insert hb, ih]; rfl

theorem cst (n : BitVec 32) : (id (constantI S_ 32 n) : IVec S_ 32) ix0 = n := rfl

theorem cstBot : (id (constant (F := Ideal) S_ .f32 4286578688#32) : FVec Ideal S_ .f32) ix0 = ⊥ := Attn.ofBits_negInf

/-- The table's flat index. -/
def flat (a y k : ℕ) : ℕ := min (krow a + k / 64 + 7 - (qrow a + y / 64)) 14 * 31 + min (k % 64 + 15 - y % 64) 30

theorem flat_lt (a y k : ℕ) : flat a y k < 465 := by unfold flat; omega

/-- The test of table `a` at query `y`, key `k`. -/
abbrev vbit (a y k : ℕ) : BitVec 1 :=
  BitVec.ofBool (decide (valid (qrow a + y / 64) (y % 64) (krow a + k / 64) (k % 64)))

variable (m : (ℓ : Loc nD τ sig) → Buf (Elt Ideal) ℓ)

/-- The buffers before the tables are put together. -/
abbrev W2 (c : Dev nD) : Valuation τ sig (Elt Ideal) :=
  StableHlo.after (hostOps0 (F := Ideal) ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23)))))))))))))))))))))))) (fun b => m (c, b))

/-- The buffers after the tables are put together. -/
abbrev W3 (c : Dev nD) : Valuation τ sig (Elt Ideal) := StableHlo.after hostOps0_24 (W2 m c)

theorem V_split (c : Dev nD) (b : Ref sig .tc) :
    V m c b = StableHlo.after (hostOps0_25 ++ (hostOps0_26 ++ (hostOps0_27 ++ hostOps0_28))) (W3 m c) (Proc.devRef .tc b) := by
  rw [W3, W2, ← StableHlo.after_append, ← StableHlo.after_append]
  simp only [V, List.flatten_cons, List.flatten_nil, List.append_assoc, List.append_nil]

theorem idx0 (c : Dev nD) (y : Fin 256) (k : Fin 768) :
    W2 m c (Proc.devRef .tc main_v62) (ix2 y k) = BitVec.ofNat 32 (flat 0 y k) := by
  unfold W2
  simp only [List.cons_append, List.nil_append, List.append_nil]
  after_reads_simp
  simp only [StableHlo.TRef.toBuf, StableHlo.TRef.ofBuf, cast_eq]
  pointwise
  exact (congrArg₂ (fun u v => IntOp.addi (IntOp.muli u 31#32) v) (rowOff0 ⟨y / 64, by omega⟩ ⟨k / 64, by omega⟩)
    (colOff ⟨y % 64, by omega⟩ ⟨k % 64, by omega⟩)).trans (flat_word _ _)

theorem bit0 (c : Dev nD) (y : Fin 256) (k : Fin 768) :
    W2 m c (Proc.devRef .tc main_v63) (ix2 y k) = vbit 0 y k := by
  unfold W2
  simp only [List.cons_append, List.nil_append, List.append_nil]
  after_reads_simp
  simp only [StableHlo.TRef.toBuf, StableHlo.TRef.ofBuf, cast_eq]
  pointwise
  exact (congrArg₂ IntOp.andi (congrArg₂ IntOp.andi (rowIn0 ⟨y / 64, by omega⟩ ⟨k / 64, by omega⟩)
    (colGe ⟨y % 64, by omega⟩ ⟨k % 64, by omega⟩)) (colLt ⟨y % 64, by omega⟩ ⟨k % 64, by omega⟩)).trans (and_bits _ _ _)

theorem idx1 (c : Dev nD) (y : Fin 256) (k : Fin 768) :
    W2 m c (Proc.devRef .tc main_v125) (ix2 y k) = BitVec.ofNat 32 (flat 1 y k) := by
  unfold W2
  simp only [List.cons_append, List.nil_append, List.append_nil]
  after_reads_simp
  simp only [StableHlo.TRef.toBuf, StableHlo.TRef.ofBuf, cast_eq]
  pointwise
  exact (congrArg₂ (fun u v => IntOp.addi (IntOp.muli u 31#32) v) (rowOff1 ⟨y / 64, by omega⟩ ⟨k / 64, by omega⟩)
    (colOff ⟨y % 64, by omega⟩ ⟨k % 64, by omega⟩)).trans (flat_word _ _)

theorem bit1 (c : Dev nD) (y : Fin 256) (k : Fin 768) :
    W2 m c (Proc.devRef .tc main_v126) (ix2 y k) = vbit 1 y k := by
  unfold W2
  simp only [List.cons_append, List.nil_append, List.append_nil]
  after_reads_simp
  simp only [StableHlo.TRef.toBuf, StableHlo.TRef.ofBuf, cast_eq]
  pointwise
  exact (congrArg₂ IntOp.andi (congrArg₂ IntOp.andi (rowIn1 ⟨y / 64, by omega⟩ ⟨k / 64, by omega⟩)
    (colGe ⟨y % 64, by omega⟩ ⟨k % 64, by omega⟩)) (colLt ⟨y % 64, by omega⟩ ⟨k % 64, by omega⟩)).trans (and_bits _ _ _)

theorem off2r (c : Dev nD) (i : Fin 4) (j : Fin 12) :
    W2 m c (Proc.devRef .tc main_v174) (ix4 i 0 j 0) = BitVec.ofNat 32 (min (52 + j.val + 7 - (60 + i.val)) 14) := by
  unfold W2
  simp only [List.cons_append, List.nil_append, List.append_nil]
  after_reads_simp
  simp only [StableHlo.TRef.toBuf, StableHlo.TRef.ofBuf, cast_eq]
  pointwise
  exact rowOff2 i j

theorem off2c (c : Dev nD) (i j : Fin 64) :
    W2 m c (Proc.devRef .tc main_v182) (ix4 0 i 0 j) = BitVec.ofNat 32 (min (j.val + 15 - i.val) 30) := by
  unfold W2
  simp only [List.cons_append, List.nil_append, List.append_nil]
  after_reads_simp
  simp only [StableHlo.TRef.toBuf, StableHlo.TRef.ofBuf, cast_eq]
  pointwise
  exact colOff i j

theorem bit2 (c : Dev nD) (i : Fin 4) (x : Fin 64) (j : Fin 12) (z : Fin 64) :
    W2 m c (Proc.devRef .tc main_v166) (ix4 i x j z) = BitVec.ofBool (decide (valid (60 + i) x (52 + j) z)) := by
  unfold W2
  simp only [List.cons_append, List.nil_append, List.append_nil]
  after_reads_simp
  simp only [StableHlo.TRef.toBuf, StableHlo.TRef.ofBuf, cast_eq]
  pointwise
  exact (congrArg₂ IntOp.andi (congrArg₂ IntOp.andi (rowIn2 i j) (colGe x z)) (colLt x z)).trans (and_bits _ _ _)

end Cert.Na
-- ==== Proof.Na.Table.lean ====
module

public import proofs.«01_k».proof.Proof.Na.Offsets
public import proofs.«01_k».proof.Proof.Gen.NaKernelIdeal.Value
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

/-! The table of biases that the host prepares, entry by entry. -/

namespace Cert.Na

open Cert.NaKernelIdeal Cert.NaKernelIdeal.Gen

variable (m : (ℓ : Loc nD τ sig) → Buf (Elt Ideal) ℓ)

theorem flat_two (y k : ℕ) :
    flat 2 y k = min (52 + k / 64 + 7 - (60 + y / 64)) 14 * 31 + min (k % 64 + 15 - y % 64) 30 := rfl

theorem vbit_two (y k : ℕ) :
    vbit 2 y k = BitVec.ofBool (decide (valid (60 + y / 64) (y % 64) (52 + k / 64) (k % 64))) := rfl

/-- The stacked flat indices. -/
theorem W3_idx (c : Dev nD) (a : Fin 3) (y : Fin 256) (k : Fin 768) :
    W3 m c (Proc.devRef .tc main_v193) (ix3 a y k) = BitVec.ofNat 32 (flat a y k) := by
  have h0 := idx0 m c y k
  have h1 := idx1 m c y k
  have h2 := off2r m c ⟨y / 64, by omega⟩ ⟨k / 64, by omega⟩
  have h3 := off2c m c ⟨y % 64, by omega⟩ ⟨k % 64, by omega⟩
  revert h0 h1 h2 h3
  unfold W3
  generalize W2 m c = W
  intro h0 h1 h2 h3
  after_reads_simp
  pointwise
  after_reads_simp
  pointwise
  split_ifs with ha ha'
  · exact h0.trans (congrArg (fun v => BitVec.ofNat 32 (flat v y k)) (show 0 = a.val by omega))
  · exact h1.trans (congrArg (fun v => BitVec.ofNat 32 (flat v y k)) (show 1 = a.val by omega))
  · have ha2 : a.val = 2 := by omega
    refine (congrArg₂ (fun u v => IntOp.addi (IntOp.muli u 31#32) v) h2 h3).trans ?_
    dsimp only
    rw [flat_word, ha2, flat_two]
  · exact absurd rfl ‹_›

/-- The stacked tests. -/
theorem W3_bit (c : Dev nD) (a : Fin 3) (y : Fin 256) (k : Fin 768) :
    W3 m c (Proc.devRef .tc main_v197) (ix3 a y k) = vbit a y k := by
  have h0 := bit0 m c y k
  have h1 := bit1 m c y k
  have h2 := bit2 m c ⟨y / 64, by omega⟩ ⟨y % 64, by omega⟩ ⟨k / 64, by omega⟩ ⟨k % 64, by omega⟩
  revert h0 h1 h2
  unfold W3
  generalize W2 m c = W
  intro h0 h1 h2
  after_reads_simp
  pointwise
  after_reads_simp
  pointwise
  split_ifs with ha ha'
  · exact h0.trans (congrArg (fun v => vbit v y k) (show 0 = a.val by omega))
  · exact h1.trans (congrArg (fun v => vbit v y k) (show 1 = a.val by omega))
  · have ha2 : a.val = 2 := by omega
    refine h2.trans ?_
    dsimp only
    rw [ha2, vbit_two]
  · exact absurd rfl ‹_›

/-- The flat table of relative biases. -/
theorem W3_tab (c : Dev nD) (h : Fin 8) (n : Fin 465) :
    W3 m c (Proc.devRef .tc main_v198) (ix2 h n)
      = rb (m ((c : Thread nD τ).loc main_arg1)) h (n / 31) (n % 31) := by
  unfold W3 W2
  simp only [List.cons_append, List.nil_append, List.append_nil]
  after_reads_simp
  pointwise
  exact rb_eq (m ((c : Thread nD τ).loc main_arg1)) _ _ _ _ _ _ _ _ _ rfl rfl rfl

theorem gather_printed (x : FVec Ideal S8x465 .f32) (idx : IVec S3x256x768x1 32)
    (h : Fin 8) (a : Fin 3) (y : Fin 256) (k : Fin 768) (n : ℕ) (hn : n < 465)
    (he : idx (ix4 a y k 0) = BitVec.ofNat 32 n) :
    Host.gather gather_S8x465_S3x256x768x1_S8x3x256x768_0_1_n_n_1_3_81 x idx (ix4 h a y k) = x (ix2 h ⟨n, hn⟩) :=
  gather_cols _ x idx h a y k n hn he

/-- The table of biases. -/
theorem table_apply (c : Dev nD) (a : Fin 3) (g : Fin 2) (r : Fin 1024) (k : Fin 768) :
    V m c main_v204 (ix4 a g r k)
      = bias (m ((c : Thread nD τ).loc main_arg1)) (4 * g + r / 256) (qrow a + r % 256 / 64) (r % 256 % 64) (krow a + k / 64) (k % 64) := by
  have hi := W3_idx m c a ⟨r % 256, by omega⟩ k
  have hb := W3_bit m c a ⟨r % 256, by omega⟩ k
  have ht := W3_tab m c ⟨g * 4 + r / 256, by omega⟩ ⟨flat a (r % 256) k, flat_lt _ _ _⟩
  have f0 : flat a (r % 256) k = min (krow a + k.val / 64 + 7 - (qrow a + r.val % 256 / 64)) 14 * 31 + min (k.val % 64 + 15 - r.val % 256 % 64) 30 := rfl
  have f1 : flat a (r % 256) k / 31 = min (krow a + k.val / 64 + 7 - (qrow a + r.val % 256 / 64)) 14 := by omega
  have f2 : flat a (r % 256) k % 31 = min (k.val % 64 + 15 - r.val % 256 % 64) 30 := by omega
  have e1 := take_idx ⟨flat a (r % 256) k, flat_lt _ _ _⟩
  have e2 := take_in ⟨flat a (r % 256) k, flat_lt _ _ _⟩
  dsimp only at hi hb ht e1 e2
  rw [V_split]
  revert hi hb ht
  generalize W3 m c = W
  intro hi hb ht
  simp only [List.cons_append, List.nil_append, List.append_nil]
  after_reads_simp
  simp only [StableHlo.TRef.toBuf, StableHlo.TRef.ofBuf, cast_eq]
  pointwise
  simp only [hi, hb, e1, e2, fold_ones, Band.select_decide]
  rw [gather_printed _ _ _ _ _ _ (flat a (r % 256) k) (flat_lt _ _ _)]
  · rw [ht, bias]
    rw [f1, f2, mul_comm]
    exact if_congr Iff.rfl rfl cstBot
  · pointwise
    rw [hi]
    exact e1

end Cert.Na
-- ==== Proof.Na.Array.lean ====
module

public import proofs.«01_k».proof.Proof.Na.Body
public import proofs.«01_k».proof.Proof.Na.Table

@[expose] public section

set_option maxRecDepth 16384

noncomputable section

open Idealize.ShloMosaic Idealize.ShloMosaic.TcCoe Idealize.SL.Sem
open Idealize.ShloMosaic.Pipeline (Dat)

/-! The neighbourhood attention's output array after the run. -/

namespace Cert.Na

open Cert.NaKernelIdeal Cert.NaKernelIdeal.Gen
open Cert.Dil (rd rd_eq)

variable (m : (ℓ : Loc nD τ sig) → Buf (Elt Ideal) ℓ)

theorem idx : ∀ t : Fin cfg0.N,
    win0_0.index t = ![t.val / 32, t.val % 16, t.val / 16 % 2]
    ∧ win0_1.index t = ![t.val / 32, 0, t.val / 16 % 2 + 2]
    ∧ win0_2.index t = ![t.val / 32, 0, t.val / 16 % 2 + 4]
    ∧ win0_3.index t = ![variant (t.val % 16), t.val / 16 % 2, 0, 0]
    ∧ win0_4.index t = ![t.val / 32, t.val % 16, t.val / 16 % 2] :=
  (by decide +kernel : ∀ t : Fin grid0.N, _)

theorem off1_eq : ∀ i : grid0.Coords, k0_off1 i = ![0, 64 * min (4 * (i 2).val - 4) 52, 0] := by
  have h : ∀ n : Fin 16, (Scalar.muli (Scalar.minsi 52#32 (Scalar.maxsi 0#32 (Scalar.subi (Scalar.muli (BitVec.ofNat 32 n.val) 4#32) 4#32))) 64#32 : BitVec 32).toNat
      = 64 * min (4 * n.val - 4) 52 := by
    decide +kernel
  intro i
  funext a
  fin_cases a
  · rfl
  · exact h (i 2)
  · rfl

theorem coords : ∀ t : Fin cfg0.N, (grid0.coords t 2).val = t.val % 16 :=
  (by decide +kernel : ∀ t : Fin grid0.N, _)

/-- The projected array. -/
abbrev X (c : Dev nD) : FVec Ideal S8x4096x3840 .bf16 := m ((c : Thread nD τ).loc main_arg0)

/-- The relative biases. -/
abbrev R (c : Dev nD) : FVec Ideal S1x8x15x31 .f32 := m ((c : Thread nD τ).loc main_arg1)

theorem X_apply (c : Dev nD) (b : Fin 8) (i : Fin 4096) (l : Fin 3840) (t' l' : ℕ) (h : i.val = t') (h' : l.val = l') :
    V m c main_arg0 (ix3 b i l) = rd (X m c) b t' l' := by
  rw [V_main_arg0 m c]
  exact rd_eq _ _ _ _ _ _ _ _ h h'

theorem q_read (c : Dev nD) (t : Fin cfg0.N) (b : Fin 8) (hb : b.val = t.val / 32) (y : Fin 256) (e : Fin 256) :
    k0_pay4 (iblk m c 0 t) (ix2 y e) = rd (X m c) b (256 * (t.val % 16) + y) (256 * (t.val / 16 % 2) + e) := by
  pointwise [k0_pay4]
  have h : (win0_0.blk t).view.emb (ix3 0 y e)
      = ix3 b (⟨256 * (t.val % 16) + y, by omega⟩ : Fin 4096) (⟨256 * (t.val / 16 % 2) + e, by omega⟩ : Fin 3840) := by
    blk_ext [iblk, idx t]
  exact (congrArg (V m c main_arg0) h).trans (X_apply m c _ _ _ _ _ rfl rfl)

theorem k_read (c : Dev nD) (t : Fin cfg0.N) (b : Fin 8) (hb : b.val = t.val / 32) (k : Fin 768) (e : Fin 256) :
    k0_pay2 (View.ld (iblk m c 1 t) (Rect.unit (s := S1x4096x256) (k0_off1 (grid0.coords t)) ![1, 768, 256] (k0_off1_inb (grid0.coords t)))) (ix2 k e)
      = rd (X m c) b (64 * win (t.val % 16) + k) (512 + 256 * (t.val / 16 % 2) + e) := by
  pointwise [k0_pay2]
  have hw : win (t.val % 16) = min (4 * (t.val % 16) - 4) 52 := rfl
  simp only [off1_eq, coords]
  have h : (win0_1.blk t).view.emb (ix3 ⟨0, by omega⟩ ⟨64 * min (4 * (t.val % 16) - 4) 52 + k, by omega⟩ ⟨0 + e, by omega⟩)
      = ix3 b (⟨64 * win (t.val % 16) + k, by omega⟩ : Fin 4096) (⟨512 + 256 * (t.val / 16 % 2) + e, by omega⟩ : Fin 3840) := by
    blk_ext [iblk, idx t]
  exact (congrArg (V m c main_arg0) h).trans (X_apply m c _ _ _ _ _ rfl rfl)

theorem v_read (c : Dev nD) (t : Fin cfg0.N) (b : Fin 8) (hb : b.val = t.val / 32) (k : Fin 768) (e : Fin 256) :
    k0_pay3 (View.ld (iblk m c 2 t) (Rect.unit (s := S1x4096x256) (k0_off1 (grid0.coords t)) ![1, 768, 256] (k0_off1_inb (grid0.coords t)))) (ix2 k e)
      = rd (X m c) b (64 * win (t.val % 16) + k) (1024 + 256 * (t.val / 16 % 2) + e) := by
  pointwise [k0_pay3]
  have hw : win (t.val % 16) = min (4 * (t.val % 16) - 4) 52 := rfl
  simp only [off1_eq, coords]
  have h : (win0_2.blk t).view.emb (ix3 ⟨0, by omega⟩ ⟨64 * min (4 * (t.val % 16) - 4) 52 + k, by omega⟩ ⟨0 + e, by omega⟩)
      = ix3 b (⟨64 * win (t.val % 16) + k, by omega⟩ : Fin 4096) (⟨1024 + 256 * (t.val / 16 % 2) + e, by omega⟩ : Fin 3840) := by
    blk_ext [iblk, idx t]
  exact (congrArg (V m c main_arg0) h).trans (X_apply m c _ _ _ _ _ rfl rfl)

/-- The table of biases as an array. -/
def tab (c : Dev nD) : S3x2x1024x768.Idx → EReal := fun i =>
  bias (R m c) (4 * (i 1).val + (i 2).val / 256) (qrow (i 0).val + (i 2).val % 256 / 64) ((i 2).val % 256 % 64)
    (krow (i 0).val + (i 3).val / 64) ((i 3).val % 64)

theorem table_eq (c : Dev nD) : V m c main_v204 = tab m c := by
  funext i
  obtain ⟨a, g, r, k, rfl⟩ : ∃ (a : Fin 3) (g : Fin 2) (r : Fin 1024) (k : Fin 768), i = ix4 a g r k :=
    ⟨i 0, i 1, i 2, i 3, by funext a; fin_cases a <;> rfl⟩
  rw [table_apply]
  rfl

/-- A block of the table, read through the window. -/
theorem block_read (c : Dev nD) (t : Fin cfg0.N) (T : S3x2x1024x768.Idx → EReal) (hT : V m c main_v204 = T)
    (i : S1x1x1024x768.Idx) : iblk m c 3 t i = T ((win0_3.blk t).view.emb i) := by
  have hT' : V m c (Pipeline.arrRef spec0 3) = T := hT
  unfold iblk
  rw [hT']
  rfl

theorem bias_read (c : Dev nD) (t : Fin cfg0.N) (h : Fin 4) (y : Fin 256) (r : Fin 1024) (k : Fin 768) (hr : r.val = 256 * h + y) :
    iblk m c 3 t (ix4 0 0 r k)
      = bias (R m c) (4 * (t.val / 16 % 2) + h) (qrow (variant (t.val % 16)) + y / 64) (y % 64)
          (krow (variant (t.val % 16)) + k / 64) (k % 64) := by
  have hv : variant (t.val % 16) < 3 := by unfold variant; split_ifs <;> omega
  have e : (win0_3.blk t).view.emb (ix4 0 0 r k)
      = ix4 (⟨variant (t.val % 16), hv⟩ : Fin 3) (⟨t.val / 16 % 2, by omega⟩ : Fin 2) r k := by
    blk_ext [iblk, idx t]
  rw [block_read m c t _ (table_eq m c), e]
  have e1 : r.val / 256 = h := by omega
  have e2 : r.val % 256 = y := by omega
  show bias (R m c) (4 * (t.val / 16 % 2) + r.val / 256) (qrow (variant (t.val % 16)) + r.val % 256 / 64) (r.val % 256 % 64)
    (krow (variant (t.val % 16)) + k / 64) (k % 64) = _
  rw [e1, e2]

/-- The attention output, entry by entry. -/
def oArr (c : Dev nD) : S8x4096x512.Idx → EReal := fun i =>
  oAt (X m c) (R m c) (i 0) (i 1).val (i 2).val

theorem blk_lt (y : S1x256x256.Idx) : (y 0).val < 1 ∧ (y 1).val < 256 ∧ (y 2).val < 256 :=
  ⟨(y 0).isLt, (y 1).isLt, (y 2).isLt⟩

theorem oArr_at (c : Dev nD) (t : Fin cfg0.N) (y : S1x256x256.Idx) (i : S8x4096x512.Idx)
    (h0 : (i 0).val = t.val / 32) (h1 : (i 1).val = 256 * (t.val % 16) + (y 1).val)
    (h2 : (i 2).val = 256 * (t.val / 16 % 2) + (y 2).val) :
    k0_pay1 (outRows (k0_pay2 (View.ld (iblk m c 1 t) (Rect.unit (s := S1x4096x256) (k0_off1 (grid0.coords t)) ![1, 768, 256] (k0_off1_inb (grid0.coords t)))))
        (k0_pay3 (View.ld (iblk m c 2 t) (Rect.unit (s := S1x4096x256) (k0_off1 (grid0.coords t)) ![1, 768, 256] (k0_off1_inb (grid0.coords t)))))
        (iblk m c 3 t) (k0_pay4 (iblk m c 0 t)))
      (iota .tc S256x256 32 [1] iota_S256x256_d1_w32) 64#32 k0_pay9 k0_pay10 0#32 y = oArr m c i := by
  obtain ⟨y0, y1, y2⟩ := blk_lt y
  have hy : y = ix3 0 (⟨(y 1).val, y1⟩ : Fin 256) (⟨(y 2).val, y2⟩ : Fin 256) := by blk_ext
  rw [hy]
  refine (point (t.val / 16 % 2) (t.val % 16) (by omega) (X m c) (R m c) (i 0) _ _ _ _
    (fun y e => q_read m c t (i 0) h0 y e) (fun k e => k_read m c t (i 0) h0 k e) (fun k e => v_read m c t (i 0) h0 k e)
    (fun h y r k hr => bias_read m c t h y r k hr) _ _).trans ?_
  unfold oArr
  rw [h1, h2]

theorem final4 (c : Dev nD) : (dats m 0 c).arrAt 4 cfg0.N = oArr m c := by
  refine (dats m 0 c).arrAt_eq_of_covers 4 _ (by decide +kernel) fun t _ y => ?_
  blk_simp
  rw [after0_4]
  unfold outsAt0
  dsimp only
  frame_out
  refine oArr_at m c t y _ ?_ ?_ ?_
  all_goals blk_simp [idx t]
  all_goals omega

end Cert.Na
-- ==== Proof.Na.RefDefs.lean ====
module

public import proofs.«01_k».proof.Proof.Gen.NaReferenceIdeal.Run
public import proofs.«01_k».proof.Proof.Na.Spec
public import proofs.«01_k».proof.Proof.Na.Gather
public import proofs.«01_k».proof.Proof.Band

@[expose] public section

set_option maxRecDepth 16384

noncomputable section

open Idealize.ShloMosaic

/-! What the neighbourhood attention's reference computes, entry by entry. -/

namespace Cert.Na.Ref

open Cert.NaReferenceIdeal Cert.NaReferenceIdeal.Gen Cert.NaReferenceIdeal.Facts
open Cert.Dil (rd rd_eq)

variable (X : FVec Ideal S8x4096x3840 .bf16) (R : FVec Ideal S1x8x15x31 .f32) (S E : FVec Ideal S8x8x4096x4096 .f32)

/-- Which keys lie in the neighbourhood of which queries. -/
def maskR : IVec S4096x4096 1 :=
  andi (andi (andi (cmpi .sge (broadcastInDim S4096x4096 ![0, 1] bcast_S1x4096_S4096x4096_0_1 (broadcastInDim S1x4096 ![1] bcast_S4096_S1x4096_1 (shapeCast _ (iotaInDim S64x64 32 0) shapeCasts_S64x64_S4096))) (broadcastInDim S4096x4096 ![0, 1] bcast_S4096x1_S4096x4096_0_1 (minsi (broadcastInDim S4096x1 ![] bcast_S_S4096x1 (id (constantI S_ 32 56#32))) (maxsi (broadcastInDim S4096x1 ![] bcast_S_S4096x1 (id (constantI S_ 32 0#32))) (subi (broadcastInDim S4096x1 ![0] bcast_S4096_S4096x1_0 (shapeCast _ (iotaInDim S64x64 32 0) shapeCasts_S64x64_S4096)) (broadcastInDim S4096x1 ![] bcast_S_S4096x1 (constantI S_ 32 4#32))))))) (cmpi .slt (broadcastInDim S4096x4096 ![0, 1] bcast_S1x4096_S4096x4096_0_1 (broadcastInDim S1x4096 ![1] bcast_S4096_S1x4096_1 (shapeCast _ (iotaInDim S64x64 32 0) shapeCasts_S64x64_S4096))) (broadcastInDim S4096x4096 ![0, 1] bcast_S4096x1_S4096x4096_0_1 (addi (minsi (broadcastInDim S4096x1 ![] bcast_S_S4096x1 (id (constantI S_ 32 56#32))) (maxsi (broadcastInDim S4096x1 ![] bcast_S_S4096x1 (id (constantI S_ 32 0#32))) (subi (broadcastInDim S4096x1 ![0] bcast_S4096_S4096x1_0 (shapeCast _ (iotaInDim S64x64 32 0) shapeCasts_S64x64_S4096)) (broadcastInDim S4096x1 ![] bcast_S_S4096x1 (constantI S_ 32 4#32))))) (broadcastInDim S4096x1 ![] bcast_S_S4096x1 (constantI S_ 32 8#32)))))) (cmpi .sge (broadcastInDim S4096x4096 ![0, 1] bcast_S1x4096_S4096x4096_0_1 (broadcastInDim S1x4096 ![1] bcast_S4096_S1x4096_1 (shapeCast _ (iotaInDim S64x64 32 1) shapeCasts_S64x64_S4096))) (broadcastInDim S4096x4096 ![0, 1] bcast_S4096x1_S4096x4096_0_1 (minsi (broadcastInDim S4096x1 ![] bcast_S_S4096x1 (id (constantI S_ 32 48#32))) (maxsi (broadcastInDim S4096x1 ![] bcast_S_S4096x1 (id (constantI S_ 32 0#32))) (subi (broadcastInDim S4096x1 ![0] bcast_S4096_S4096x1_0 (shapeCast _ (iotaInDim S64x64 32 1) shapeCasts_S64x64_S4096)) (broadcastInDim S4096x1 ![] bcast_S_S4096x1 (constantI S_ 32 8#32)))))))) (cmpi .slt (broadcastInDim S4096x4096 ![0, 1] bcast_S1x4096_S4096x4096_0_1 (broadcastInDim S1x4096 ![1] bcast_S4096_S1x4096_1 (shapeCast _ (iotaInDim S64x64 32 1) shapeCasts_S64x64_S4096))) (broadcastInDim S4096x4096 ![0, 1] bcast_S4096x1_S4096x4096_0_1 (addi (minsi (broadcastInDim S4096x1 ![] bcast_S_S4096x1 (id (constantI S_ 32 48#32))) (maxsi (broadcastInDim S4096x1 ![] bcast_S_S4096x1 (id (constantI S_ 32 0#32))) (subi (broadcastInDim S4096x1 ![0] bcast_S4096_S4096x1_0 (shapeCast _ (iotaInDim S64x64 32 1) shapeCasts_S64x64_S4096)) (broadcastInDim S4096x1 ![] bcast_S_S4096x1 (constantI S_ 32 8#32))))) (broadcastInDim S4096x1 ![] bcast_S_S4096x1 (constantI S_ 32 16#32)))))

/-- The row offsets into the table. -/
def rowsR : IVec S4096x4096 32 :=
  select (cmpi .slt (addi (minsi (broadcastInDim S4096x4096 ![] bcast_S_S4096x4096 (id (constantI S_ 32 7#32))) (maxsi (broadcastInDim S4096x4096 ![] bcast_S_S4096x4096 (id (constantI S_ 32 4294967289#32))) (subi (broadcastInDim S4096x4096 ![0, 1] bcast_S1x4096_S4096x4096_0_1 (broadcastInDim S1x4096 ![1] bcast_S4096_S1x4096_1 (shapeCast _ (iotaInDim S64x64 32 0) shapeCasts_S64x64_S4096))) (broadcastInDim S4096x4096 ![0, 1] bcast_S4096x1_S4096x4096_0_1 (broadcastInDim S4096x1 ![0] bcast_S4096_S4096x1_0 (shapeCast _ (iotaInDim S64x64 32 0) shapeCasts_S64x64_S4096)))))) (broadcastInDim S4096x4096 ![] bcast_S_S4096x4096 (constantI S_ 32 7#32))) (broadcastInDim S4096x4096 ![] bcast_S_S4096x4096 (constantI S_ 32 0#32))) (addi (addi (minsi (broadcastInDim S4096x4096 ![] bcast_S_S4096x4096 (id (constantI S_ 32 7#32))) (maxsi (broadcastInDim S4096x4096 ![] bcast_S_S4096x4096 (id (constantI S_ 32 4294967289#32))) (subi (broadcastInDim S4096x4096 ![0, 1] bcast_S1x4096_S4096x4096_0_1 (broadcastInDim S1x4096 ![1] bcast_S4096_S1x4096_1 (shapeCast _ (iotaInDim S64x64 32 0) shapeCasts_S64x64_S4096))) (broadcastInDim S4096x4096 ![0, 1] bcast_S4096x1_S4096x4096_0_1 (broadcastInDim S4096x1 ![0] bcast_S4096_S4096x1_0 (shapeCast _ (iotaInDim S64x64 32 0) shapeCasts_S64x64_S4096)))))) (broadcastInDim S4096x4096 ![] bcast_S_S4096x4096 (constantI S_ 32 7#32))) (broadcastInDim S4096x4096 ![] bcast_S_S4096x4096 (constantI S_ 32 15#32))) (addi (minsi (broadcastInDim S4096x4096 ![] bcast_S_S4096x4096 (id (constantI S_ 32 7#32))) (maxsi (broadcastInDim S4096x4096 ![] bcast_S_S4096x4096 (id (constantI S_ 32 4294967289#32))) (subi (broadcastInDim S4096x4096 ![0, 1] bcast_S1x4096_S4096x4096_0_1 (broadcastInDim S1x4096 ![1] bcast_S4096_S1x4096_1 (shapeCast _ (iotaInDim S64x64 32 0) shapeCasts_S64x64_S4096))) (broadcastInDim S4096x4096 ![0, 1] bcast_S4096x1_S4096x4096_0_1 (broadcastInDim S4096x1 ![0] bcast_S4096_S4096x1_0 (shapeCast _ (iotaInDim S64x64 32 0) shapeCasts_S64x64_S4096)))))) (broadcastInDim S4096x4096 ![] bcast_S_S4096x4096 (constantI S_ 32 7#32)))

/-- The column offsets into the table. -/
def colsR : IVec S4096x4096 32 :=
  select (cmpi .slt (addi (minsi (broadcastInDim S4096x4096 ![] bcast_S_S4096x4096 (id (constantI S_ 32 15#32))) (maxsi (broadcastInDim S4096x4096 ![] bcast_S_S4096x4096 (id (constantI S_ 32 4294967281#32))) (subi (broadcastInDim S4096x4096 ![0, 1] bcast_S1x4096_S4096x4096_0_1 (broadcastInDim S1x4096 ![1] bcast_S4096_S1x4096_1 (shapeCast _ (iotaInDim S64x64 32 1) shapeCasts_S64x64_S4096))) (broadcastInDim S4096x4096 ![0, 1] bcast_S4096x1_S4096x4096_0_1 (broadcastInDim S4096x1 ![0] bcast_S4096_S4096x1_0 (shapeCast _ (iotaInDim S64x64 32 1) shapeCasts_S64x64_S4096)))))) (broadcastInDim S4096x4096 ![] bcast_S_S4096x4096 (constantI S_ 32 15#32))) (broadcastInDim S4096x4096 ![] bcast_S_S4096x4096 (constantI S_ 32 0#32))) (addi (addi (minsi (broadcastInDim S4096x4096 ![] bcast_S_S4096x4096 (id (constantI S_ 32 15#32))) (maxsi (broadcastInDim S4096x4096 ![] bcast_S_S4096x4096 (id (constantI S_ 32 4294967281#32))) (subi (broadcastInDim S4096x4096 ![0, 1] bcast_S1x4096_S4096x4096_0_1 (broadcastInDim S1x4096 ![1] bcast_S4096_S1x4096_1 (shapeCast _ (iotaInDim S64x64 32 1) shapeCasts_S64x64_S4096))) (broadcastInDim S4096x4096 ![0, 1] bcast_S4096x1_S4096x4096_0_1 (broadcastInDim S4096x1 ![0] bcast_S4096_S4096x1_0 (shapeCast _ (iotaInDim S64x64 32 1) shapeCasts_S64x64_S4096)))))) (broadcastInDim S4096x4096 ![] bcast_S_S4096x4096 (constantI S_ 32 15#32))) (broadcastInDim S4096x4096 ![] bcast_S_S4096x4096 (constantI S_ 32 31#32))) (addi (minsi (broadcastInDim S4096x4096 ![] bcast_S_S4096x4096 (id (constantI S_ 32 15#32))) (maxsi (broadcastInDim S4096x4096 ![] bcast_S_S4096x4096 (id (constantI S_ 32 4294967281#32))) (subi (broadcastInDim S4096x4096 ![0, 1] bcast_S1x4096_S4096x4096_0_1 (broadcastInDim S1x4096 ![1] bcast_S4096_S1x4096_1 (shapeCast _ (iotaInDim S64x64 32 1) shapeCasts_S64x64_S4096))) (broadcastInDim S4096x4096 ![0, 1] bcast_S4096x1_S4096x4096_0_1 (broadcastInDim S4096x1 ![0] bcast_S4096_S4096x1_0 (shapeCast _ (iotaInDim S64x64 32 1) shapeCasts_S64x64_S4096)))))) (broadcastInDim S4096x4096 ![] bcast_S_S4096x4096 (constantI S_ 32 15#32)))

/-- The pairs of offsets. -/
def pairsR : IVec S4096x4096x2 32 :=
  concatenate S4096x4096x2 2 [⟨S4096x4096x1, (broadcastInDim S4096x4096x1 ![0, 1] bcast_S4096x4096_S4096x4096x1_0_1 rowsR)⟩, ⟨S4096x4096x1, (broadcastInDim S4096x4096x1 ![0, 1] bcast_S4096x4096_S4096x4096x1_0_1 colsR)⟩] concatenates_S4096x4096x1_S4096x4096x1_S4096x4096x2_d2

/-- The masked scores. -/
def scoresR (M : IVec S4096x4096 1) (P : IVec S4096x4096x2 32) : FVec Ideal S8x8x4096x4096 .f32 :=
  select (broadcastInDim S8x8x4096x4096 ![2, 3] bcast_S4096x4096_S8x8x4096x4096_2_3 M) (addf (Host.dotGeneral dot_S8x4096x8x64_S8x4096x8x64_S8x8x4096x4096_3_3_1_1_02_02 none (shapeCast _ (extf .f32 (extractStridedSlice S8x4096x512 ![0, 0, 0] X slices_S8x4096x3840_S8x4096x512_0_0_0) bitsLt_bf16_f32) shapeCasts_S8x4096x512_S8x4096x8x64) (shapeCast _ (extf .f32 (extractStridedSlice S8x4096x512 ![0, 0, 512] X slices_S8x4096x3840_S8x4096x512_0_0_512) bitsLt_bf16_f32) shapeCasts_S8x4096x512_S8x4096x8x64)) (broadcastInDim S8x8x4096x4096 ![0, 1, 2, 3] bcast_S1x8x4096x4096_S8x8x4096x4096_0_1_2_3 (broadcastInDim S1x8x4096x4096 ![1, 2, 3] bcast_S8x4096x4096_S1x8x4096x4096_1_2_3 (Host.gather gather_S8x15x31_S4096x4096x2_S8x4096x4096_0_12_n_n_12_2_811 (shapeCast _ R shapeCasts_S1x8x15x31_S8x15x31) P)))) (broadcastInDim S8x8x4096x4096 ![] bcast_S_S8x8x4096x4096 (id (constant S_ .f32 0xFF800000#32)))

/-- The exponentials. -/
def expR : FVec Ideal S8x8x4096x4096 .f32 :=
  Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) (Host.reduce FloatOps.maximumf S (constant S_ .f32 0xFF800000#32) reducesTo_S8x8x4096x4096_S8x8x4096_d3 h_S_)))))

/-- The outputs. -/
def outR : FVec Ideal S8x4096x512 .bf16 :=
  truncf .bf16 (shapeCast _ (transpose S8x4096x8x64 [0, 3, 1, 2] (Host.dotGeneral dot_S8x4096x8x64_S8x8x4096x4096_S8x8x64x4096_1_3_3_2_02_01 none (shapeCast _ (extf .f32 (extractStridedSlice S8x4096x512 ![0, 0, 1024] X slices_S8x4096x3840_S8x4096x512_0_0_1024) bitsLt_bf16_f32) shapeCasts_S8x4096x512_S8x4096x8x64) (Host.divf E (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd E (constant S_ .f32 0x00000000#32) reducesTo_S8x8x4096x4096_S8x8x4096_d3 h_S_))))) transposes_S8x8x64x4096_S8x4096x8x64_0_3_1_2) shapeCasts_S8x4096x8x64_S8x4096x512) bitsLt_bf16_f32

end Cert.Na.Ref
-- ==== Proof.Na.RefOffsets.lean ====
module

public import proofs.«01_k».proof.Proof.Na.RefDefs

@[expose] public section

set_option maxRecDepth 16384

noncomputable section

open Idealize.ShloMosaic

namespace Cert.Na.Ref

open Cert.NaReferenceIdeal Cert.NaReferenceIdeal.Gen Cert.NaReferenceIdeal.Facts
open Cert.Dil (rd rd_eq)

variable (X : FVec Ideal S8x4096x3840 .bf16) (R : FVec Ideal S1x8x15x31 .f32) (S E : FVec Ideal S8x8x4096x4096 .f32)

/-! The words of the tests and offsets. -/

theorem rowGe : ∀ i j : Fin 64,
    IntOp.cmpi .sge (BitVec.ofNat 32 j.val) (IntOp.minsi 56#32 (IntOp.maxsi 0#32 (IntOp.subi (BitVec.ofNat 32 i.val) 4#32)))
      = BitVec.ofBool (decide (min (i.val - 4) 56 ≤ j.val)) := by
  decide +kernel

theorem rowLt : ∀ i j : Fin 64,
    IntOp.cmpi .slt (BitVec.ofNat 32 j.val) (IntOp.addi (IntOp.minsi 56#32 (IntOp.maxsi 0#32 (IntOp.subi (BitVec.ofNat 32 i.val) 4#32))) 8#32)
      = BitVec.ofBool (decide (j.val < min (i.val - 4) 56 + 8)) := by
  decide +kernel

theorem colGe : ∀ i j : Fin 64,
    IntOp.cmpi .sge (BitVec.ofNat 32 j.val) (IntOp.minsi 48#32 (IntOp.maxsi 0#32 (IntOp.subi (BitVec.ofNat 32 i.val) 8#32)))
      = BitVec.ofBool (decide (min (i.val - 8) 48 ≤ j.val)) := by
  decide +kernel

theorem colLt : ∀ i j : Fin 64,
    IntOp.cmpi .slt (BitVec.ofNat 32 j.val) (IntOp.addi (IntOp.minsi 48#32 (IntOp.maxsi 0#32 (IntOp.subi (BitVec.ofNat 32 i.val) 8#32))) 16#32)
      = BitVec.ofBool (decide (j.val < min (i.val - 8) 48 + 16)) := by
  decide +kernel

theorem rowOff : ∀ i j : Fin 64,
    IntOp.addi (IntOp.minsi 7#32 (IntOp.maxsi 4294967289#32 (IntOp.subi (BitVec.ofNat 32 j.val) (BitVec.ofNat 32 i.val)))) 7#32
      = BitVec.ofNat 32 (min (j.val + 7 - i.val) 14) := by
  decide +kernel

theorem colOff : ∀ i j : Fin 64,
    IntOp.addi (IntOp.minsi 15#32 (IntOp.maxsi 4294967281#32 (IntOp.subi (BitVec.ofNat 32 j.val) (BitVec.ofNat 32 i.val)))) 15#32
      = BitVec.ofNat 32 (min (j.val + 15 - i.val) 30) := by
  decide +kernel

/-- An offset that is not negative is left as it is. -/
theorem keep : ∀ (n : Fin 31) (k : BitVec 32),
    Scalar.select (IntOp.cmpi .slt (BitVec.ofNat 32 n.val) 0#32) (IntOp.addi (BitVec.ofNat 32 n.val) k) (BitVec.ofNat 32 n.val)
      = BitVec.ofNat 32 n.val := by
  intro n k
  have h : ∀ n : Fin 31, IntOp.cmpi .slt (BitVec.ofNat 32 n.val) 0#32 = 0#1 := by decide +kernel
  rw [h]
  rfl

theorem and_bits (p q r s : Prop) [Decidable p] [Decidable q] [Decidable r] [Decidable s] :
    IntOp.andi (IntOp.andi (IntOp.andi (BitVec.ofBool (decide p)) (BitVec.ofBool (decide q))) (BitVec.ofBool (decide r))) (BitVec.ofBool (decide s))
      = BitVec.ofBool (decide ((p ∧ q) ∧ r ∧ s)) := by
  by_cases p <;> by_cases q <;> by_cases r <;> by_cases s <;> simp_all <;> rfl

theorem maskR_apply (t u : Fin 4096) :
    maskR (ix2 t u) = BitVec.ofBool (decide (valid (t / 64) (t % 64) (u / 64) (u % 64))) := by
  have h1 := rowGe ⟨t / 64, by omega⟩ ⟨u / 64, by omega⟩
  have h2 := rowLt ⟨t / 64, by omega⟩ ⟨u / 64, by omega⟩
  have h3 := colGe ⟨t % 64, by omega⟩ ⟨u % 64, by omega⟩
  have h4 := colLt ⟨t % 64, by omega⟩ ⟨u % 64, by omega⟩
  dsimp only at h1 h2 h3 h4
  pointwise [maskR]
  exact (congrArg₂ IntOp.andi (congrArg₂ IntOp.andi (congrArg₂ IntOp.andi h1 h2) h3) h4).trans (and_bits _ _ _ _)

theorem rowsR_apply (t u : Fin 4096) : rowsR (ix2 t u) = BitVec.ofNat 32 (min (u / 64 + 7 - t / 64) 14) := by
  have h := rowOff ⟨t / 64, by omega⟩ ⟨u / 64, by omega⟩
  have h' := keep ⟨min (u / 64 + 7 - t / 64) 14, by omega⟩ 15#32
  dsimp only at h h'
  pointwise [rowsR]
  exact (congrArg (fun w => Scalar.select (IntOp.cmpi .slt w 0#32) (IntOp.addi w 15#32) w) h).trans h'

theorem colsR_apply (t u : Fin 4096) : colsR (ix2 t u) = BitVec.ofNat 32 (min (u % 64 + 15 - t % 64) 30) := by
  have h := colOff ⟨t % 64, by omega⟩ ⟨u % 64, by omega⟩
  have h' := keep ⟨min (u % 64 + 15 - t % 64) 30, by omega⟩ 31#32
  dsimp only at h h'
  pointwise [colsR]
  exact (congrArg (fun w => Scalar.select (IntOp.cmpi .slt w 0#32) (IntOp.addi w 31#32) w) h).trans h'

theorem pairsR_row (t u : Fin 4096) : pairsR (ix3 t u 0) = BitVec.ofNat 32 (min (u / 64 + 7 - t / 64) 14) := by
  rw [← rowsR_apply]
  unfold pairsR
  generalize rowsR = A
  generalize colsR = B
  pointwise

theorem pairsR_col (t u : Fin 4096) : pairsR (ix3 t u 1) = BitVec.ofNat 32 (min (u % 64 + 15 - t % 64) 30) := by
  rw [← colsR_apply]
  unfold pairsR
  generalize rowsR = A
  generalize colsR = B
  pointwise

end Cert.Na.Ref
-- ==== Proof.Na.RefRun.lean ====
module

public import proofs.«01_k».proof.Proof.Na.RefDefs

@[expose] public section

set_option maxRecDepth 16384

noncomputable section

open Idealize.ShloMosaic

namespace Cert.Na.Ref

open Cert.NaReferenceIdeal Cert.NaReferenceIdeal.Gen Cert.NaReferenceIdeal.Facts
open Cert.Dil (rd rd_eq)

variable (X : FVec Ideal S8x4096x3840 .bf16) (R : FVec Ideal S1x8x15x31 .f32) (S E : FVec Ideal S8x8x4096x4096 .f32)

theorem res_eq (m : (ℓ : Loc nD τ sig) → Buf (Elt Ideal) ℓ) (c : Dev nD) :
    Value.res_main_v88 m c = outR (m ((c.tc : Thread nD τ).loc main_arg0))
      (expR (scoresR (m ((c.tc : Thread nD τ).loc main_arg0)) (m ((c.tc : Thread nD τ).loc main_arg1)) maskR pairsR)) := rfl

end Cert.Na.Ref
-- ==== Proof.Na.Ref.lean ====
module

public import proofs.«01_k».proof.Proof.Na.RefOffsets
public import proofs.«01_k».proof.Proof.Na.RefRun

@[expose] public section

set_option maxRecDepth 16384

noncomputable section

open Idealize.ShloMosaic

namespace Cert.Na.Ref

open Cert.NaReferenceIdeal Cert.NaReferenceIdeal.Gen Cert.NaReferenceIdeal.Facts
open Cert.Dil (rd rd_eq)

variable (X : FVec Ideal S8x4096x3840 .bf16) (R : FVec Ideal S1x8x15x31 .f32) (S E : FVec Ideal S8x8x4096x4096 .f32)

theorem gather_apply (x : FVec Ideal S8x15x31 .f32) (P : IVec S4096x4096x2 32) (h : Fin 8) (t u : Fin 4096) (i j : ℕ)
    (hi : i < 15) (hj : j < 31) (e : P (ix3 t u 0) = BitVec.ofNat 32 i) (e' : P (ix3 t u 1) = BitVec.ofNat 32 j) :
    Host.gather gather_S8x15x31_S4096x4096x2_S8x4096x4096_0_12_n_n_12_2_811 x P (ix3 h t u) = x (ix3 h ⟨i, hi⟩ ⟨j, hj⟩) :=
  gather_pair _ x P h t u i j hi hj e e'

theorem scoresR_apply (M : IVec S4096x4096 1) (P : IVec S4096x4096x2 32) (b h : Fin 8) (t u : Fin 4096)
    (hM : M (ix2 t u) = BitVec.ofBool (decide (valid (t / 64) (t % 64) (u / 64) (u % 64))))
    (h0 : P (ix3 t u 0) = BitVec.ofNat 32 (min (u / 64 + 7 - t / 64) 14))
    (h1 : P (ix3 t u 1) = BitVec.ofNat 32 (min (u % 64 + 15 - t % 64) 30)) :
    scoresR X R M P (ix4 b h t u) = sc X R b h t u := by
  have hc : (id (constant (F := Ideal) S_ FTy.f32 4286578688#32) : FVec Ideal S_ .f32) ix0 = ⊥ := Attn.ofBits_negInf
  pointwise [scoresR]
  rw [hM, gather_apply _ P h t u _ _ (by omega) (by omega) h0 h1, Band.select_decide, hc, sc, bias]
  split_ifs with hv
  · pointwise
    refine congrArg₂ (· + ·) (Finset.sum_congr rfl fun x _ => ?_) ?_
    · congr 1 <;> (refine rd_eq _ _ _ _ _ _ _ _ ?_ ?_ <;> omega)
    · exact rb_eq R _ _ _ _ _ _ _ (by omega) (by omega) (by omega) (by omega) (by omega)
  · rw [EReal.add_bot]

/-- The rows' maxima. -/
def maxR : FVec Ideal S8x8x4096 .f32 :=
  Host.reduce FloatOps.maximumf S (constant S_ .f32 0xFF800000#32) reducesTo_S8x8x4096x4096_S8x8x4096_d3 h_S_

theorem maxR_apply (b h : Fin 8) (t : Fin 4096) : maxR S (ix3 b h t) = Attn.mx fun j => S (ix4 b h t j) := by
  pointwise [maxR]
  rw [Attn.ofBits_negInf]
  rfl

theorem max_bot (x : EReal) : FloatOps.maximumf (F := Ideal) (φ := .f32) (⊥ : EReal) x = x := max_eq_right bot_le

theorem exp_of (M : FVec Ideal S8x8x4096 .f32) (b h : Fin 8) (t u : Fin 4096) :
    Host.exp (subf S (broadcastInDim S8x8x4096x4096 ![0, 1, 2, 3] bcast_S8x8x4096x1_S8x8x4096x4096_0_1_2_3 (broadcastInDim S8x8x4096x1 ![0, 1, 2] bcast_S8x8x4096_S8x8x4096x1_0_1_2 (maximumf (broadcastInDim S8x8x4096 ![] bcast_S_S8x8x4096 (constant S_ .f32 0xFF800000#32)) M)))) (ix4 b h t u)
      = Ideal.exp (S (ix4 b h t u) - M (ix3 b h t)) := by
  pointwise
  rw [Attn.ofBits_negInf]
  exact congrArg (fun w => Ideal.exp (S (ix4 b h t u) - w)) (max_bot _)

theorem expR_apply (b h : Fin 8) (t u : Fin 4096) :
    expR S (ix4 b h t u) = Ideal.exp (S (ix4 b h t u) - Attn.mx fun j => S (ix4 b h t j)) := by
  rw [← maxR_apply, ← exp_of]
  rfl

theorem outR_apply (b : Fin 8) (t : Fin 4096) (l : Fin 512) :
    outR X E (ix3 b t l)
      = ∑ u : Fin 4096, Ideal.div (E (ix4 b (⟨l / 64, by omega⟩ : Fin 8) t u)) (∑ j : Fin 4096, E (ix4 b (⟨l / 64, by omega⟩ : Fin 8) t j))
        * rd X b u (1024 + l) := by
  pointwise [outR]
  refine Finset.sum_congr rfl fun j _ => ?_
  rw [mul_comm]
  congr 1
  refine rd_eq _ _ _ _ _ _ _ _ ?_ ?_ <;> omega

/-- The array of attention outputs, over any mask and pairs of offsets with these entries. -/
theorem out_arr_of (M : IVec S4096x4096 1) (P : IVec S4096x4096x2 32)
    (hM : ∀ t u : Fin 4096, M (ix2 t u) = BitVec.ofBool (decide (valid (t / 64) (t % 64) (u / 64) (u % 64))))
    (h0 : ∀ t u : Fin 4096, P (ix3 t u 0) = BitVec.ofNat 32 (min (u / 64 + 7 - t / 64) 14))
    (h1 : ∀ t u : Fin 4096, P (ix3 t u 1) = BitVec.ofNat 32 (min (u % 64 + 15 - t % 64) 30))
    (hX : ∀ i, ∃ x : ℝ, X i = x) (hR : ∀ i, ∃ x : ℝ, R i = x) :
    outR X (expR (scoresR X R M P)) = fun i => oAt X R (i 0) (i 1).val (i 2).val := by
  funext i
  obtain ⟨b, t, l, rfl⟩ : ∃ (b : Fin 8) (t : Fin 4096) (l : Fin 512), i = ix3 b t l :=
    ⟨i 0, i 1, i 2, by funext a; fin_cases a <;> rfl⟩
  obtain ⟨ht, hb⟩ := sc_real X R hX hR b (l / 64) t
  have hs : ∀ (h : Fin 8) (u : Fin 4096), scoresR X R M P (ix4 b h t u) = sc X R b h t u := fun h u =>
    scoresR_apply X R M P b h t u (hM t u) (h0 t u) (h1 t u)
  generalize scoresR X R M P = S at hs
  rw [outR_apply]
  simp only [expR_apply, hs]
  exact out_eq_softmax _ _ ht hb

/-- The array of attention outputs. -/
theorem out_arr (hX : ∀ i, ∃ x : ℝ, X i = x) (hR : ∀ i, ∃ x : ℝ, R i = x) :
    outR X (expR (scoresR X R maskR pairsR)) = fun i => oAt X R (i 0) (i 1).val (i 2).val :=
  out_arr_of X R maskR pairsR maskR_apply pairsR_row pairsR_col hX hR

end Cert.Na.Ref
-- ==== Proof.lean ====
module

public import proofs.«01_k».proof.Defs
public import proofs.«01_k».proof.Proof.Gen.DilKernel4
public import proofs.«01_k».proof.Proof.Gen.DilKernel4.Skeleton
public import proofs.«01_k».proof.Proof.Gen.DilKernel4.Launch
public import proofs.«01_k».proof.Proof.Gen.DilKernel4.Points
public import proofs.«01_k».proof.Proof.Gen.DilKernel4.Frame
public import proofs.«01_k».proof.Proof.Gen.DilKernel4Ideal
public import proofs.«01_k».proof.Proof.Gen.DilKernel4Ideal.Skeleton
public import proofs.«01_k».proof.Proof.Gen.DilKernel4Ideal.Launch
public import proofs.«01_k».proof.Proof.Gen.DilKernel4Ideal.Points
public import proofs.«01_k».proof.Proof.Gen.DilKernel4Ideal.Frame
public import proofs.«01_k».proof.Proof.Gen.DilReference4Ideal
public import proofs.«01_k».proof.Proof.Gen.Pre_finite
public import proofs.«01_k».proof.Proof.Gen.DilKernel4Ideal.Value
public import proofs.«01_k».proof.Proof.Gen.DilReference4Ideal.Run
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostKernelIdeal.Value
public import proofs.«01_k».proof.Proof.Gen.PostReferenceIdeal
public import proofs.«01_k».proof.Proof.Gen.PostReferenceIdeal.Run
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvKernelIdeal.Value
public import proofs.«01_k».proof.Proof.Gen.QkvReferenceIdeal
public import proofs.«01_k».proof.Proof.Gen.QkvReferenceIdeal.Run
public import proofs.«01_k».proof.Proof.Gen.DilKernel1
public import proofs.«01_k».proof.Proof.Gen.DilKernel1.Skeleton
public import proofs.«01_k».proof.Proof.Gen.DilKernel1.Launch
public import proofs.«01_k».proof.Proof.Gen.DilKernel1.Points
public import proofs.«01_k».proof.Proof.Gen.DilKernel1.Frame
public import proofs.«01_k».proof.Proof.Gen.DilKernel1Ideal
public import proofs.«01_k».proof.Proof.Gen.DilKernel1Ideal.Skeleton
public import proofs.«01_k».proof.Proof.Gen.DilKernel1Ideal.Launch
public import proofs.«01_k».proof.Proof.Gen.DilKernel1Ideal.Points
public import proofs.«01_k».proof.Proof.Gen.DilKernel1Ideal.Frame
public import proofs.«01_k».proof.Proof.Gen.DilKernel1Ideal.Value
public import proofs.«01_k».proof.Proof.Gen.DilReference1Ideal
public import proofs.«01_k».proof.Proof.Gen.DilReference1Ideal.Run
public import proofs.«01_k».proof.Proof.Gen.DilKernel16
public import proofs.«01_k».proof.Proof.Gen.DilKernel16.Skeleton
public import proofs.«01_k».proof.Proof.Gen.DilKernel16.Launch
public import proofs.«01_k».proof.Proof.Gen.DilKernel16.Points
public import proofs.«01_k».proof.Proof.Gen.DilKernel16.Frame
public import proofs.«01_k».proof.Proof.Gen.DilKernel16Ideal
public import proofs.«01_k».proof.Proof.Gen.DilKernel16Ideal.Skeleton
public import proofs.«01_k».proof.Proof.Gen.DilKernel16Ideal.Launch
public import proofs.«01_k».proof.Proof.Gen.DilKernel16Ideal.Points
public import proofs.«01_k».proof.Proof.Gen.DilKernel16Ideal.Frame
public import proofs.«01_k».proof.Proof.Gen.DilKernel16Ideal.Value
public import proofs.«01_k».proof.Proof.Gen.DilReference16Ideal
public import proofs.«01_k».proof.Proof.Gen.DilReference16Ideal.Run
public import proofs.«01_k».proof.Proof.Gen.Pre_finite_lse
public import proofs.«01_k».proof.Proof.Gen.NaKernel
public import proofs.«01_k».proof.Proof.Gen.NaKernel.Skeleton
public import proofs.«01_k».proof.Proof.Gen.NaKernel.Launch
public import proofs.«01_k».proof.Proof.Gen.NaKernel.Points
public import proofs.«01_k».proof.Proof.Gen.NaKernel.Frame
public import proofs.«01_k».proof.Proof.Gen.NaKernelIdeal
public import proofs.«01_k».proof.Proof.Gen.NaKernelIdeal.Skeleton
public import proofs.«01_k».proof.Proof.Gen.NaKernelIdeal.Launch
public import proofs.«01_k».proof.Proof.Gen.NaKernelIdeal.Points
public import proofs.«01_k».proof.Proof.Gen.NaKernelIdeal.Frame
public import proofs.«01_k».proof.Proof.Gen.NaKernelIdeal.Value
public import proofs.«01_k».proof.Proof.Gen.NaReferenceIdeal
public import proofs.«01_k».proof.Proof.Gen.NaReferenceIdeal.Run
public import proofs.«01_k».proof.Proof.Gen.Pre_finite_na
public import proofs.«01_k».proof.Proof.Finite
public import proofs.«01_k».proof.Proof.Dil.Array
public import proofs.«01_k».proof.Proof.Dil.Ref
public import proofs.«01_k».proof.Proof.Dil.Array1
public import proofs.«01_k».proof.Proof.Dil.Ref1
public import proofs.«01_k».proof.Proof.Dil.Array16
public import proofs.«01_k».proof.Proof.Dil.Ref16
public import proofs.«01_k».proof.Proof.Post.Array
public import proofs.«01_k».proof.Proof.Post.Ref
public import proofs.«01_k».proof.Proof.Qkv.Array
public import proofs.«01_k».proof.Proof.Qkv.Ref
public import proofs.«01_k».proof.Proof.Na.Array
public import proofs.«01_k».proof.Proof.Na.Ref
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.DilKernel4

/-- The kernel and the reference of the attention with dilation 4 end with the same two arrays. -/
theorem algebraic4 : Cert.algebraic_DilKernel4Ideal_DilReference4Ideal_pre_finite := by
  intro m g m' g' hpre hagree
  refine ⟨Cert.Dil.oArr m, Cert.Dil.lseArr m, ?_, ?_⟩
  · refine (θ_run _ _ _).mono (fun r h c => ?_) (Cert.DilKernel4Ideal.Value.run_blocks m g)
    exact ⟨(h c).1.trans (Cert.Dil.final4 m c), (h c).2.1.trans (Cert.Dil.final5 m c), (h c).2.2⟩
  · refine (θ_run _ _ _).mono (fun r h c => ?_) (Cert.DilReference4Ideal.Value.run m' g')
    have hX := Cert.Finite.real _ (hpre c)
    refine ⟨(h c).1.trans ?_, (h c).2.1.trans ?_, (h c).2.2⟩
    · rw [Cert.Dil.Ref.res_eq, hagree c]
      exact Cert.Dil.Ref.out_arr _ hX
    · rw [hagree c]
      exact Cert.Dil.Ref.lse_arr _

/-- The reference's frame, for dilation 4. -/
theorem frameR4 (m : (ℓ : Loc Cert.DilReference4Ideal.nD Cert.DilReference4Ideal.τ Cert.DilReference4Ideal.sig) → Buf (Elt Ideal) ℓ)
    (g : Dev Cert.DilReference4Ideal.nD → PrngReg) :
    θ_run (Cert.DilReference4Ideal.defs (F := Ideal)) (onTc (τ := Cert.DilReference4Ideal.τ) (Cert.DilReference4Ideal.main (F := Ideal))) ⟨m, fun _ => 0, g⟩ (fun r => (∀ c : Dev Cert.DilReference4Ideal.nD,
      r.2.mem ((c.tc : Thread Cert.DilReference4Ideal.nD Cert.DilReference4Ideal.τ).loc Cert.DilReference4Ideal.main_arg0) = m ((c.tc : Thread Cert.DilReference4Ideal.nD Cert.DilReference4Ideal.τ).loc Cert.DilReference4Ideal.main_arg0))
      ∧ r.2.sem = fun _ => 0) :=
  (θ_run _ _ _).mono (fun r h => ⟨fun c => (h c).2.2, sem_eq_zero_of_no_sems (by decide) r.2⟩)
    (Cert.DilReference4Ideal.Value.run m g)

/-- The kernel and the reference of the attention with dilation 1 end with the same two arrays. -/
theorem algebraic1 : Cert.algebraic_DilKernel1Ideal_DilReference1Ideal_pre_finite := by
  intro m g m' g' hpre hagree
  refine ⟨Cert.Dil.D1.oArr m, Cert.Dil.D1.lseArr m, ?_, ?_⟩
  · refine (θ_run _ _ _).mono (fun r h c => ?_) (Cert.DilKernel1Ideal.Value.run_blocks m g)
    exact ⟨(h c).1.trans (Cert.Dil.D1.final4 m c), (h c).2.1.trans (Cert.Dil.D1.final5 m c), (h c).2.2⟩
  · refine (θ_run _ _ _).mono (fun r h c => ?_) (Cert.DilReference1Ideal.Value.run m' g')
    have hX := Cert.Finite.real _ (hpre c)
    refine ⟨(h c).1.trans ?_, (h c).2.1.trans ?_, (h c).2.2⟩
    · rw [Cert.Dil.Ref1.res_eq, hagree c]
      exact Cert.Dil.Ref1.out_arr _ hX
    · rw [hagree c]
      exact Cert.Dil.Ref1.lse_arr _

/-- The reference's frame, for dilation 1. -/
theorem frameR1 (m : (ℓ : Loc Cert.DilReference1Ideal.nD Cert.DilReference1Ideal.τ Cert.DilReference1Ideal.sig) → Buf (Elt Ideal) ℓ)
    (g : Dev Cert.DilReference1Ideal.nD → PrngReg) :
    θ_run (Cert.DilReference1Ideal.defs (F := Ideal)) (onTc (τ := Cert.DilReference1Ideal.τ) (Cert.DilReference1Ideal.main (F := Ideal))) ⟨m, fun _ => 0, g⟩ (fun r => (∀ c : Dev Cert.DilReference1Ideal.nD,
      r.2.mem ((c.tc : Thread Cert.DilReference1Ideal.nD Cert.DilReference1Ideal.τ).loc Cert.DilReference1Ideal.main_arg0) = m ((c.tc : Thread Cert.DilReference1Ideal.nD Cert.DilReference1Ideal.τ).loc Cert.DilReference1Ideal.main_arg0))
      ∧ r.2.sem = fun _ => 0) :=
  (θ_run _ _ _).mono (fun r h => ⟨fun c => (h c).2.2, sem_eq_zero_of_no_sems (by decide) r.2⟩)
    (Cert.DilReference1Ideal.Value.run m g)

/-- The kernel and the reference of the attention with dilation 16 end with the same two arrays. -/
theorem algebraic16 : Cert.algebraic_DilKernel16Ideal_DilReference16Ideal_pre_finite := by
  intro m g m' g' hpre hagree
  refine ⟨Cert.Dil.D16.oArr m, Cert.Dil.D16.lseArr m, ?_, ?_⟩
  · refine (θ_run _ _ _).mono (fun r h c => ?_) (Cert.DilKernel16Ideal.Value.run_blocks m g)
    exact ⟨(h c).1.trans (Cert.Dil.D16.final4 m c), (h c).2.1.trans (Cert.Dil.D16.final5 m c), (h c).2.2⟩
  · refine (θ_run _ _ _).mono (fun r h c => ?_) (Cert.DilReference16Ideal.Value.run m' g')
    have hX := Cert.Finite.real _ (hpre c)
    refine ⟨(h c).1.trans ?_, (h c).2.1.trans ?_, (h c).2.2⟩
    · rw [Cert.Dil.Ref16.res_eq, hagree c]
      exact Cert.Dil.Ref16.out_arr _ hX
    · rw [hagree c]
      exact Cert.Dil.Ref16.lse_arr _

/-- The reference's frame, for dilation 16. -/
theorem frameR16 (m : (ℓ : Loc Cert.DilReference16Ideal.nD Cert.DilReference16Ideal.τ Cert.DilReference16Ideal.sig) → Buf (Elt Ideal) ℓ)
    (g : Dev Cert.DilReference16Ideal.nD → PrngReg) :
    θ_run (Cert.DilReference16Ideal.defs (F := Ideal)) (onTc (τ := Cert.DilReference16Ideal.τ) (Cert.DilReference16Ideal.main (F := Ideal))) ⟨m, fun _ => 0, g⟩ (fun r => (∀ c : Dev Cert.DilReference16Ideal.nD,
      r.2.mem ((c.tc : Thread Cert.DilReference16Ideal.nD Cert.DilReference16Ideal.τ).loc Cert.DilReference16Ideal.main_arg0) = m ((c.tc : Thread Cert.DilReference16Ideal.nD Cert.DilReference16Ideal.τ).loc Cert.DilReference16Ideal.main_arg0))
      ∧ r.2.sem = fun _ => 0) :=
  (θ_run _ _ _).mono (fun r h => ⟨fun c => (h c).2.2, sem_eq_zero_of_no_sems (by decide) r.2⟩)
    (Cert.DilReference16Ideal.Value.run m g)

/-- The kernel and the reference of the block after the attention end with the same array. -/
theorem algebraicPost : Cert.algebraic_PostKernelIdeal_PostReferenceIdeal_pre_finite_lse := by
  intro m g m' g' hpre hagree
  refine ⟨Cert.Post.postArr m, ?_, ?_⟩
  · refine (θ_run _ _ _).mono (fun r h c => ?_) (Cert.PostKernelIdeal.Value.run_blocks m g)
    exact ⟨(h c).1.trans (Cert.Post.final21 m c), (h c).2⟩
  · refine (θ_run _ _ _).mono (fun r h c => ?_) (Cert.PostReferenceIdeal.Value.run m' g')
    obtain ⟨e0, e1, e2, e3, e4, e5, e6, e7, e8, e9, e10, e11, e12, e13, e14, e15, e16, e17, e18, e19, e20⟩ := hagree c
    have hw : Cert.Post.Ref.weightsV (StableHlo.launchContents m' c) = Cert.Post.weightsM m c := by
      rw [Cert.Post.weightsM, ← e9, ← e10, ← e11, ← e12, ← e13, ← e14, ← e15, ← e16, ← e17, ← e18, ← e19, ← e20]
    have ha : ∀ r, Cert.Post.Ref.actsV (StableHlo.launchContents m' c) r = Cert.Post.actsM m c r := fun r => by
      rw [Cert.Post.actsM, ← e0, ← e1, ← e2, ← e3, ← e4, ← e5, ← e6, ← e7, ← e8]
    have hr : ∀ r, Cert.Post.Ref.RealRow (StableHlo.launchContents m' c) r := fun r k => by
      rw [ha]
      exact Cert.Finite.real_lse _ _ _ _ _ _ _ _ _ _ _ _ _ _ _ _ _ _ _ _ _ (hpre c) r k
    refine ⟨(h c).1.trans ((Cert.Post.Ref.result_arr (StableHlo.launchContents m' c) hr).trans ?_), (h c).2⟩
    funext i
    exact (congrFun (congrArg₂ Cert.Post.post hw (ha (i 0))) (i 1))

/-- The reference's frame, for the block after the attention. -/
theorem frameRPost : Cert.quiescent_PostReferenceIdeal := fun m g _ =>
  (θ_run _ _ _).mono (fun r h => ⟨fun c => (h c).2, sem_eq_zero_of_no_sems (by decide) r.2⟩)
    (Cert.PostReferenceIdeal.Value.run m g)

/-- The kernel and the reference of the projection end with the same array. -/
theorem algebraicQkv : Cert.algebraic_QkvKernelIdeal_QkvReferenceIdeal := by
  intro m g m' g' _ hagree
  refine ⟨Cert.Qkv.qkvArr m, ?_, ?_⟩
  · refine (θ_run _ _ _).mono (fun r h c => ?_) (Cert.QkvKernelIdeal.Value.run_blocks m g)
    exact ⟨(h c).1.trans (Cert.Qkv.final5 m c), (h c).2⟩
  · refine (θ_run _ _ _).mono (fun r h c => ?_) (Cert.QkvReferenceIdeal.Value.run m' g')
    obtain ⟨e0, e1, e2, e3, e4⟩ := hagree c
    refine ⟨(h c).1.trans ((Cert.Qkv.Ref.result_arr m' c).trans ?_), (h c).2⟩
    rw [e0, e1, e2, e3, e4]
    rfl

/-- The reference's frame, for the projection. -/
theorem frameRQkv : Cert.quiescent_QkvReferenceIdeal := fun m g _ =>
  (θ_run _ _ _).mono (fun r h => ⟨fun c => (h c).2, sem_eq_zero_of_no_sems (by decide) r.2⟩)
    (Cert.QkvReferenceIdeal.Value.run m g)

/-- The kernel and the reference of the neighbourhood attention end with the same array. -/
theorem algebraicNa : Cert.algebraic_NaKernelIdeal_NaReferenceIdeal_pre_finite_na := by
  intro m g m' g' hpre hagree
  refine ⟨Cert.Na.oArr m, ?_, ?_⟩
  · refine (θ_run _ _ _).mono (fun r h c => ?_) (Cert.NaKernelIdeal.Value.run_blocks m g)
    exact ⟨(h c).1.trans (Cert.Na.final4 m c), (h c).2⟩
  · refine (θ_run _ _ _).mono (fun r h c => ?_) (Cert.NaReferenceIdeal.Value.run m' g')
    obtain ⟨hX, hR⟩ := Cert.Finite.real_na _ _ (hpre c)
    obtain ⟨e0, e1⟩ := hagree c
    refine ⟨(h c).1.trans ?_, (h c).2⟩
    rw [Cert.Na.Ref.res_eq, e0, e1]
    exact Cert.Na.Ref.out_arr _ _ hX hR

/-- The reference's frame, for the neighbourhood attention. -/
theorem frameRNa : Cert.quiescent_NaReferenceIdeal := fun m g _ =>
  (θ_run _ _ _).mono (fun r h => ⟨fun c => (h c).2, sem_eq_zero_of_no_sems (by decide) r.2⟩)
    (Cert.NaReferenceIdeal.Value.run m g)

theorem claim : Cert.Claim :=
  ⟨Cert.DilKernel4.Gen.facts, Cert.DilKernel4Ideal.Gen.facts, Cert.DilReference4Ideal.Gen.facts,
    Cert.PostKernel.Gen.facts, Cert.PostKernelIdeal.Gen.facts, Cert.PostReferenceIdeal.Gen.facts,
    Cert.QkvKernel.Gen.facts, Cert.QkvKernelIdeal.Gen.facts, Cert.QkvReferenceIdeal.Gen.facts,
    Cert.DilKernel1.Gen.facts, Cert.DilKernel1Ideal.Gen.facts, Cert.DilReference1Ideal.Gen.facts,
    Cert.DilKernel16.Gen.facts, Cert.DilKernel16Ideal.Gen.facts, Cert.DilReference16Ideal.Gen.facts,
    Cert.NaKernel.Gen.facts, Cert.NaKernelIdeal.Gen.facts, Cert.NaReferenceIdeal.Gen.facts,
    Cert.Pre_finite.Gen.facts, Cert.Pre_finite_lse.Gen.facts, Cert.Pre_finite_na.Gen.facts,
    fun m g _ => Cert.DilKernel4.Gen.frame m g, fun m g _ => Cert.DilKernel4Ideal.Gen.frame m g,
    fun m g _ => Cert.DilKernel4Ideal.Gen.frame m g, fun m g _ => frameR4 m g, fun m g _ => frameR4 m g,
    fun m g _ => Cert.PostKernel.Gen.frame m g, fun m g _ => Cert.PostKernelIdeal.Gen.frame m g,
    fun m g _ => Cert.PostKernelIdeal.Gen.frame m g, frameRPost, fun m g _ => frameRPost m g trivial,
    fun m g _ => Cert.QkvKernel.Gen.frame m g, fun m g _ => Cert.QkvKernelIdeal.Gen.frame m g, frameRQkv,
    fun m g _ => Cert.DilKernel1.Gen.frame m g, fun m g _ => Cert.DilKernel1Ideal.Gen.frame m g,
    fun m g _ => Cert.DilKernel1Ideal.Gen.frame m g, fun m g _ => frameR1 m g, fun m g _ => frameR1 m g,
    fun m g _ => Cert.DilKernel16.Gen.frame m g, fun m g _ => Cert.DilKernel16Ideal.Gen.frame m g,
    fun m g _ => Cert.DilKernel16Ideal.Gen.frame m g, fun m g _ => frameR16 m g, fun m g _ => frameR16 m g,
    fun m g _ => Cert.NaKernel.Gen.frame m g, fun m g _ => Cert.NaKernelIdeal.Gen.frame m g,
    fun m g _ => Cert.NaKernelIdeal.Gen.frame m g, frameRNa, fun m g _ => frameRNa m g trivial,
    trivial, algebraic4, trivial, algebraicPost, trivial, algebraicQkv, trivial, algebraic1, trivial, algebraic16,
    trivial, algebraicNa⟩

end Cert.Proof

end
